-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_gates : Cert.Pre_finite_gates.Facts) (hPre_finite_inputs : Cert.Pre_finite_inputs.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal (hKernel3Ideal := hKernel3Ideal) (hReference3Ideal := hReference3Ideal)
-- ==== Pre_finite_gates.lean ====
abbrev S4x4096x14336 : Shape := ⟨3, ![4, 4096, 14336]⟩
abbrev S4x4096x128 : Shape := ⟨3, ![4, 4096, 128]⟩
abbrev S1x2x16x1024 : Shape := ⟨4, ![1, 2, 16, 1024]⟩
abbrev S1x2x1024 : Shape := ⟨3, ![1, 2, 1024]⟩
abbrev S2x4x4x256x512 : Shape := ⟨5, ![2, 4, 4, 256, 512]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S1x2x16x1024 : S_.BroadcastsInDim S1x2x16x1024 (![] : Fin 0 → Fin S1x2x16x1024.rank)
  reducesTo_S1x2x16x1024_S_d0_1_2_3 : S1x2x16x1024.ReducesTo [0, 1, 2, 3] S_
  bcast_S_S1x2x1024 : S_.BroadcastsInDim S1x2x1024 (![] : Fin 0 → Fin S1x2x1024.rank)
  reducesTo_S1x2x1024_S_d0_1_2 : S1x2x1024.ReducesTo [0, 1, 2] S_

variable [Facts]

def fn {F : FTy → Type} [FloatOps F] (main_arg0 : FVec F S4x4096x14336 .bf16) (main_arg1 : FVec F S4x4096x128 .f32) (main_arg2 : FVec F S1x2x16x1024 .f32) (main_arg3 : FVec F S1x2x1024 .f32) (main_arg4 : FVec F S2x4x4x256x512 .f32) : IVec S_ 1 :=
  let main_v0 : FVec F S4x4096x128 .f32 := Host.absf main_arg1
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S1x2x16x1024 .f32 := Host.absf main_arg2
  let main_cst_0 : FVec F S_ .f32 := constant S_ .f32 0x7F800000#32
  let main_v5 : FVec F S1x2x16x1024 .f32 := broadcastInDim S1x2x16x1024 ![] bcast_S_S1x2x16x1024 main_cst_0
  let main_v6 : IVec S1x2x16x1024 1 := cmpf .olt main_v4 main_v5
  let main_c_1 : IVec S_ 1 := constantI S_ 1 1#1
  let main_v7 : IVec S_ 1 := (fun x v => Host.reduce IntOp.andi x v reducesTo_S1x2x16x1024_S_d0_1_2_3 h_S_) main_v6 main_c_1
  let main_v8 : IVec S_ 1 := andi main_v3 main_v7
  let main_v9 : FVec F S1x2x1024 .f32 := Host.absf main_arg3
  let main_cst_2 : FVec F S_ .f32 := constant S_ .f32 0x7F800000#32
  let main_v10 : FVec F S1x2x1024 .f32 := broadcastInDim S1x2x1024 ![] bcast_S_S1x2x1024 main_cst_2
  let main_v11 : IVec S1x2x1024 1 := cmpf .olt main_v9 main_v10
  let main_c_3 : IVec S_ 1 := constantI S_ 1 1#1
  let main_v12 : IVec S_ 1 := (fun x v => Host.reduce IntOp.andi x v reducesTo_S1x2x1024_S_d0_1_2 h_S_) main_v11 main_c_3
  let main_v13 : IVec S_ 1 := andi main_v8 main_v12
  main_v13
-- ==== Pre_finite_inputs.lean ====
abbrev S4x4096x2048 : Shape := ⟨3, ![4, 4096, 2048]⟩
abbrev S8x1x6144 : Shape := ⟨3, ![8, 1, 6144]⟩
abbrev S1x2048 : Shape := ⟨2, ![1, 2048]⟩
abbrev S1x2048x14368 : Shape := ⟨3, ![1, 2048, 14368]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S8x1x6144 : S_.BroadcastsInDim S8x1x6144 (![] : Fin 0 → Fin S8x1x6144.rank)
  reducesTo_S8x1x6144_S_d0_1_2 : S8x1x6144.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1x2048x14368 : S_.BroadcastsInDim S1x2048x14368 (![] : Fin 0 → Fin S1x2048x14368.rank)
  reducesTo_S1x2048x14368_S_d0_1_2 : S1x2048x14368.ReducesTo [0, 1, 2] S_

variable [Facts]

def fn_part1 {F : FTy → Type} [FloatOps F] (main_v13 : IVec S_ 1) (main_v16 : IVec S1x2048x14368 1) : IVec S_ 1 :=
  let main_c_5 : IVec S_ 1 := constantI S_ 1 1#1
  let main_v17 : IVec S_ 1 := (fun x v => Host.reduce IntOp.andi x v reducesTo_S1x2048x14368_S_d0_1_2 h_S_) main_v16 main_c_5
  let main_v18 : IVec S_ 1 := andi main_v13 main_v17
  main_v18

def fn {F : FTy → Type} [FloatOps F] (main_arg0 : FVec F S4x4096x2048 .f32) (main_arg1 : FVec F S8x1x6144 .f32) (main_arg2 : FVec F S1x2048 .f32) (main_arg3 : FVec F S1x2048x14368 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S8x1x6144 .f32 := Host.absf main_arg1
  let main_cst_0 : FVec F S_ .f32 := constant S_ .f32 0x7F800000#32
  let main_v5 : FVec F S8x1x6144 .f32 := broadcastInDim S8x1x6144 ![] bcast_S_S8x1x6144 main_cst_0
  let main_v6 : IVec S8x1x6144 1 := cmpf .olt main_v4 main_v5
  let main_c_1 : IVec S_ 1 := constantI S_ 1 1#1
  let main_v7 : IVec S_ 1 := (fun x v => Host.reduce IntOp.andi x v reducesTo_S8x1x6144_S_d0_1_2 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048x14368 .f32 := Host.absf main_arg3
  let main_cst_4 : FVec F S_ .f32 := constant S_ .f32 0x7F800000#32
  let main_v15 : FVec F S1x2048x14368 .f32 := broadcastInDim S1x2048x14368 ![] bcast_S_S1x2048x14368 main_cst_4
  let main_v16 : IVec S1x2048x14368 1 := cmpf .olt main_v14 main_v15
  fn_part1 (F := F) main_v13 main_v16
-- ==== Kernel.lean ====
abbrev S4x4096x14336 : Shape := ⟨3, ![4, 4096, 14336]⟩
abbrev S4x4096x128 : Shape := ⟨3, ![4, 4096, 128]⟩
abbrev S1x2x16x1024 : Shape := ⟨4, ![1, 2, 16, 1024]⟩
abbrev S1x2x1024 : Shape := ⟨3, ![1, 2, 1024]⟩
abbrev S2x4x4x256x512 : Shape := ⟨5, ![2, 4, 4, 256, 512]⟩
abbrev S_ : Shape := ⟨0, ![]⟩
abbrev S2x128x1024 : Shape := ⟨3, ![2, 128, 1024]⟩
abbrev S1x1x16x1024 : Shape := ⟨4, ![1, 1, 16, 1024]⟩
abbrev S16x1024 : Shape := ⟨2, ![16, 1024]⟩
abbrev S1 : Shape := ⟨1, ![1]⟩
abbrev S2 : Shape := ⟨1, ![2]⟩
abbrev S2x1024 : Shape := ⟨2, ![2, 1024]⟩
abbrev S2x1x1024 : Shape := ⟨3, ![2, 1, 1024]⟩
abbrev S2x4x4096x2048 : Shape := ⟨4, ![2, 4, 4096, 2048]⟩
abbrev S1x512x128 : Shape := ⟨3, ![1, 512, 128]⟩
abbrev S1x512x256 : Shape := ⟨3, ![1, 512, 256]⟩
abbrev S1x512x512 : Shape := ⟨3, ![1, 512, 512]⟩
abbrev S1x128x256 : Shape := ⟨3, ![1, 128, 256]⟩
abbrev S1x1x256 : Shape := ⟨3, ![1, 1, 256]⟩
abbrev S1x1x1x256x512 : Shape := ⟨5, ![1, 1, 1, 256, 512]⟩
abbrev S1x1x512x512 : Shape := ⟨4, ![1, 1, 512, 512]⟩
abbrev S256x512 : Shape := ⟨2, ![256, 512]⟩
abbrev S64x64 : Shape := ⟨2, ![64, 64]⟩
abbrev S64x128 : Shape := ⟨2, ![64, 128]⟩
abbrev S128x256 : Shape := ⟨2, ![128, 256]⟩
abbrev S1x256 : Shape := ⟨2, ![1, 256]⟩
abbrev S1x64x128 : Shape := ⟨3, ![1, 64, 128]⟩
abbrev S64x256 : Shape := ⟨2, ![64, 256]⟩
abbrev S256x128 : Shape := ⟨2, ![256, 128]⟩
abbrev S1x64x256 : Shape := ⟨3, ![1, 64, 256]⟩
abbrev S1x64x512 : Shape := ⟨3, ![1, 64, 512]⟩
abbrev S64x512 : Shape := ⟨2, ![64, 512]⟩
abbrev S1x1x64x512 : Shape := ⟨4, ![1, 1, 64, 512]⟩

abbrev nBuf : Space → Nat
  | .hbm => 27
  | .vmem => 19
  | .smem => 0
  | _ => 0

abbrev bufTy : (tb : Table) → Fin (tcTables nBuf tb) → BufTy
  | .hbm, ⟨0, _⟩ => ⟨S4x4096x14336, .bf16⟩
  | .hbm, ⟨1, _⟩ => ⟨S4x4096x128, .f32⟩
  | .hbm, ⟨2, _⟩ => ⟨S1x2x16x1024, .f32⟩
  | .hbm, ⟨3, _⟩ => ⟨S1x2x1024, .f32⟩
  | .hbm, ⟨4, _⟩ => ⟨S2x4x4x256x512, .f32⟩
  | .hbm, ⟨5, _⟩ => ⟨S_, .f32⟩
  | .hbm, ⟨6, _⟩ => ⟨S2x128x1024, .f32⟩
  | .hbm, ⟨7, _⟩ => ⟨S1x1x16x1024, .f32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S2x128x1024, .f32⟩
  | .hbm, ⟨15, _⟩ => ⟨S1x1x16x1024, .f32⟩
  | .hbm, ⟨16, _⟩ => ⟨S16x1024, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S2x128x1024, .f32⟩
  | .hbm, ⟨23, _⟩ => ⟨S2x1024, .f32⟩
  | .hbm, ⟨24, _⟩ => ⟨S2x1x1024, .f32⟩
  | .hbm, ⟨25, _⟩ => ⟨S2x4x4096x2048, .bf16⟩
  | .hbm, ⟨26, _⟩ => ⟨S2x4x4x256x512, .f32⟩
  | .local _ .vmem, ⟨0, _⟩ => ⟨S1x512x128, .f32⟩
  | .local _ .vmem, ⟨1, _⟩ => ⟨S1x512x128, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x512, .bf16⟩
  | .local _ .vmem, ⟨7, _⟩ => ⟨S1x512x512, .bf16⟩
  | .local _ .vmem, ⟨8, _⟩ => ⟨S1x128x256, .f32⟩
  | .local _ .vmem, ⟨9, _⟩ => ⟨S1x128x256, .f32⟩
  | .local _ .vmem, ⟨10, _⟩ => ⟨S1x1x256, .f32⟩
  | .local _ .vmem, ⟨11, _⟩ => ⟨S1x1x256, .f32⟩
  | .local _ .vmem, ⟨12, _⟩ => ⟨S1x1x1x256x512, .f32⟩
  | .local _ .vmem, ⟨13, _⟩ => ⟨S1x1x1x256x512, .f32⟩
  | .local _ .vmem, ⟨14, _⟩ => ⟨S1x1x512x512, .bf16⟩
  | .local _ .vmem, ⟨15, _⟩ => ⟨S1x1x512x512, .bf16⟩
  | .local _ .vmem, ⟨16, _⟩ => ⟨S1x1x1x256x512, .f32⟩
  | .local _ .vmem, ⟨17, _⟩ => ⟨S1x1x1x256x512, .f32⟩
  | .local _ .vmem, ⟨18, _⟩ => ⟨S256x512, .f32⟩
  | _, _ => ⟨S4x4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![2, 4, 4, 8], ![false, false, false, false]⟩

@[reducible] def k0_t1_loop : Scf.Loop 32 :=
  let c0_i32_9 : BitVec 32 := 0#32
  let c8_i32 : BitVec 32 := 8#32
  let v21 : BitVec 32 := Scalar.addi c0_i32_9 c8_i32
  let c1_i32_10 : BitVec 32 := 1#32
  ⟨c0_i32_9, v21, c1_i32_10⟩
def k0_mult1 (i : grid0.Coords) (k0_t1 : Fin k0_t1_loop.trips) : BitVec 32 :=
  let arg0 : BitVec 32 := BitVec.ofNat 32 (i 0).val
  let c0_i32_13 : BitVec 32 := 0#32
  let v25 : BitVec 1 := Scalar.cmpi .eq arg0 c0_i32_13
  let c0_i32_9 : BitVec 32 := 0#32
  let c1_i32_10 : BitVec 32 := 1#32
  let arg14 : BitVec 32 := Scf.iv c0_i32_9 c1_i32_10 k0_t1
  let c7_i32_14 : BitVec 32 := 7#32
  let v26 : BitVec 32 := Scalar.subi c7_i32_14 arg14
  let v27 : BitVec 32 := Scalar.select v25 arg14 v26
  let c64_i32 : BitVec 32 := 64#32
  let v28 : BitVec 32 := Scalar.muli v27 c64_i32
  v28
def k0_off1 (i : grid0.Coords) (k0_t1 : Fin k0_t1_loop.trips) : Fin 3 → Nat :=
  let c0_15 : Index := 0#32
  let arg0 : BitVec 32 := BitVec.ofNat 32 (i 0).val
  let c0_i32_13 : BitVec 32 := 0#32
  let v25 : BitVec 1 := Scalar.cmpi .eq arg0 c0_i32_13
  let c0_i32_9 : BitVec 32 := 0#32
  let c1_i32_10 : BitVec 32 := 1#32
  let arg14 : BitVec 32 := Scf.iv c0_i32_9 c1_i32_10 k0_t1
  let c7_i32_14 : BitVec 32 := 7#32
  let v26 : BitVec 32 := Scalar.subi c7_i32_14 arg14
  let v27 : BitVec 32 := Scalar.select v25 arg14 v26
  let c64_i32 : BitVec 32 := 64#32
  let v28 : BitVec 32 := Scalar.muli v27 c64_i32
  let v29 : BitVec 32 := v28
  let v30 : Index := Scalar.indexCast v29
  let c0_16 : Index := 0#32
  ![0, v30.toNat, 0]
def k0_off2 (i : grid0.Coords) (k0_t1 : Fin k0_t1_loop.trips) : Fin 3 → Nat :=
  let c0_28 : Index := 0#32
  let arg0 : BitVec 32 := BitVec.ofNat 32 (i 0).val
  let c0_i32_13 : BitVec 32 := 0#32
  let v25 : BitVec 1 := Scalar.cmpi .eq arg0 c0_i32_13
  let c0_i32_9 : BitVec 32 := 0#32
  let c1_i32_10 : BitVec 32 := 1#32
  let arg14 : BitVec 32 := Scf.iv c0_i32_9 c1_i32_10 k0_t1
  let c7_i32_14 : BitVec 32 := 7#32
  let v26 : BitVec 32 := Scalar.subi c7_i32_14 arg14
  let v27 : BitVec 32 := Scalar.select v25 arg14 v26
  let c64_i32 : BitVec 32 := 64#32
  let v28 : BitVec 32 := Scalar.muli v27 c64_i32
  let v29 : BitVec 32 := v28
  let v74 : Index := Scalar.indexCast v29
  let c0_29 : Index := 0#32
  ![0, v74.toNat, 0]
def k0_off3 (i : grid0.Coords) (k0_t1 : Fin k0_t1_loop.trips) : Fin 3 → Nat :=
  let c0_33 : Index := 0#32
  let arg0 : BitVec 32 := BitVec.ofNat 32 (i 0).val
  let c0_i32_13 : BitVec 32 := 0#32
  let v25 : BitVec 1 := Scalar.cmpi .eq arg0 c0_i32_13
  let c0_i32_9 : BitVec 32 := 0#32
  let c1_i32_10 : BitVec 32 := 1#32
  let arg14 : BitVec 32 := Scf.iv c0_i32_9 c1_i32_10 k0_t1
  let c7_i32_14 : BitVec 32 := 7#32
  let v26 : BitVec 32 := Scalar.subi c7_i32_14 arg14
  let v27 : BitVec 32 := Scalar.select v25 arg14 v26
  let c64_i32 : BitVec 32 := 64#32
  let v28 : BitVec 32 := Scalar.muli v27 c64_i32
  let v29 : BitVec 32 := v28
  let v84 : Index := Scalar.indexCast v29
  let c0_34 : Index := 0#32
  ![0, v84.toNat, 0]
def k0_off4 (i : grid0.Coords) (k0_t1 : Fin k0_t1_loop.trips) : Fin 4 → Nat :=
  let c0_42 : Index := 0#32
  let c0_43 : Index := 0#32
  let arg0 : BitVec 32 := BitVec.ofNat 32 (i 0).val
  let c0_i32_13 : BitVec 32 := 0#32
  let v25 : BitVec 1 := Scalar.cmpi .eq arg0 c0_i32_13
  let c0_i32_9 : BitVec 32 := 0#32
  let c1_i32_10 : BitVec 32 := 1#32
  let arg14 : BitVec 32 := Scf.iv c0_i32_9 c1_i32_10 k0_t1
  let c7_i32_14 : BitVec 32 := 7#32
  let v26 : BitVec 32 := Scalar.subi c7_i32_14 arg14
  let v27 : BitVec 32 := Scalar.select v25 arg14 v26
  let c64_i32 : BitVec 32 := 64#32
  let v28 : BitVec 32 := Scalar.muli v27 c64_i32
  let v29 : BitVec 32 := v28
  let v110 : Index := Scalar.indexCast v29
  let c0_44 : Index := 0#32
  ![0, 0, v110.toNat, 0]
def k0_cond2 (i : grid0.Coords) : BitVec 1 :=
  let arg3 : BitVec 32 := BitVec.ofNat 32 (i 3).val
  let c7_i32 : BitVec 32 := 7#32
  let v22 : BitVec 1 := Scalar.cmpi .eq arg3 c7_i32
  let v23 : BitVec 32 := Scalar.extui v22
  let c0_i32_12 : BitVec 32 := 0#32
  let v24 : BitVec 1 := Scalar.cmpi .ne v23 c0_i32_12
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c7_i32 : BitVec 32 := 7#32
  let v1 : BitVec 32 := Scalar.subi c7_i32 v0
  let v2 : BitVec 32 := Scalar.muli arg0 v1
  let v3 : BitVec 32 := Scalar.addi arg3 v2
  let c0_i32 : BitVec 32 := 0#32
  let c0_i32_0 : BitVec 32 := 0#32
  ![arg1.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c7_i32 : BitVec 32 := 7#32
  let v1 : BitVec 32 := Scalar.subi c7_i32 v0
  let v2 : BitVec 32 := Scalar.muli arg0 v1
  let v3 : BitVec 32 := Scalar.addi arg3 v2
  let c0_i32 : BitVec 32 := 0#32
  ![arg1.toNat, v3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c7_i32 : BitVec 32 := 7#32
  let v1 : BitVec 32 := Scalar.subi c7_i32 v0
  let v2 : BitVec 32 := Scalar.muli arg0 v1
  let v3 : BitVec 32 := Scalar.addi arg3 v2
  let c4_i32 : BitVec 32 := 4#32
  let v4 : BitVec 32 := Scalar.addi c4_i32 arg2
  let c0_i32 : BitVec 32 := 0#32
  ![arg1.toNat, v3.toNat, v4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c7_i32 : BitVec 32 := 7#32
  let v1 : BitVec 32 := Scalar.subi c7_i32 v0
  let v2 : BitVec 32 := Scalar.muli arg0 v1
  let v3 : BitVec 32 := Scalar.addi arg3 v2
  let c4_i32 : BitVec 32 := 4#32
  let v4 : BitVec 32 := Scalar.addi c4_i32 arg2
  let c0_i32 : BitVec 32 := 0#32
  ![arg1.toNat, v3.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c7_i32 : BitVec 32 := 7#32
  let v1 : BitVec 32 := Scalar.subi c7_i32 v0
  let v2 : BitVec 32 := Scalar.muli arg0 v1
  let v3 : BitVec 32 := Scalar.addi arg3 v2
  let c0_i32 : BitVec 32 := 0#32
  ![arg0.toNat, arg1.toNat, v3.toNat, arg2.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true, false]

abbrev stage0_6 : Fin 2 → Memref sig .tc .vmem S1x1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

abbrev stage0_7 : Fin 2 → Memref sig .tc .vmem S1x1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]

abbrev stage0_8 : Fin 2 → Memref sig .tc .vmem S1x1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]
-- ==== ReferenceIdeal.lean ====
abbrev S4x4096x14336 : Shape := ⟨3, ![4, 4096, 14336]⟩
abbrev S4x4096x128 : Shape := ⟨3, ![4, 4096, 128]⟩
abbrev S1x2x16x1024 : Shape := ⟨4, ![1, 2, 16, 1024]⟩
abbrev S1x2x1024 : Shape := ⟨3, ![1, 2, 1024]⟩
abbrev S2x4x4x256x512 : Shape := ⟨5, ![2, 4, 4, 256, 512]⟩
abbrev S2x16x1024 : Shape := ⟨3, ![2, 16, 1024]⟩
abbrev S2x1024 : Shape := ⟨2, ![2, 1024]⟩
abbrev S4x4096x1024 : Shape := ⟨3, ![4, 4096, 1024]⟩
abbrev S4x4096x4x256 : Shape := ⟨4, ![4, 4096, 4, 256]⟩
abbrev S4x4x4096x256 : Shape := ⟨4, ![4, 4, 4096, 256]⟩
abbrev S_ : Shape := ⟨0, ![]⟩
abbrev S4x4096x2048 : Shape := ⟨3, ![4, 4096, 2048]⟩
abbrev S4x4096x4x512 : Shape := ⟨4, ![4, 4096, 4, 512]⟩
abbrev S4x4x4096x512 : Shape := ⟨4, ![4, 4, 4096, 512]⟩
abbrev S4x4096x16 : Shape := ⟨3, ![4, 4096, 16]⟩
abbrev S1x16x1024 : Shape := ⟨3, ![1, 16, 1024]⟩
abbrev S16x1024 : Shape := ⟨2, ![16, 1024]⟩
abbrev S1x1024 : Shape := ⟨2, ![1, 1024]⟩
abbrev S1024 : Shape := ⟨1, ![1024]⟩
abbrev S1x1x1024 : Shape := ⟨3, ![1, 1, 1024]⟩
abbrev S8x4x4096x256 : Shape := ⟨4, ![8, 4, 4096, 256]⟩
abbrev S8x4x4096x512 : Shape := ⟨4, ![8, 4, 4096, 512]⟩
abbrev S8x4x256x512 : Shape := ⟨4, ![8, 4, 256, 512]⟩
abbrev S8x4x64x64x256 : Shape := ⟨5, ![8, 4, 64, 64, 256]⟩
abbrev S8x4x64x64x512 : Shape := ⟨5, ![8, 4, 64, 64, 512]⟩
abbrev S8x4x64x1x256 : Shape := ⟨5, ![8, 4, 64, 1, 256]⟩
abbrev S64x64 : Shape := ⟨2, ![64, 64]⟩
abbrev S8x4x64x64x64 : Shape := ⟨5, ![8, 4, 64, 64, 64]⟩
abbrev S64x8x4x64x256 : Shape := ⟨5, ![64, 8, 4, 64, 256]⟩
abbrev S64x8x4x64x512 : Shape := ⟨5, ![64, 8, 4, 64, 512]⟩
abbrev S8x4x64x256 : Shape := ⟨4, ![8, 4, 64, 256]⟩
abbrev S64x8x4x256 : Shape := ⟨4, ![64, 8, 4, 256]⟩
abbrev S1x8x4x64x256 : Shape := ⟨5, ![1, 8, 4, 64, 256]⟩
abbrev S1x8x4x64x512 : Shape := ⟨5, ![1, 8, 4, 64, 512]⟩
abbrev S8x4x64x512 : Shape := ⟨4, ![8, 4, 64, 512]⟩
abbrev S1x8x4x256 : Shape := ⟨4, ![1, 8, 4, 256]⟩
abbrev S8x4x256 : Shape := ⟨3, ![8, 4, 256]⟩
abbrev S8x4x256x1 : Shape := ⟨4, ![8, 4, 256, 1]⟩
abbrev S8x4096x4x512 : Shape := ⟨4, ![8, 4096, 4, 512]⟩
abbrev S2x4x4096x2048 : Shape := ⟨4, ![2, 4, 4096, 2048]⟩

abbrev nBuf : Space → Nat
  | .hbm => 190
  | .vmem => 0
  | .smem => 0
  | _ => 0

abbrev hbmTy0_0 (i : Nat) : BufTy := match i % 128 with
  | 0 => ⟨S4x4096x14336, .bf16⟩
  | 1 => ⟨S4x4096x128, .f32⟩
  | 2 => ⟨S1x2x16x1024, .f32⟩
  | 3 => ⟨S1x2x1024, .f32⟩
  | 4 => ⟨S2x4x4x256x512, .f32⟩
  | 5 => ⟨S2x16x1024, .f32⟩
  | 6 => ⟨S2x1024, .f32⟩
  | 7 => ⟨S4x4096x14336, .f32⟩
  | 8 => ⟨S4x4096x1024, .f32⟩
  | 9 => ⟨S4x4096x4x256, .f32⟩
  | 10 => ⟨S4x4x4096x256, .f32⟩
  | 11 => ⟨S4x4096x1024, .f32⟩
  | 12 => ⟨S4x4096x4x256, .f32⟩
  | 13 => ⟨S4x4x4096x256, .f32⟩
  | 14 => ⟨S_, .f32⟩
  | 15 => ⟨S4x4x4096x256, .f32⟩
  | 16 => ⟨S4x4x4096x256, .f32⟩
  | 17 => ⟨S4x4096x2048, .f32⟩
  | 18 => ⟨S4x4096x4x512, .f32⟩
  | 19 => ⟨S4x4x4096x512, .f32⟩
  | 20 => ⟨S4x4096x16, .f32⟩
  | 21 => ⟨S4x4096x16, .f32⟩
  | 22 => ⟨S1x16x1024, .f32⟩
  | 23 => ⟨S16x1024, .f32⟩
  | 24 => ⟨S4x4096x1024, .f32⟩
  | 25 => ⟨S1x1024, .f32⟩
  | 26 => ⟨S1024, .f32⟩
  | 27 => ⟨S1x1x1024, .f32⟩
  | 28 => ⟨S4x4096x1024, .f32⟩
  | 29 => ⟨S4x4096x1024, .f32⟩
  | 30 => ⟨S4x4096x1024, .f32⟩
  | 31 => ⟨S_, .f32⟩
  | 32 => ⟨S4x4096x1024, .f32⟩
  | 33 => ⟨S4x4096x1024, .f32⟩
  | 34 => ⟨S4x4096x1024, .f32⟩
  | 35 => ⟨S4x4096x1024, .f32⟩
  | 36 => ⟨S4x4096x1024, .i1⟩
  | 37 => ⟨S4x4096x1024, .f32⟩
  | 38 => ⟨S4x4096x1024, .f32⟩
  | 39 => ⟨S4x4096x1024, .f32⟩
  | 40 => ⟨S4x4096x1024, .f32⟩
  | 41 => ⟨S4x4096x1024, .f32⟩
  | 42 => ⟨S4x4096x1024, .f32⟩
  | 43 => ⟨S4x4096x1024, .f32⟩
  | 44 => ⟨S4x4096x1024, .f32⟩
  | 45 => ⟨S4x4096x1024, .f32⟩
  | 46 => ⟨S_, .f32⟩
  | 47 => ⟨S4x4096x1024, .f32⟩
  | 48 => ⟨S4x4096x1024, .f32⟩
  | 49 => ⟨S4x4096x4x256, .f32⟩
  | 50 => ⟨S4x4x4096x256, .f32⟩
  | 51 => ⟨S1x16x1024, .f32⟩
  | 52 => ⟨S16x1024, .f32⟩
  | 53 => ⟨S4x4096x1024, .f32⟩
  | 54 => ⟨S1x1024, .f32⟩
  | 55 => ⟨S1024, .f32⟩
  | 56 => ⟨S1x1x1024, .f32⟩
  | 57 => ⟨S4x4096x1024, .f32⟩
  | 58 => ⟨S4x4096x1024, .f32⟩
  | 59 => ⟨S4x4096x1024, .f32⟩
  | 60 => ⟨S_, .f32⟩
  | 61 => ⟨S4x4096x1024, .f32⟩
  | 62 => ⟨S4x4096x1024, .f32⟩
  | 63 => ⟨S4x4096x1024, .f32⟩
  | 64 => ⟨S4x4096x1024, .f32⟩
  | 65 => ⟨S4x4096x1024, .i1⟩
  | 66 => ⟨S4x4096x1024, .f32⟩
  | 67 => ⟨S4x4096x1024, .f32⟩
  | 68 => ⟨S4x4096x1024, .f32⟩
  | 69 => ⟨S4x4096x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S4x4096x1024, .f32⟩
  | 75 => ⟨S_, .f32⟩
  | 76 => ⟨S4x4096x1024, .f32⟩
  | 77 => ⟨S4x4096x1024, .f32⟩
  | 78 => ⟨S4x4096x4x256, .f32⟩
  | 79 => ⟨S4x4x4096x256, .f32⟩
  | 80 => ⟨S4x4x4096x256, .f32⟩
  | 81 => ⟨S8x4x4096x256, .f32⟩
  | 82 => ⟨S4x4x4096x256, .f32⟩
  | 83 => ⟨S8x4x4096x256, .f32⟩
  | 84 => ⟨S4x4x4096x512, .f32⟩
  | 85 => ⟨S8x4x4096x512, .f32⟩
  | 86 => ⟨S4x4x4096x256, .f32⟩
  | 87 => ⟨S8x4x4096x256, .f32⟩
  | 88 => ⟨S8x4x256x512, .f32⟩
  | 89 => ⟨S8x4x64x64x256, .f32⟩
  | 90 => ⟨S8x4x64x64x256, .f32⟩
  | 91 => ⟨S8x4x64x64x512, .f32⟩
  | 92 => ⟨S8x4x64x64x256, .f32⟩
  | 93 => ⟨S_, .f32⟩
  | 94 => ⟨S_, .f32⟩
  | 95 => ⟨S8x4x64x64x256, .f32⟩
  | 96 => ⟨S8x4x64x1x256, .f32⟩
  | 97 => ⟨S8x4x64x64x256, .f32⟩
  | 98 => ⟨S8x4x64x64x256, .f32⟩
  | 99 => ⟨S8x4x64x64x256, .f32⟩
  | 100 => ⟨S8x4x64x64x256, .f32⟩
  | 101 => ⟨S8x4x64x64x256, .f32⟩
  | 102 => ⟨S8x4x64x64x256, .f32⟩
  | 103 => ⟨S8x4x64x64x256, .f32⟩
  | 104 => ⟨S8x4x64x64x256, .f32⟩
  | 105 => ⟨S8x4x64x64x256, .f32⟩
  | 106 => ⟨S_, .i1⟩
  | 107 => ⟨S64x64, .i1⟩
  | 108 => ⟨S64x64, .i32⟩
  | 109 => ⟨S_, .i32⟩
  | 110 => ⟨S64x64, .i32⟩
  | 111 => ⟨S64x64, .i32⟩
  | 112 => ⟨S64x64, .i32⟩
  | 113 => ⟨S64x64, .i1⟩
  | 114 => ⟨S_, .i1⟩
  | 115 => ⟨S64x64, .i1⟩
  | 116 => ⟨S64x64, .i1⟩
  | 117 => ⟨S8x4x64x64x64, .f32⟩
  | 118 => ⟨S_, .f32⟩
  | 119 => ⟨S_, .f32⟩
  | 120 => ⟨S8x4x64x64x64, .i1⟩
  | 121 => ⟨S8x4x64x64x64, .f32⟩
  | 122 => ⟨S8x4x64x64x64, .f32⟩
  | 123 => ⟨S8x4x64x64x512, .f32⟩
  | 124 => ⟨S64x8x4x64x256, .f32⟩
  | 125 => ⟨S64x8x4x64x256, .f32⟩
  | 126 => ⟨S64x8x4x64x512, .f32⟩
  | 127 => ⟨S8x4x64x256, .f32⟩
  | _ => ⟨S4x4096x14336, .bf16⟩

abbrev hbmTy0_1 (i : Nat) : BufTy := match i % 128 with
  | 0 => ⟨S8x4x64x256, .f32⟩
  | 1 => ⟨S64x8x4x256, .f32⟩
  | 2 => ⟨S_, .f32⟩
  | 3 => ⟨S64x8x4x64x512, .f32⟩
  | 4 => ⟨S_, .i32⟩
  | 5 => ⟨S64x8x4x64x256, .f32⟩
  | 6 => ⟨S64x8x4x64x256, .f32⟩
  | 7 => ⟨S64x8x4x64x512, .f32⟩
  | 8 => ⟨S64x8x4x256, .f32⟩
  | 9 => ⟨S_, .i32⟩
  | 10 => ⟨S8x4x256x512, .f32⟩
  | 11 => ⟨S64x8x4x64x512, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S1x8x4x64x256, .f32⟩
  | 19 => ⟨S8x4x64x256, .f32⟩
  | 20 => ⟨S_, .i32⟩
  | 21 => ⟨S_, .i32⟩
  | 22 => ⟨S_, .i32⟩
  | 23 => ⟨S_, .i32⟩
  | 24 => ⟨S1x8x4x64x256, .f32⟩
  | 25 => ⟨S8x4x64x256, .f32⟩
  | 26 => ⟨S_, .i32⟩
  | 27 => ⟨S_, .i32⟩
  | 28 => ⟨S_, .i32⟩
  | 29 => ⟨S_, .i32⟩
  | 30 => ⟨S1x8x4x64x512, .f32⟩
  | 31 => ⟨S8x4x64x512, .f32⟩
  | 32 => ⟨S_, .i32⟩
  | 33 => ⟨S_, .i32⟩
  | 34 => ⟨S_, .i32⟩
  | 35 => ⟨S1x8x4x256, .f32⟩
  | 36 => ⟨S8x4x256, .f32⟩
  | 37 => ⟨S8x4x64x512, .f32⟩
  | 38 => ⟨S8x4x256x1, .f32⟩
  | 39 => ⟨S8x4x256x512, .f32⟩
  | 40 => ⟨S8x4x256x512, .f32⟩
  | 41 => ⟨S8x4x256x512, .f32⟩
  | 42 => ⟨S8x4x256x512, .f32⟩
  | 43 => ⟨S1x8x4x64x512, .f32⟩
  | 44 => ⟨S_, .i32⟩
  | 45 => ⟨S_, .i32⟩
  | 46 => ⟨S_, .i32⟩
  | 47 => ⟨S_, .i32⟩
  | 48 => ⟨S64x8x4x64x512, .f32⟩
  | 49 => ⟨S_, .i32⟩
  | 50 => ⟨S_, .i32⟩
  | 51 => ⟨S8x4x64x64x512, .f32⟩
  | 52 => ⟨S8x4x64x64x512, .f32⟩
  | 53 => ⟨S8x4x4096x512, .f32⟩
  | 54 => ⟨S4x4x4096x512, .f32⟩
  | 55 => ⟨S4x4x4096x512, .f32⟩
  | 56 => ⟨S4x4x4096x512, .f32⟩
  | 57 => ⟨S8x4x4096x512, .f32⟩
  | 58 => ⟨S8x4096x4x512, .f32⟩
  | 59 => ⟨S2x4x4096x2048, .f32⟩
  | 60 => ⟨S2x4x4096x2048, .bf16⟩
  | 61 => ⟨S2x4x4x256x512, .f32⟩
  | _ => ⟨S4x4096x14336, .bf16⟩

abbrev hbmTy (i : Nat) : BufTy := match i / 128 with
  | 0 => hbmTy0_0 i
  | 1 => hbmTy0_1 i
  | _ => ⟨S4x4096x14336, .bf16⟩

abbrev bufTy : (tb : Table) → Fin (tcTables nBuf tb) → BufTy
  | .hbm, ⟨i, _⟩ => hbmTy i
  | _, _ => ⟨S4x4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v24 : Ref sig .tc := ⟨.hbm, 45, rfl⟩
abbrev main_cst_0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_v0 : Ref sig .tc := ⟨.hbm, 59, rfl⟩
abbrev main_call1_call0_cst : Ref sig .tc := ⟨.hbm, 60, rfl⟩
abbrev main_call1_call0_v0 : Ref sig .tc := ⟨.hbm, 61, rfl⟩
abbrev main_call1_call0_v1 : Ref sig .tc := ⟨.hbm, 62, rfl⟩
abbrev main_call1_call0_v2 : Ref sig .tc := ⟨.hbm, 63, rfl⟩
abbrev main_call1_call0_v3 : Ref sig .tc := ⟨.hbm, 64, rfl⟩
abbrev main_call1_call0_v4 : Ref sig .tc := ⟨.hbm, 65, rfl⟩
abbrev main_call1_call0_v5 : Ref sig .tc := ⟨.hbm, 66, rfl⟩
abbrev main_call1_call0_v6 : Ref sig .tc := ⟨.hbm, 67, rfl⟩
abbrev main_call1_call0_v7 : Ref sig .tc := ⟨.hbm, 68, rfl⟩
abbrev main_call1_call0_v8 : Ref sig .tc := ⟨.hbm, 69, rfl⟩
abbrev main_call1_call0_v9 : Ref sig .tc := ⟨.hbm, 70, rfl⟩
abbrev main_call1_call0_v10 : Ref sig .tc := ⟨.hbm, 71, rfl⟩
abbrev main_call1_call0_v11 : Ref sig .tc := ⟨.hbm, 72, rfl⟩
abbrev main_call1_v1 : Ref sig .tc := ⟨.hbm, 73, rfl⟩
abbrev main_v37 : Ref sig .tc := ⟨.hbm, 74, rfl⟩
abbrev main_cst_1 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_call6_call0_cst : Ref sig .tc := ⟨.hbm, 93, rfl⟩
abbrev main_call6_call0_v0 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c : Ref sig .tc := ⟨.hbm, 106, rfl⟩
abbrev main_v66 : Ref sig .tc := ⟨.hbm, 107, rfl⟩
abbrev main_call7_v0 : Ref sig .tc := ⟨.hbm, 108, rfl⟩
abbrev main_call7_c : Ref sig .tc := ⟨.hbm, 109, rfl⟩
abbrev main_call7_v1 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_call7_c_0 : Ref sig .tc := ⟨.hbm, 114, rfl⟩
abbrev main_call7_v5 : Ref sig .tc := ⟨.hbm, 115, rfl⟩
abbrev main_v67 : Ref sig .tc := ⟨.hbm, 116, rfl⟩
abbrev main_v68 : Ref sig .tc := ⟨.hbm, 117, rfl⟩
abbrev main_cst_2 : Ref sig .tc := ⟨.hbm, 118, rfl⟩
abbrev main_call8_v0 : Ref sig .tc := ⟨.hbm, 119, rfl⟩
abbrev main_call8_v1 : Ref sig .tc := ⟨.hbm, 120, rfl⟩
abbrev main_call8_v2 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_3 : Ref sig .tc := ⟨.hbm, 130, rfl⟩
abbrev main_v77 : Ref sig .tc := ⟨.hbm, 131, rfl⟩
abbrev main_c_4 : Ref sig .tc := ⟨.hbm, 132, rfl⟩
abbrev main_v78_0 : Ref sig .tc := ⟨.hbm, 133, rfl⟩
abbrev main_v78_1 : Ref sig .tc := ⟨.hbm, 134, rfl⟩
abbrev main_v78_2 : Ref sig .tc := ⟨.hbm, 135, rfl⟩
abbrev main_v78_3 : Ref sig .tc := ⟨.hbm, 136, rfl⟩
abbrev main_v78_4 : Ref sig .tc := ⟨.hbm, 137, rfl⟩
abbrev main_v78_5 : Ref sig .tc := ⟨.hbm, 138, rfl⟩
abbrev main_v78_6 : Ref sig .tc := ⟨.hbm, 139, rfl⟩
abbrev main_while0c_c_11 : Ref sig .tc := ⟨.hbm, 140, rfl⟩
abbrev main_while0c_v90 : Ref sig .tc := ⟨.hbm, 141, rfl⟩
abbrev main_while0b_call9_c : Ref sig .tc := ⟨.hbm, 142, rfl⟩
abbrev main_while0b_call9_c_0 : Ref sig .tc := ⟨.hbm, 143, rfl⟩
abbrev main_while0b_call9_c_1 : Ref sig .tc := ⟨.hbm, 144, rfl⟩
abbrev main_while0b_call9_c_2 : Ref sig .tc := ⟨.hbm, 145, rfl⟩
abbrev main_while0b_call9_v0 : Ref sig .tc := ⟨.hbm, 146, rfl⟩
abbrev main_while0b_v90 : Ref sig .tc := ⟨.hbm, 147, rfl⟩
abbrev main_while0b_call10_c : Ref sig .tc := ⟨.hbm, 148, rfl⟩
abbrev main_while0b_call10_c_0 : Ref sig .tc := ⟨.hbm, 149, rfl⟩
abbrev main_while0b_call10_c_1 : Ref sig .tc := ⟨.hbm, 150, rfl⟩
abbrev main_while0b_call10_c_2 : Ref sig .tc := ⟨.hbm, 151, rfl⟩
abbrev main_while0b_call10_v0 : Ref sig .tc := ⟨.hbm, 152, rfl⟩
abbrev main_while0b_v91 : Ref sig .tc := ⟨.hbm, 153, rfl⟩
abbrev main_while0b_call11_c : Ref sig .tc := ⟨.hbm, 154, rfl⟩
abbrev main_while0b_call11_c_0 : Ref sig .tc := ⟨.hbm, 155, rfl⟩
abbrev main_while0b_call11_c_1 : Ref sig .tc := ⟨.hbm, 156, rfl⟩
abbrev main_while0b_call11_c_2 : Ref sig .tc := ⟨.hbm, 157, rfl⟩
abbrev main_while0b_call11_v0 : Ref sig .tc := ⟨.hbm, 158, rfl⟩
abbrev main_while0b_v92 : Ref sig .tc := ⟨.hbm, 159, rfl⟩
abbrev main_while0b_call12_c : Ref sig .tc := ⟨.hbm, 160, rfl⟩
abbrev main_while0b_call12_c_0 : Ref sig .tc := ⟨.hbm, 161, rfl⟩
abbrev main_while0b_call12_c_1 : Ref sig .tc := ⟨.hbm, 162, rfl⟩
abbrev main_while0b_call12_v0 : Ref sig .tc := ⟨.hbm, 163, rfl⟩
abbrev main_while0b_v93 : Ref sig .tc := ⟨.hbm, 164, rfl⟩
abbrev main_while0b_v94 : Ref sig .tc := ⟨.hbm, 165, rfl⟩
abbrev main_while0b_v95 : Ref sig .tc := ⟨.hbm, 166, rfl⟩
abbrev main_while0b_v96 : Ref sig .tc := ⟨.hbm, 167, rfl⟩
abbrev main_while0b_v97 : Ref sig .tc := ⟨.hbm, 168, rfl⟩
abbrev main_while0b_v98 : Ref sig .tc := ⟨.hbm, 169, rfl⟩
abbrev main_while0b_v99 : Ref sig .tc := ⟨.hbm, 170, rfl⟩
abbrev main_while0b_call13_v0 : Ref sig .tc := ⟨.hbm, 171, rfl⟩
abbrev main_while0b_call13_c : Ref sig .tc := ⟨.hbm, 172, rfl⟩
abbrev main_while0b_call13_c_0 : Ref sig .tc := ⟨.hbm, 173, rfl⟩
abbrev main_while0b_call13_c_1 : Ref sig .tc := ⟨.hbm, 174, rfl⟩
abbrev main_while0b_call13_c_2 : Ref sig .tc := ⟨.hbm, 175, rfl⟩
abbrev main_while0b_v100 : Ref sig .tc := ⟨.hbm, 176, rfl⟩
abbrev main_while0b_c_11 : Ref sig .tc := ⟨.hbm, 177, rfl⟩
abbrev main_while0b_v101 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x2048 : Shape := ⟨3, ![4, 4096, 2048]⟩
abbrev S8x1x6144 : Shape := ⟨3, ![8, 1, 6144]⟩
abbrev S1x2048 : Shape := ⟨2, ![1, 2048]⟩
abbrev S1x2048x14368 : Shape := ⟨3, ![1, 2048, 14368]⟩
abbrev S2048x14368 : Shape := ⟨2, ![2048, 14368]⟩
abbrev S2048x6144 : Shape := ⟨2, ![2048, 6144]⟩
abbrev S2048x8192 : Shape := ⟨2, ![2048, 8192]⟩
abbrev S2048x14336 : Shape := ⟨2, ![2048, 14336]⟩
abbrev S2048x32 : Shape := ⟨2, ![2048, 32]⟩
abbrev S_ : Shape := ⟨0, ![]⟩
abbrev S2048x128 : Shape := ⟨2, ![2048, 128]⟩
abbrev S16384x2048 : Shape := ⟨2, ![16384, 2048]⟩
abbrev S2048 : Shape := ⟨1, ![2048]⟩
abbrev S16384x14336 : Shape := ⟨2, ![16384, 14336]⟩
abbrev S16384x128 : Shape := ⟨2, ![16384, 128]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 18
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S8x1x6144, .f32⟩
  | .hbm, ⟨2, _⟩ => ⟨S1x2048, .f32⟩
  | .hbm, ⟨3, _⟩ => ⟨S1x2048x14368, .f32⟩
  | .hbm, ⟨4, _⟩ => ⟨S2048x14368, .f32⟩
  | .hbm, ⟨5, _⟩ => ⟨S2048x6144, .f32⟩
  | .hbm, ⟨6, _⟩ => ⟨S2048x8192, .f32⟩
  | .hbm, ⟨7, _⟩ => ⟨S2048x14336, .f32⟩
  | .hbm, ⟨8, _⟩ => ⟨S2048x14336, .bf16⟩
  | .hbm, ⟨9, _⟩ => ⟨S2048x32, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S16384x2048, .f32⟩
  | .hbm, ⟨14, _⟩ => ⟨S2048, .f32⟩
  | .hbm, ⟨15, _⟩ => ⟨S1x2048, .f32⟩
  | .hbm, ⟨16, _⟩ => ⟨S16384x14336, .bf16⟩
  | .hbm, ⟨17, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c4_i32 : BitVec 32 := 4#32
  let v13 : BitVec 32 := Scalar.addi c0_i32_11 c4_i32
  let c1_i32 : BitVec 32 := 1#32
  ⟨c0_i32_11, v13, c1_i32⟩
def k0_mult1 (k0_t1 : Fin k0_t1_loop.trips) : BitVec 32 :=
  let c0_i32_11 : BitVec 32 := 0#32
  let c1_i32 : BitVec 32 := 1#32
  let arg11 : BitVec 32 := Scf.iv c0_i32_11 c1_i32 k0_t1
  let c256_i32 : BitVec 32 := 256#32
  let v14 : BitVec 32 := Scalar.muli arg11 c256_i32
  v14
def k0_off1 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let c256_i32 : BitVec 32 := 256#32
  let v14 : BitVec 32 := Scalar.muli arg11 c256_i32
  let v15 : BitVec 32 := v14
  let v16 : Index := Scalar.indexCast v15
  let c0_13 : Index := 0#32
  ![v16.toNat, 0]
def k0_off2 (k0_t1 : Fin k0_t1_loop.trips) : Fin 2 → Nat :=
  let c0_i32_11 : BitVec 32 := 0#32
  let c1_i32 : BitVec 32 := 1#32
  let arg11 : BitVec 32 := Scf.iv c0_i32_11 c1_i32 k0_t1
  let c256_i32 : BitVec 32 := 256#32
  let v14 : BitVec 32 := Scalar.muli arg11 c256_i32
  let v15 : BitVec 32 := v14
  let v59 : Index := Scalar.indexCast v15
  let c0_27 : Index := 0#32
  ![v59.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S4x4096x2048 : Shape := ⟨3, ![4, 4096, 2048]⟩
abbrev S8x1x6144 : Shape := ⟨3, ![8, 1, 6144]⟩
abbrev S1x2048 : Shape := ⟨2, ![1, 2048]⟩
abbrev S1x2048x14368 : Shape := ⟨3, ![1, 2048, 14368]⟩
abbrev S4x1x6144 : Shape := ⟨3, ![4, 1, 6144]⟩
abbrev S4x6144 : Shape := ⟨2, ![4, 6144]⟩
abbrev S4x2048 : Shape := ⟨2, ![4, 2048]⟩
abbrev S4x1x2048 : Shape := ⟨3, ![4, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x14368 : Shape := ⟨2, ![2048, 14368]⟩
abbrev S4x4096x14368 : Shape := ⟨3, ![4, 4096, 14368]⟩
abbrev S4x4096x6144 : Shape := ⟨3, ![4, 4096, 6144]⟩
abbrev S4x4096x8192 : Shape := ⟨3, ![4, 4096, 8192]⟩
abbrev S4x4096x14336 : Shape := ⟨3, ![4, 4096, 14336]⟩
abbrev S4x4096x32 : Shape := ⟨3, ![4, 4096, 32]⟩
abbrev S4x4096x128 : Shape := ⟨3, ![4, 4096, 128]⟩
abbrev S16384x14336 : Shape := ⟨2, ![16384, 14336]⟩
abbrev S16384x128 : Shape := ⟨2, ![16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8x1x6144, .f32⟩
  | .hbm, ⟨2, _⟩ => ⟨S1x2048, .f32⟩
  | .hbm, ⟨3, _⟩ => ⟨S1x2048x14368, .f32⟩
  | .hbm, ⟨4, _⟩ => ⟨S4x1x6144, .f32⟩
  | .hbm, ⟨5, _⟩ => ⟨S4x6144, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S2048, .f32⟩
  | .hbm, ⟨13, _⟩ => ⟨S4x4096x2048, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S1x1x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x1x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S2048x14368, .f32⟩
  | .hbm, ⟨37, _⟩ => ⟨S4x4096x14368, .f32⟩
  | .hbm, ⟨38, _⟩ => ⟨S4x4096x6144, .f32⟩
  | .hbm, ⟨39, _⟩ => ⟨S4x4096x8192, .f32⟩
  | .hbm, ⟨40, _⟩ => ⟨S4x4096x14336, .f32⟩
  | .hbm, ⟨41, _⟩ => ⟨S4x4096x14336, .bf16⟩
  | .hbm, ⟨42, _⟩ => ⟨S4x4096x32, .f32⟩
  | .hbm, ⟨43, _⟩ => ⟨S_, .i32⟩
  | .hbm, ⟨44, _⟩ => ⟨S_, .f32⟩
  | .hbm, ⟨45, _⟩ => ⟨S4x4096x128, .f32⟩
  | .hbm, ⟨46, _⟩ => ⟨S16384x14336, .bf16⟩
  | .hbm, ⟨47, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_call0_v0 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel3.lean ====
abbrev S2x4x4096x2048 : Shape := ⟨4, ![2, 4, 4096, 2048]⟩
abbrev S4x4096x14336 : Shape := ⟨3, ![4, 4096, 14336]⟩
abbrev S4x4096x2048 : Shape := ⟨3, ![4, 4096, 2048]⟩
abbrev S8x1x6144 : Shape := ⟨3, ![8, 1, 6144]⟩
abbrev S1x512 : Shape := ⟨2, ![1, 512]⟩
abbrev S1x4096 : Shape := ⟨2, ![1, 4096]⟩
abbrev S1x2048x2048 : Shape := ⟨3, ![1, 2048, 2048]⟩
abbrev S2048 : Shape := ⟨1, ![2048]⟩
abbrev S512 : Shape := ⟨1, ![512]⟩
abbrev S4096 : Shape := ⟨1, ![4096]⟩
abbrev S2048x2048 : Shape := ⟨2, ![2048, 2048]⟩
abbrev S1x2048 : Shape := ⟨2, ![1, 2048]⟩
abbrev S1x1x256x2048 : Shape := ⟨4, ![1, 1, 256, 2048]⟩
abbrev S1x256x2048 : Shape := ⟨3, ![1, 256, 2048]⟩
abbrev S1x1x2048 : Shape := ⟨3, ![1, 1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 23
  | .vmem => 28
  | .smem => 0
  | _ => 0

abbrev bufTy : (tb : Table) → Fin (tcTables nBuf tb) → BufTy
  | .hbm, ⟨0, _⟩ => ⟨S2x4x4096x2048, .bf16⟩
  | .hbm, ⟨1, _⟩ => ⟨S2x4x4096x2048, .bf16⟩
  | .hbm, ⟨2, _⟩ => ⟨S4x4096x14336, .bf16⟩
  | .hbm, ⟨3, _⟩ => ⟨S4x4096x2048, .f32⟩
  | .hbm, ⟨4, _⟩ => ⟨S8x1x6144, .f32⟩
  | .hbm, ⟨5, _⟩ => ⟨S1x512, .f32⟩
  | .hbm, ⟨6, _⟩ => ⟨S1x4096, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S2048, .f32⟩
  | .hbm, ⟨11, _⟩ => ⟨S512, .f32⟩
  | .hbm, ⟨12, _⟩ => ⟨S4096, .f32⟩
  | .hbm, ⟨13, _⟩ => ⟨S2048x2048, .f32⟩
  | .hbm, ⟨14, _⟩ => ⟨S2048x2048, .bf16⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S2048x2048, .bf16⟩
  | .hbm, ⟨19, _⟩ => ⟨S1x512, .f32⟩
  | .hbm, ⟨20, _⟩ => ⟨S1x4096, .f32⟩
  | .hbm, ⟨21, _⟩ => ⟨S1x2048, .f32⟩
  | .hbm, ⟨22, _⟩ => ⟨S4x4096x2048, .f32⟩
  | .local _ .vmem, ⟨0, _⟩ => ⟨S1x1x256x2048, .bf16⟩
  | .local _ .vmem, ⟨1, _⟩ => ⟨S1x1x256x2048, .bf16⟩
  | .local _ .vmem, ⟨2, _⟩ => ⟨S1x1x256x2048, .bf16⟩
  | .local _ .vmem, ⟨3, _⟩ => ⟨S1x1x256x2048, .bf16⟩
  | .local _ .vmem, ⟨4, _⟩ => ⟨S1x1x256x2048, .bf16⟩
  | .local _ .vmem, ⟨5, _⟩ => ⟨S1x1x256x2048, .bf16⟩
  | .local _ .vmem, ⟨6, _⟩ => ⟨S1x1x256x2048, .bf16⟩
  | .local _ .vmem, ⟨7, _⟩ => ⟨S1x1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S1x256x2048, .f32⟩
  | .local _ .vmem, ⟨17, _⟩ => ⟨S1x256x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x512, .f32⟩
  | .local _ .vmem, ⟨21, _⟩ => ⟨S1x4096, .f32⟩
  | .local _ .vmem, ⟨22, _⟩ => ⟨S2048x2048, .bf16⟩
  | .local _ .vmem, ⟨23, _⟩ => ⟨S2048x2048, .bf16⟩
  | .local _ .vmem, ⟨24, _⟩ => ⟨S2048x2048, .bf16⟩
  | .local _ .vmem, ⟨25, _⟩ => ⟨S1x2048, .f32⟩
  | .local _ .vmem, ⟨26, _⟩ => ⟨S1x256x2048, .f32⟩
  | .local _ .vmem, ⟨27, _⟩ => ⟨S1x256x2048, .f32⟩
  | _, _ => ⟨S2x4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_7 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S2x4x4096x2048 : Shape := ⟨4, ![2, 4, 4096, 2048]⟩
abbrev S4x4096x14336 : Shape := ⟨3, ![4, 4096, 14336]⟩
abbrev S4x4096x2048 : Shape := ⟨3, ![4, 4096, 2048]⟩
abbrev S8x1x6144 : Shape := ⟨3, ![8, 1, 6144]⟩
abbrev S1x512 : Shape := ⟨2, ![1, 512]⟩
abbrev S1x4096 : Shape := ⟨2, ![1, 4096]⟩
abbrev S1x2048x2048 : Shape := ⟨3, ![1, 2048, 2048]⟩
abbrev S2048 : Shape := ⟨1, ![2048]⟩
abbrev S4x1x2048 : Shape := ⟨3, ![4, 1, 2048]⟩
abbrev S1x4x4096x2048 : Shape := ⟨4, ![1, 4, 4096, 2048]⟩
abbrev S4x4096x4x512 : Shape := ⟨4, ![4, 4096, 4, 512]⟩
abbrev S4x4x4096x512 : Shape := ⟨4, ![4, 4, 4096, 512]⟩
abbrev S512 : Shape := ⟨1, ![512]⟩
abbrev S2048x2048 : Shape := ⟨2, ![2048, 2048]⟩
abbrev S4096 : Shape := ⟨1, ![4096]⟩
abbrev S_ : Shape := ⟨0, ![]⟩
abbrev S4x4x4096 : Shape := ⟨3, ![4, 4, 4096]⟩
abbrev S4x4x4096x1 : Shape := ⟨4, ![4, 4, 4096, 1]⟩
abbrev S1x1x1x512 : Shape := ⟨4, ![1, 1, 1, 512]⟩
abbrev S1x1x2048 : Shape := ⟨3, ![1, 1, 2048]⟩
abbrev S4x4096 : Shape := ⟨2, ![4, 4096]⟩
abbrev S4x4096x1 : Shape := ⟨3, ![4, 4096, 1]⟩

abbrev nBuf : Space → Nat
  | .hbm => 123
  | .vmem => 0
  | .smem => 0
  | _ => 0

abbrev bufTy : (tb : Table) → Fin (tcTables nBuf tb) → BufTy
  | .hbm, ⟨0, _⟩ => ⟨S2x4x4096x2048, .bf16⟩
  | .hbm, ⟨1, _⟩ => ⟨S2x4x4096x2048, .bf16⟩
  | .hbm, ⟨2, _⟩ => ⟨S4x4096x14336, .bf16⟩
  | .hbm, ⟨3, _⟩ => ⟨S4x4096x2048, .f32⟩
  | .hbm, ⟨4, _⟩ => ⟨S8x1x6144, .f32⟩
  | .hbm, ⟨5, _⟩ => ⟨S1x512, .f32⟩
  | .hbm, ⟨6, _⟩ => ⟨S1x4096, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S2048, .f32⟩
  | .hbm, ⟨11, _⟩ => ⟨S4x1x2048, .f32⟩
  | .hbm, ⟨12, _⟩ => ⟨S2x4x4096x2048, .f32⟩
  | .hbm, ⟨13, _⟩ => ⟨S2x4x4096x2048, .f32⟩
  | .hbm, ⟨14, _⟩ => ⟨S4x4096x14336, .f32⟩
  | .hbm, ⟨15, _⟩ => ⟨S1x4x4096x2048, .f32⟩
  | .hbm, ⟨16, _⟩ => ⟨S4x4096x2048, .f32⟩
  | .hbm, ⟨17, _⟩ => ⟨S1x4x4096x2048, .f32⟩
  | .hbm, ⟨18, _⟩ => ⟨S4x4096x2048, .f32⟩
  | .hbm, ⟨19, _⟩ => ⟨S4x4096x2048, .f32⟩
  | .hbm, ⟨20, _⟩ => ⟨S4x4096x4x512, .f32⟩
  | .hbm, ⟨21, _⟩ => ⟨S4x4x4096x512, .f32⟩
  | .hbm, ⟨22, _⟩ => ⟨S1x4x4096x2048, .f32⟩
  | .hbm, ⟨23, _⟩ => ⟨S4x4096x2048, .f32⟩
  | .hbm, ⟨24, _⟩ => ⟨S1x4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S512, .f32⟩
  | .hbm, ⟨32, _⟩ => ⟨S2048x2048, .f32⟩
  | .hbm, ⟨33, _⟩ => ⟨S2048x2048, .f32⟩
  | .hbm, ⟨34, _⟩ => ⟨S4096, .f32⟩
  | .hbm, ⟨35, _⟩ => ⟨S2048x2048, .f32⟩
  | .hbm, ⟨36, _⟩ => ⟨S4x4x4096x512, .f32⟩
  | .hbm, ⟨37, _⟩ => ⟨S_, .f32⟩
  | .hbm, ⟨38, _⟩ => ⟨S4x4x4096, .f32⟩
  | .hbm, ⟨39, _⟩ => ⟨S4x4x4096x1, .f32⟩
  | .hbm, ⟨40, _⟩ => ⟨S_, .f32⟩
  | .hbm, ⟨41, _⟩ => ⟨S4x4x4096x1, .f32⟩
  | .hbm, ⟨42, _⟩ => ⟨S4x4x4096x1, .f32⟩
  | .hbm, ⟨43, _⟩ => ⟨S_, .f32⟩
  | .hbm, ⟨44, _⟩ => ⟨S4x4x4096x1, .f32⟩
  | .hbm, ⟨45, _⟩ => ⟨S4x4x4096x1, .f32⟩
  | .hbm, ⟨46, _⟩ => ⟨S4x4x4096x1, .f32⟩
  | .hbm, ⟨47, _⟩ => ⟨S4x4x4096x512, .f32⟩
  | .hbm, ⟨48, _⟩ => ⟨S4x4x4096x512, .f32⟩
  | .hbm, ⟨49, _⟩ => ⟨S1x1x1x512, .f32⟩
  | .hbm, ⟨50, _⟩ => ⟨S4x4x4096x512, .f32⟩
  | .hbm, ⟨51, _⟩ => ⟨S4x4x4096x512, .f32⟩
  | .hbm, ⟨52, _⟩ => ⟨S4x4096x4x512, .f32⟩
  | .hbm, ⟨53, _⟩ => ⟨S4x4096x2048, .f32⟩
  | .hbm, ⟨54, _⟩ => ⟨S4x4096x2048, .f32⟩
  | .hbm, ⟨55, _⟩ => ⟨S4x4096x2048, .f32⟩
  | .hbm, ⟨56, _⟩ => ⟨S_, .f32⟩
  | .hbm, ⟨57, _⟩ => ⟨S4x4096x2048, .f32⟩
  | .hbm, ⟨58, _⟩ => ⟨S4x4096x2048, .f32⟩
  | .hbm, ⟨59, _⟩ => ⟨S_, .f32⟩
  | .hbm, ⟨60, _⟩ => ⟨S4x4096x2048, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S_, .f32⟩
  | .hbm, ⟨68, _⟩ => ⟨S4x4096x2048, .f32⟩
  | .hbm, ⟨69, _⟩ => ⟨S4x4096x2048, .f32⟩
  | .hbm, ⟨70, _⟩ => ⟨S_, .f32⟩
  | .hbm, ⟨71, _⟩ => ⟨S4x4096x2048, .f32⟩
  | .hbm, ⟨72, _⟩ => ⟨S4x4096x2048, .f32⟩
  | .hbm, ⟨73, _⟩ => ⟨S4x4096x2048, .f32⟩
  | .hbm, ⟨74, _⟩ => ⟨S4x4096x2048, .f32⟩
  | .hbm, ⟨75, _⟩ => ⟨S4x4096x2048, .f32⟩
  | .hbm, ⟨76, _⟩ => ⟨S2048, .f32⟩
  | .hbm, ⟨77, _⟩ => ⟨S1x1x2048, .f32⟩
  | .hbm, ⟨78, _⟩ => ⟨S4x4096x2048, .f32⟩
  | .hbm, ⟨79, _⟩ => ⟨S4x4096x2048, .f32⟩
  | .hbm, ⟨80, _⟩ => ⟨S4x4096x2048, .f32⟩
  | .hbm, ⟨81, _⟩ => ⟨S4x4096x2048, .f32⟩
  | .hbm, ⟨82, _⟩ => ⟨S_, .f32⟩
  | .hbm, ⟨83, _⟩ => ⟨S4x4096x2048, .f32⟩
  | .hbm, ⟨84, _⟩ => ⟨S4x4096x2048, .f32⟩
  | .hbm, ⟨85, _⟩ => ⟨S_, .f32⟩
  | .hbm, ⟨86, _⟩ => ⟨S4x4096x2048, .f32⟩
  | .hbm, ⟨87, _⟩ => ⟨S4x4096x2048, .f32⟩
  | .hbm, ⟨88, _⟩ => ⟨S2048, .f32⟩
  | .hbm, ⟨89, _⟩ => ⟨S1x1x2048, .f32⟩
  | .hbm, ⟨90, _⟩ => ⟨S4x4096x2048, .f32⟩
  | .hbm, ⟨91, _⟩ => ⟨S4x4096x2048, .f32⟩
  | .hbm, ⟨92, _⟩ => ⟨S4x4096x2048, .f32⟩
  | .hbm, ⟨93, _⟩ => ⟨S4x4096x2048, .f32⟩
  | .hbm, ⟨94, _⟩ => ⟨S_, .f32⟩
  | .hbm, ⟨95, _⟩ => ⟨S4x4096x2048, .f32⟩
  | .hbm, ⟨96, _⟩ => ⟨S4x4096x2048, .f32⟩
  | .hbm, ⟨97, _⟩ => ⟨S_, .f32⟩
  | .hbm, ⟨98, _⟩ => ⟨S4x4096x2048, .f32⟩
  | .hbm, ⟨99, _⟩ => ⟨S4x4096x2048, .f32⟩
  | .hbm, ⟨100, _⟩ => ⟨S4x4096x2048, .f32⟩
  | .hbm, ⟨101, _⟩ => ⟨S4x4096x2048, .f32⟩
  | .hbm, ⟨102, _⟩ => ⟨S4x4096x2048, .f32⟩
  | .hbm, ⟨103, _⟩ => ⟨S4x4096x2048, .f32⟩
  | .hbm, ⟨104, _⟩ => ⟨S4x4096x2048, .f32⟩
  | .hbm, ⟨105, _⟩ => ⟨S4x4096x2048, .f32⟩
  | .hbm, ⟨106, _⟩ => ⟨S4x4096x2048, .f32⟩
  | .hbm, ⟨107, _⟩ => ⟨S4x4096x2048, .f32⟩
  | .hbm, ⟨108, _⟩ => ⟨S_, .f32⟩
  | .hbm, ⟨109, _⟩ => ⟨S4x4096, .f32⟩
  | .hbm, ⟨110, _⟩ => ⟨S4x4096x1, .f32⟩
  | .hbm, ⟨111, _⟩ => ⟨S_, .f32⟩
  | .hbm, ⟨112, _⟩ => ⟨S4x4096x1, .f32⟩
  | .hbm, ⟨113, _⟩ => ⟨S4x4096x1, .f32⟩
  | .hbm, ⟨114, _⟩ => ⟨S_, .f32⟩
  | .hbm, ⟨115, _⟩ => ⟨S4x4096x1, .f32⟩
  | .hbm, ⟨116, _⟩ => ⟨S4x4096x1, .f32⟩
  | .hbm, ⟨117, _⟩ => ⟨S4x4096x1, .f32⟩
  | .hbm, ⟨118, _⟩ => ⟨S4x4096x2048, .f32⟩
  | .hbm, ⟨119, _⟩ => ⟨S4x4096x2048, .f32⟩
  | .hbm, ⟨120, _⟩ => ⟨S1x1x2048, .f32⟩
  | .hbm, ⟨121, _⟩ => ⟨S4x4096x2048, .f32⟩
  | .hbm, ⟨122, _⟩ => ⟨S4x4096x2048, .f32⟩
  | _, _ => ⟨S2x4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_2 : Ref sig .tc := ⟨.hbm, 82, rfl⟩
abbrev main_v52 : Ref sig .tc := ⟨.hbm, 83, rfl⟩
abbrev main_v53 : Ref sig .tc := ⟨.hbm, 84, rfl⟩
abbrev main_cst_3 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_4 : Ref sig .tc := ⟨.hbm, 94, rfl⟩
abbrev main_v62 : Ref sig .tc := ⟨.hbm, 95, rfl⟩
abbrev main_v63 : Ref sig .tc := ⟨.hbm, 96, rfl⟩
abbrev main_cst_5 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_6 : Ref sig .tc := ⟨.hbm, 108, rfl⟩
abbrev main_v74 : Ref sig .tc := ⟨.hbm, 109, rfl⟩
abbrev main_v75 : Ref sig .tc := ⟨.hbm, 110, rfl⟩
abbrev main_cst_7 : Ref sig .tc := ⟨.hbm, 111, rfl⟩
abbrev main_v76 : Ref sig .tc := ⟨.hbm, 112, rfl⟩
abbrev main_v77 : Ref sig .tc := ⟨.hbm, 113, rfl⟩
abbrev main_cst_8 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]
-- ==== Proof.GlaTrip.lean ====
/-
  One trip of the recurrence kernel's counted loop, as functions of the blocks it reads: the rows of the chunk it stores
  (`tripO`) and the state it leaves (`tripS`). The state after `n` trips is `St`, the pieces written into the block of
  the result are `outP`; the run's own piece lists are these.
-/
module

public import proofs.«01_k».proof.Proof.Gen.KernelIdeal.Frame
public import proofs.«01_k».proof.Proof.Gen.KernelIdeal.Loops
public import Idealize.ShloMosaic.Lib.VecWindow
public import Idealize.ShloMosaic.Lib.Pipeline.Value
public import Idealize.ShloMosaic.Lib.WritesUnit
public import Idealize.ShloMosaic.Lib.Tactic
public import Idealize.ShloMosaic.Lib.Pointwise

@[expose] public section

set_option maxRecDepth 16384
noncomputable section

namespace Cert.Proof.Gla

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem trips8 : k0_t1_loop.trips = 8 := by decide +kernel

/-- The chunk (of the eight of a block) trip `k` works on, in the direction `d`. -/
def chunkOf (d : ℕ) (k : ℕ) : ℕ := if d = 0 then k else 7 - k

theorem off1_eq (i : grid0.Coords) (k : Fin k0_t1_loop.trips) : k0_off1 i k = ![0, 64 * chunkOf (i 0).val k.val, 0] := by
  have h : ∀ (a : Fin 2) (b : Fin 8), (Scalar.indexCast (Scalar.muli (Scalar.select (Scalar.cmpi .eq (BitVec.ofNat 32 a.val) 0#32) (Scf.iv 0#32 1#32 b.val) (Scalar.subi 7#32 (Scf.iv 0#32 1#32 b.val))) 64#32)).toNat = 64 * chunkOf a.val b.val := by decide +kernel
  unfold k0_off1
  exact congrArg (fun z => ![0, z, 0]) (h (i 0) (k.cast trips8))

theorem off2_eq (i : grid0.Coords) (k : Fin k0_t1_loop.trips) : k0_off2 i k = ![0, 64 * chunkOf (i 0).val k.val, 0] := off1_eq i k
theorem off3_eq (i : grid0.Coords) (k : Fin k0_t1_loop.trips) : k0_off3 i k = ![0, 64 * chunkOf (i 0).val k.val, 0] := off1_eq i k
theorem off4_eq (i : grid0.Coords) (k : Fin k0_t1_loop.trips) : k0_off4 i k = ![0, 0, 64 * chunkOf (i 0).val k.val, 0] := by
  have h := off1_eq i k
  have h1 := congrFun h 1
  exact congrArg (fun z => ![0, 0, z, 0]) h1

section Trip
variable (i : grid0.Coords) (v17 : Vec F S1x128x256 .f32) (v19 : Vec F S1x1x256 .f32)
  (x4 : Vec F S1x512x128 .f32) (x5 x6 : Vec F S1x512x256 .bf16) (x7 : Vec F S1x512x512 .bf16)

def ldA (k : Fin k0_t1_loop.trips) : Vec F S1x64x128 .f32 :=
  View.ld x4 (Rect.unit (s := S1x512x128) (k0_off1 i k) S1x64x128.size (k0_off1_inb i k))
def ldQ (k : Fin k0_t1_loop.trips) : Vec F S1x64x256 .bf16 :=
  View.ld x5 (Rect.unit (s := S1x512x256) (k0_off2 i k) S1x64x256.size (k0_off2_inb i k))
def ldV (k : Fin k0_t1_loop.trips) : Vec F S1x64x512 .bf16 :=
  View.ld x7 (Rect.unit (s := S1x512x512) (k0_off3 i k) S1x64x512.size (k0_off3_inb i k))

/-- The rows of the chunk that trip `k` stores, from the state it finds. -/
def tripO (k : Fin k0_t1_loop.trips) (S : Vec F S256x512 .f32) : Vec F S1x1x64x512 .bf16 :=
  k0_pay7 (k0_pay19 (k0_pay2 i) (k0_pay13 (k0_pay3 i) (k0_pay5 v17) (k0_pay6 v19) (ldA i x4 k)) (ldQ i x5 k) (ldQ i x6 k) (ldV i x7 k) S)

/-- The state that trip `k` leaves, from the state it finds. -/
def tripS (k : Fin k0_t1_loop.trips) (S : Vec F S256x512 .f32) : Vec F S256x512 .f32 :=
  k0_pay8 (k0_pay15 k0_pay4 (k0_pay11 (k0_pay5 v17) (k0_pay6 v19) (ldA i x4 k)) (k0_pay12 (k0_pay5 v17) (k0_pay6 v19) (ldA i x4 k)) (constant S256x128 .f32 0x00000000#32))
    (k0_pay17 (ldV i x7 k))
    (k0_pay18 (k0_pay13 (k0_pay3 i) (k0_pay5 v17) (k0_pay6 v19) (ldA i x4 k)) (k0_pay14 (BitVec.ofNat 32 (i 0).val) (k0_pay3 i) (k0_pay5 v17) (k0_pay6 v19) (ldA i x4 k)) (ldQ i x6 k)) S

/-- The state after the first `n` trips. -/
def St (S0 : Vec F S256x512 .f32) : ℕ → Vec F S256x512 .f32
  | 0 => S0
  | n + 1 => if h : n < k0_t1_loop.trips then tripS i v17 v19 x4 x6 x7 ⟨n, h⟩ (St S0 n) else St S0 n

theorem St_succ (S0 : Vec F S256x512 .f32) (k : Fin k0_t1_loop.trips) :
    St i v17 v19 x4 x6 x7 S0 (k.val + 1) = tripS i v17 v19 x4 x6 x7 k (St i v17 v19 x4 x6 x7 S0 k.val) := by
  rw [St]; exact dif_pos k.isLt

/-- The pieces the first `n` trips write into the block of the result, the last first. -/
def outP (S0 : Vec F S256x512 .f32) : ℕ → List (View.Piece (Elt F) S1x1x512x512 .bf16)
  | 0 => []
  | n + 1 => if h : n < k0_t1_loop.trips then
      ⟨Rect.unit (s := S1x1x512x512) (k0_off4 i ⟨n, h⟩) S1x1x64x512.size (k0_off4_inb i ⟨n, h⟩), tripO i v17 v19 x4 x5 x6 x7 ⟨n, h⟩ (St i v17 v19 x4 x6 x7 S0 n)⟩ :: outP S0 n
    else outP S0 n

theorem outP_succ (S0 : Vec F S256x512 .f32) (k : Fin k0_t1_loop.trips) :
    outP i v17 v19 x4 x5 x6 x7 S0 (k.val + 1) = ⟨Rect.unit (s := S1x1x512x512) (k0_off4 i k) S1x1x64x512.size (k0_off4_inb i k), tripO i v17 v19 x4 x5 x6 x7 k (St i v17 v19 x4 x6 x7 S0 k.val)⟩ :: outP i v17 v19 x4 x5 x6 x7 S0 k.val := by
  rw [outP]; exact dif_pos k.isLt

end Trip

theorem trip_out (𝒱 : Variants) (c : Dev nD) (bd : Option 𝒱.V) (i : grid0.Coords) (arg4 : Memref sig .tc .vmem S1x512x128 .f32) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x1x1x256x512 .f32) (harg10 : arg10.IsWhole) (arg11 : Memref sig .tc .vmem S1x1x512x512 .bf16) (harg11 : arg11.IsWhole) (arg12 : Memref sig .tc .vmem S1x1x1x256x512 .f32) (harg12 : arg12.IsWhole) (arg13 : Memref sig .tc .vmem S256x512 .f32) (harg13 : arg13.IsWhole) (v17 : Vec F S1x128x256 .f32) (v19 : Vec F S1x1x256 .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) (f_arg11 : BufTy.Contents (Elt F) arg11.view.ty) (f_arg13 : BufTy.Contents (Elt F) arg13.view.ty) :
    (trip_k0_t1 (F := F) 𝒱 c bd i arg4 harg4 arg5 harg5 arg6 harg6 arg7 harg7 arg8 harg8 arg9 harg9 arg10 harg10 arg11 harg11 arg12 harg12 arg13 harg13 (BitVec.ofNat 32 (i 0).val) v17 v19 X_arg4 X_arg5 X_arg6 X_arg7 k).1 f_arg11 f_arg13
      = [⟨Rect.unit (s := S1x1x512x512) (k0_off4 i k) S1x1x64x512.size (k0_off4_inb i k), tripO i v17 v19 (arg4.view.read (Elt F) X_arg4) (arg5.view.read (Elt F) X_arg5) (arg6.view.read (Elt F) X_arg6) (arg7.view.read (Elt F) X_arg7) k (arg13.view.read (Elt F) f_arg13)⟩] := by
  have e : View.readAt (Elt F) arg13.view (Rect.unit (s := S256x512) ![0, 0] S256x512.size inb_S256x512_S256x512_0_0).toLoadRect f_arg13 = arg13.view.read (Elt F) f_arg13 := by
    rw [View.readAt_eq_ld]; exact View.ld_unit_zero (funext fun a => by match a with | ⟨0, _⟩ => rfl | ⟨1, _⟩ => rfl) _ _
  rw [← e]
  unfold trip_k0_t1
  dsimp only
  sl_unfold_words
  rfl

theorem trip_state (𝒱 : Variants) (c : Dev nD) (bd : Option 𝒱.V) (i : grid0.Coords) (arg4 : Memref sig .tc .vmem S1x512x128 .f32) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x1x1x256x512 .f32) (harg10 : arg10.IsWhole) (arg11 : Memref sig .tc .vmem S1x1x512x512 .bf16) (harg11 : arg11.IsWhole) (arg12 : Memref sig .tc .vmem S1x1x1x256x512 .f32) (harg12 : arg12.IsWhole) (arg13 : Memref sig .tc .vmem S256x512 .f32) (harg13 : arg13.IsWhole) (v17 : Vec F S1x128x256 .f32) (v19 : Vec F S1x1x256 .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) (f_arg11 : BufTy.Contents (Elt F) arg11.view.ty) (f_arg13 : BufTy.Contents (Elt F) arg13.view.ty) :
    (trip_k0_t1 (F := F) 𝒱 c bd i arg4 harg4 arg5 harg5 arg6 harg6 arg7 harg7 arg8 harg8 arg9 harg9 arg10 harg10 arg11 harg11 arg12 harg12 arg13 harg13 (BitVec.ofNat 32 (i 0).val) v17 v19 X_arg4 X_arg5 X_arg6 X_arg7 k).2.1 f_arg11 f_arg13
      = [⟨Rect.unit (s := S256x512) ![0, 0] S256x512.size inb_S256x512_S256x512_0_0, tripS i v17 v19 (arg4.view.read (Elt F) X_arg4) (arg6.view.read (Elt F) X_arg6) (arg7.view.read (Elt F) X_arg7) k (arg13.view.read (Elt F) f_arg13)⟩] := by
  have e : View.readAt (Elt F) arg13.view (Rect.unit (s := S256x512) ![0, 0] S256x512.size inb_S256x512_S256x512_0_0).toLoadRect f_arg13 = arg13.view.read (Elt F) f_arg13 := by
    rw [View.readAt_eq_ld]; exact View.ld_unit_zero (funext fun a => by match a with | ⟨0, _⟩ => rfl | ⟨1, _⟩ => rfl) _ _
  rw [← e]
  unfold trip_k0_t1
  dsimp only
  sl_unfold_words
  rfl

/-- The run's piece lists: what the first `n` trips write into the block, and the state they leave. -/
theorem pieces (𝒱 : Variants) (c : Dev nD) (bd : Option 𝒱.V) (i : grid0.Coords) (arg4 : Memref sig .tc .vmem S1x512x128 .f32) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x1x1x256x512 .f32) (harg10 : arg10.IsWhole) (arg11 : Memref sig .tc .vmem S1x1x512x512 .bf16) (harg11 : arg11.IsWhole) (arg12 : Memref sig .tc .vmem S1x1x1x256x512 .f32) (harg12 : arg12.IsWhole) (arg13 : Memref sig .tc .vmem S256x512 .f32) (harg13 : arg13.IsWhole) (v17 : Vec F S1x128x256 .f32) (v19 : Vec F S1x1x256 .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg11 : BufTy.Contents (Elt F) arg11.view.ty) (G_arg13 : BufTy.Contents (Elt F) arg13.view.ty) :
    ∀ n, n ≤ k0_t1_loop.trips →
      (pb_k0_t1 (F := F) 𝒱 c bd i arg4 harg4 arg5 harg5 arg6 harg6 arg7 harg7 arg8 harg8 arg9 harg9 arg10 harg10 arg11 harg11 arg12 harg12 arg13 harg13 (BitVec.ofNat 32 (i 0).val) v17 v19 X_arg4 X_arg5 X_arg6 X_arg7 G_arg11 G_arg13 n).1 = outP i v17 v19 (arg4.view.read (Elt F) X_arg4) (arg5.view.read (Elt F) X_arg5) (arg6.view.read (Elt F) X_arg6) (arg7.view.read (Elt F) X_arg7) (arg13.view.read (Elt F) G_arg13) n
      ∧ arg13.view.read (Elt F) (arg13.view.writes (Elt F) G_arg13 (pb_k0_t1 (F := F) 𝒱 c bd i arg4 harg4 arg5 harg5 arg6 harg6 arg7 harg7 arg8 harg8 arg9 harg9 arg10 harg10 arg11 harg11 arg12 harg12 arg13 harg13 (BitVec.ofNat 32 (i 0).val) v17 v19 X_arg4 X_arg5 X_arg6 X_arg7 G_arg11 G_arg13 n).2) = St i v17 v19 (arg4.view.read (Elt F) X_arg4) (arg6.view.read (Elt F) X_arg6) (arg7.view.read (Elt F) X_arg7) (arg13.view.read (Elt F) G_arg13) n
  | 0, _ => ⟨rfl, rfl⟩
  | n + 1, h => by
    obtain ⟨h1, h2⟩ := pieces 𝒱 c bd i arg4 harg4 arg5 harg5 arg6 harg6 arg7 harg7 arg8 harg8 arg9 harg9 arg10 harg10 arg11 harg11 arg12 harg12 arg13 harg13 v17 v19 X_arg4 X_arg5 X_arg6 X_arg7 G_arg11 G_arg13 n (Nat.le_of_succ_le h)
    have e := pb_k0_t1_succ (F := F) 𝒱 c bd i arg4 harg4 arg5 harg5 arg6 harg6 arg7 harg7 arg8 harg8 arg9 harg9 arg10 harg10 arg11 harg11 arg12 harg12 arg13 harg13 (BitVec.ofNat 32 (i 0).val) v17 v19 X_arg4 X_arg5 X_arg6 X_arg7 G_arg11 G_arg13 ⟨n, h⟩
    have eo := outP_succ i v17 v19 (arg4.view.read (Elt F) X_arg4) (arg5.view.read (Elt F) X_arg5) (arg6.view.read (Elt F) X_arg6) (arg7.view.read (Elt F) X_arg7) (arg13.view.read (Elt F) G_arg13) ⟨n, h⟩
    have es := St_succ i v17 v19 (arg4.view.read (Elt F) X_arg4) (arg6.view.read (Elt F) X_arg6) (arg7.view.read (Elt F) X_arg7) (arg13.view.read (Elt F) G_arg13) ⟨n, h⟩
    dsimp only at e eo es
    rw [trip_out, trip_state] at e
    rw [e, eo, es]
    refine ⟨?_, ?_⟩
    · dsimp only
      rw [h2, h1]; rfl
    · dsimp only
      rw [h2, List.singleton_append, View.read_writes_full]

section Out
variable (i : grid0.Coords) (v17 : Vec F S1x128x256 .f32) (v19 : Vec F S1x1x256 .f32)
  (x4 : Vec F S1x512x128 .f32) (x5 x6 : Vec F S1x512x256 .bf16) (x7 : Vec F S1x512x512 .bf16)

theorem chunkOf_lt (d k : ℕ) (hk : k < 8) : chunkOf d k < 8 := by unfold chunkOf; split <;> omega

/-- What the block of the result holds after the first `n` trips, in the rows of a chunk already worked on. -/
theorem read_out (v : View sig .tc .vmem S1x1x512x512 .bf16) (f : v.ty.Contents (Elt F)) (S0 : Vec F S256x512 .f32) :
    ∀ n, n ≤ k0_t1_loop.trips → ∀ (j : Fin k0_t1_loop.trips), j.val < n → ∀ (R : Fin 512) (r : Fin 64) (e : Fin 512),
      R.val = 64 * chunkOf (i 0).val j.val + r.val →
      v.read (Elt F) (v.writes (Elt F) f (outP i v17 v19 x4 x5 x6 x7 S0 n)) (ix4 (0 : Fin 1) (0 : Fin 1) R e)
        = tripO i v17 v19 x4 x5 x6 x7 j (St i v17 v19 x4 x6 x7 S0 j.val) (ix4 (0 : Fin 1) (0 : Fin 1) r e)
  | 0, _, j, hj, _, _, _, _ => absurd hj (Nat.not_lt_zero _)
  | n + 1, h, j, hj, R, r, e, hR => by
    have eo := outP_succ i v17 v19 x4 x5 x6 x7 S0 ⟨n, h⟩
    dsimp only at eo
    rw [eo]
    have h8 := trips8
    by_cases hn : j.val = n
    · obtain rfl : j = ⟨n, h⟩ := Fin.ext hn
      dsimp only
      generalize tripO i v17 v19 x4 x5 x6 x7 ⟨n, h⟩ (St i v17 v19 x4 x6 x7 S0 n) = w
      generalize outP i v17 v19 x4 x5 x6 x7 S0 n = L
      refine View.read_writes_cons_unit_of_mem v f (k0_off4_inb i ⟨n, h⟩) w L (ix4 (0 : Fin 1) (0 : Fin 1) R e) (ix4 (0 : Fin 1) (0 : Fin 1) r e : S1x1x64x512.Idx) (off4_eq i ⟨n, h⟩) ?_
      intro a
      match a with
      | ⟨0, _⟩ => rfl
      | ⟨1, _⟩ => rfl
      | ⟨2, _⟩ => exact hR
      | ⟨3, _⟩ => show e.val = 0 + e.val; omega
    · refine (View.read_writes_cons_unit_of_not_mem v f (k0_off4_inb i ⟨n, h⟩) _ _ (ix4 (0 : Fin 1) (0 : Fin 1) R e) (off4_eq i ⟨n, h⟩) (2 : Fin 4) ?_).trans
        (read_out v f S0 n (Nat.le_of_succ_le h) j (by omega) R r e hR)
      show R.val < 64 * chunkOf (i 0).val n ∨ 64 * chunkOf (i 0).val n + 64 ≤ R.val
      have hr := r.isLt
      have : chunkOf (i 0).val n ≠ chunkOf (i 0).val j.val := by unfold chunkOf; split <;> omega
      rcases Nat.lt_or_gt_of_ne this with h' | h' <;> omega

/-- The trip that works on the chunk of row `R`. -/
def tripAt (d : ℕ) (R : Fin 512) : Fin k0_t1_loop.trips :=
  ⟨chunkOf d (R.val / 64), by have := R.isLt; rw [trips8]; exact chunkOf_lt _ _ (by omega)⟩

/-- The whole block of the result after the eight trips. -/
def outB (S0 : Vec F S256x512 .f32) : Vec F S1x1x512x512 .bf16 := fun y =>
  tripO i v17 v19 x4 x5 x6 x7 (tripAt (i 0).val (y 2)) (St i v17 v19 x4 x6 x7 S0 (tripAt (i 0).val (y 2)).val)
    (ix4 (0 : Fin 1) (0 : Fin 1) (⟨(y 2).val % 64, Nat.mod_lt _ (by decide)⟩ : Fin 64) (y 3 : Fin 512))

theorem read_outB (v : View sig .tc .vmem S1x1x512x512 .bf16) (f : v.ty.Contents (Elt F)) (S0 : Vec F S256x512 .f32) :
    v.read (Elt F) (v.writes (Elt F) f (outP i v17 v19 x4 x5 x6 x7 S0 k0_t1_loop.trips)) = outB i v17 v19 x4 x5 x6 x7 S0 := by
  funext y
  obtain ⟨R, e, rfl⟩ : ∃ (R : Fin 512) (e : Fin 512), y = ix4 (0 : Fin 1) (0 : Fin 1) R e :=
    ⟨y 2, y 3, (eq_ix4 y).trans (congrArg₂ (fun z w => ix4 z w (y 2) (y 3)) (Fin.ext (by have : (y 0).val < 1 := (y 0).isLt; show (y 0).val = 0; omega)) (Fin.ext (by have : (y 1).val < 1 := (y 1).isLt; show (y 1).val = 0; omega)))⟩
  refine read_out i v17 v19 x4 x5 x6 x7 v f S0 _ le_rfl (tripAt (i 0).val R) (tripAt (i 0).val R).isLt R ⟨R.val % 64, Nat.mod_lt _ (by decide)⟩ e ?_
  show R.val = 64 * chunkOf _ (chunkOf _ (R.val / 64)) + R.val % 64
  have := R.isLt
  have : chunkOf (i 0).val (chunkOf (i 0).val (R.val / 64)) = R.val / 64 := by unfold chunkOf; split <;> omega
  rw [this]; omega
end Out

end Cert.Proof.Gla
-- ==== Proof.GlaRuns.lean ====
/-
  What the runs of the recurrence kernel's body share: the branch conditions in closed form over the points, the
  memrefs the body is called with, and the invariant the scratch buffer is taken from.
-/
module

public import proofs.«01_k».proof.Proof.GlaTrip

@[expose] public section

set_option maxRecDepth 16384

noncomputable section

namespace Cert.Proof.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 3).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 32 % 4 := Pipeline.Grid.coords_val t 1 (by decide) rfl
    have e2 : (grid0.coords t 2).val = t.val / 8 % 4 := Pipeline.Grid.coords_val t 2 (by decide) rfl
    have e3 : (grid0.coords t 3).val = t.val / 1 % 8 := Pipeline.Grid.coords_val t 3 (by decide) rfl
    simp only [cond0_0, e0, e1, e2, e3]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 32 % 4 := Pipeline.Grid.coords_val t 1 (by decide) rfl
    have e2 : (grid0.coords t 2).val = t.val / 8 % 4 := Pipeline.Grid.coords_val t 2 (by decide) rfl
    have e3 : (grid0.coords t 3).val = t.val / 1 % 8 := Pipeline.Grid.coords_val t 3 (by decide) rfl
    simp only [cond0_1, k0_cond2, e0, e1, e2, e3]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1x256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1x256x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x512 .f32 := Memref.whole cc0_scratch0
/-- The scratch `arg13` the kernel carries between points, as a view: what it holds is stated through it. -/
abbrev VS0_0 : View sig .tc .vmem S256x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the loop leaves in the block of the result. -/
theorem out_val (𝒱 : Variants) (c : Dev nD) (bd : Option 𝒱.V) (i : grid0.Coords) (arg4 : Memref sig .tc .vmem S1x512x128 .f32) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x1x1x256x512 .f32) (harg10 : arg10.IsWhole) (arg11 : Memref sig .tc .vmem S1x1x512x512 .bf16) (harg11 : arg11.IsWhole) (arg12 : Memref sig .tc .vmem S1x1x1x256x512 .f32) (harg12 : arg12.IsWhole) (arg13 : Memref sig .tc .vmem S256x512 .f32) (harg13 : arg13.IsWhole) (v17 : Vec F S1x128x256 .f32) (v19 : Vec F S1x1x256 .f32) (x0 : Vec F S1x512x128 .f32) (x1 : Vec F S1x512x256 .bf16) (x2 : Vec F S1x512x256 .bf16) (x3 : Vec F S1x512x512 .bf16) (G_arg11 : BufTy.Contents (Elt F) arg11.view.ty) (G_arg13 : BufTy.Contents (Elt F) arg13.view.ty) (S : Vec F S256x512 .f32)
    (hS : arg13.view.read (Elt F) G_arg13 = S) :
    arg11.view.read (Elt F) (arg11.view.writes (Elt F) G_arg11 (pb_k0_t1 (F := F) 𝒱 c bd i arg4 harg4 arg5 harg5 arg6 harg6 arg7 harg7 arg8 harg8 arg9 harg9 arg10 harg10 arg11 harg11 arg12 harg12 arg13 harg13 (BitVec.ofNat 32 (i 0).val) v17 v19 (harg4.unread x0) (harg5.unread x1) (harg6.unread x2) (harg7.unread x3) G_arg11 G_arg13 k0_t1_loop.trips).1) = outB i v17 v19 x0 x1 x2 x3 S := by
  rw [(pieces 𝒱 c bd i arg4 harg4 arg5 harg5 arg6 harg6 arg7 harg7 arg8 harg8 arg9 harg9 arg10 harg10 arg11 harg11 arg12 harg12 arg13 harg13 v17 v19 (harg4.unread x0) (harg5.unread x1) (harg6.unread x2) (harg7.unread x3) G_arg11 G_arg13 _ le_rfl).1, read_outB, harg4.read_unread, harg5.read_unread, harg6.read_unread, harg7.read_unread, hS]

/-- What the loop leaves in the scratch buffer. -/
theorem st_val (𝒱 : Variants) (c : Dev nD) (bd : Option 𝒱.V) (i : grid0.Coords) (arg4 : Memref sig .tc .vmem S1x512x128 .f32) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x1x1x256x512 .f32) (harg10 : arg10.IsWhole) (arg11 : Memref sig .tc .vmem S1x1x512x512 .bf16) (harg11 : arg11.IsWhole) (arg12 : Memref sig .tc .vmem S1x1x1x256x512 .f32) (harg12 : arg12.IsWhole) (arg13 : Memref sig .tc .vmem S256x512 .f32) (harg13 : arg13.IsWhole) (v17 : Vec F S1x128x256 .f32) (v19 : Vec F S1x1x256 .f32) (x0 : Vec F S1x512x128 .f32) (x1 : Vec F S1x512x256 .bf16) (x2 : Vec F S1x512x256 .bf16) (x3 : Vec F S1x512x512 .bf16) (G_arg11 : BufTy.Contents (Elt F) arg11.view.ty) (G_arg13 : BufTy.Contents (Elt F) arg13.view.ty) (S : Vec F S256x512 .f32)
    (hS : arg13.view.read (Elt F) G_arg13 = S) :
    arg13.view.read (Elt F) (arg13.view.writes (Elt F) G_arg13 (pb_k0_t1 (F := F) 𝒱 c bd i arg4 harg4 arg5 harg5 arg6 harg6 arg7 harg7 arg8 harg8 arg9 harg9 arg10 harg10 arg11 harg11 arg12 harg12 arg13 harg13 (BitVec.ofNat 32 (i 0).val) v17 v19 (harg4.unread x0) (harg5.unread x1) (harg6.unread x2) (harg7.unread x3) G_arg11 G_arg13 k0_t1_loop.trips).2) = St i v17 v19 x0 x2 x3 S k0_t1_loop.trips := by
  rw [(pieces 𝒱 c bd i arg4 harg4 arg5 harg5 arg6 harg6 arg7 harg7 arg8 harg8 arg9 harg9 arg10 harg10 arg11 harg11 arg12 harg12 arg13 harg13 v17 v19 (harg4.unread x0) (harg5.unread x1) (harg6.unread x2) (harg7.unread x3) G_arg11 G_arg13 _ le_rfl).2, harg4.read_unread, harg6.read_unread, harg7.read_unread, hS]

end Cert.Proof.Gla

end
-- ==== Proof.GlaRunA.lean ====
/-
  The body of the recurrence kernel, case A: it leaves the eight chunks' rows in the block of the result and the state
  after them in the scratch buffer.
-/
module

public import proofs.«01_k».proof.Proof.GlaRuns

@[expose] public section

set_option maxRecDepth 16384

noncomputable section

namespace Cert.Proof.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_A (c : Dev nD) (i : grid0.Coords) (arg4 : Memref sig .tc .vmem S1x512x128 .f32) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x1x1x256x512 .f32) (harg10 : arg10.IsWhole) (arg11 : Memref sig .tc .vmem S1x1x512x512 .bf16) (harg11 : arg11.IsWhole) (arg12 : Memref sig .tc .vmem S1x1x1x256x512 .f32) (harg12 : arg12.IsWhole) (arg13 : Memref sig .tc .vmem S256x512 .f32) (harg13 : arg13.IsWhole) (hc0 : cond0_0 i) (hc1 : ¬cond0_1 i)
    (x0 : Vec F S1x512x128 .f32) (x1 : Vec F S1x512x256 .bf16) (x2 : Vec F S1x512x256 .bf16) (x3 : Vec F S1x512x512 .bf16) (x4 : Vec F S1x128x256 .f32) (x5 : Vec F S1x1x256 .f32) (x6 : Vec F S1x1x1x256x512 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg13 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (outB i x4 x5 x0 x1 x2 x3 (k0_pay1 x6)) ∗ owns (c : Thread nD τ) arg13 fullShare (St i x4 x5 x0 x2 x3 (k0_pay1 x6) k0_t1_loop.trips)) -∗ K ⟨⟩))
      ⊢ wp frame (wpE (defs₀ (F := F)) Variants.none c none) E (cc0_gla i arg4 harg4 arg5 harg5 arg6 harg6 arg7 harg7 arg8 harg8 arg9 harg9 arg10 harg10 arg11 harg11 arg12 harg12 arg13 harg13) K := by
  have hz5 : (![0, 0, 0, 0, 0] : Fin 5 → Nat) = fun _ => 0 := funext fun a => by match a with | ⟨0, _⟩ => rfl | ⟨1, _⟩ => rfl | ⟨2, _⟩ => rfl | ⟨3, _⟩ => rfl | ⟨4, _⟩ => rfl
  have hz3 : (![0, 0, 0] : Fin 3 → Nat) = fun _ => 0 := funext fun a => by match a with | ⟨0, _⟩ => rfl | ⟨1, _⟩ => rfl | ⟨2, _⟩ => rfl
  have hz2 : (![0, 0] : Fin 2 → Nat) = fun _ => 0 := funext fun a => by match a with | ⟨0, _⟩ => rfl | ⟨1, _⟩ => rfl
  have e10 : View.readAt (Elt F) arg10.view (Rect.unit (s := S1x1x1x256x512) ![0, 0, 0, 0, 0] S1x1x1x256x512.size inb_S1x1x1x256x512_S1x1x1x256x512_0_0_0_0_0).toLoadRect (harg10.unread x6) = x6 := by
    rw [View.readAt_eq_ld, harg10.read_unread]; exact View.ld_unit_zero hz5 _ _
  have e8 : View.readAt (Elt F) arg8.view (Rect.unit (s := S1x128x256) ![0, 0, 0] S1x128x256.size inb_S1x128x256_S1x128x256_0_0_0).toLoadRect (harg8.unread x4) = x4 := by
    rw [View.readAt_eq_ld, harg8.read_unread]; exact View.ld_unit_zero hz3 _ _
  have e9 : View.readAt (Elt F) arg9.view (Rect.unit (s := S1x1x256) ![0, 0, 0] S1x1x256.size inb_S1x1x256_S1x1x256_0_0_0).toLoadRect (harg9.unread x5) = x5 := by
    rw [View.readAt_eq_ld, harg9.read_unread]; exact View.ld_unit_zero hz3 _ _
  simp only [cc0_gla_eq_skeleton]; unfold cc0_gla_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6

  sl_exec (disch := first | sl_exact hc0 | sl_exact hc1)
  sl_step
  try sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; swap; · iexact H7
    ipureintro
    refine out_val _ _ _ i arg4 harg4 arg5 harg5 arg6 harg6 arg7 harg7 arg8 harg8 arg9 harg9 arg10 harg10 arg11 harg11 arg12 harg12 arg13 harg13 x4 x5 x0 x1 x2 x3 _ _ _ ?_
    sl_unfold_words; exact View.read_writes_full _ _ _ _ _
  iexists _; isplitr; swap; · iexact HS0
  ipureintro
  rw [View.writes_append]
  refine st_val _ _ _ i arg4 harg4 arg5 harg5 arg6 harg6 arg7 harg7 arg8 harg8 arg9 harg9 arg10 harg10 arg11 harg11 arg12 harg12 arg13 harg13 x4 x5 x0 x1 x2 x3 _ _ _ ?_
  sl_unfold_words; exact View.read_writes_full _ _ _ _ _

end Cert.Proof.Gla

end
-- ==== Proof.GlaRunB.lean ====
/-
  The body of the recurrence kernel, case B: it leaves the eight chunks' rows in the block of the result and the state
  after them in the scratch buffer.
-/
module

public import proofs.«01_k».proof.Proof.GlaRunA

@[expose] public section

set_option maxRecDepth 16384

noncomputable section

namespace Cert.Proof.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_B (c : Dev nD) (i : grid0.Coords) (arg4 : Memref sig .tc .vmem S1x512x128 .f32) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x1x1x256x512 .f32) (harg10 : arg10.IsWhole) (arg11 : Memref sig .tc .vmem S1x1x512x512 .bf16) (harg11 : arg11.IsWhole) (arg12 : Memref sig .tc .vmem S1x1x1x256x512 .f32) (harg12 : arg12.IsWhole) (arg13 : Memref sig .tc .vmem S256x512 .f32) (harg13 : arg13.IsWhole) (hc0 : ¬cond0_0 i) (hc1 : ¬cond0_1 i)
    (x0 : Vec F S1x512x128 .f32) (x1 : Vec F S1x512x256 .bf16) (x2 : Vec F S1x512x256 .bf16) (x3 : Vec F S1x512x512 .bf16) (x4 : Vec F S1x128x256 .f32) (x5 : Vec F S1x1x256 .f32) (x6 : Vec F S1x1x1x256x512 .f32) (xs : Vec F S256x512 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg13 fullShare xs
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (outB i x4 x5 x0 x1 x2 x3 (xs)) ∗ owns (c : Thread nD τ) arg13 fullShare (St i x4 x5 x0 x2 x3 (xs) k0_t1_loop.trips)) -∗ K ⟨⟩))
      ⊢ wp frame (wpE (defs₀ (F := F)) Variants.none c none) E (cc0_gla i arg4 harg4 arg5 harg5 arg6 harg6 arg7 harg7 arg8 harg8 arg9 harg9 arg10 harg10 arg11 harg11 arg12 harg12 arg13 harg13) K := by
  have hz5 : (![0, 0, 0, 0, 0] : Fin 5 → Nat) = fun _ => 0 := funext fun a => by match a with | ⟨0, _⟩ => rfl | ⟨1, _⟩ => rfl | ⟨2, _⟩ => rfl | ⟨3, _⟩ => rfl | ⟨4, _⟩ => rfl
  have hz3 : (![0, 0, 0] : Fin 3 → Nat) = fun _ => 0 := funext fun a => by match a with | ⟨0, _⟩ => rfl | ⟨1, _⟩ => rfl | ⟨2, _⟩ => rfl
  have hz2 : (![0, 0] : Fin 2 → Nat) = fun _ => 0 := funext fun a => by match a with | ⟨0, _⟩ => rfl | ⟨1, _⟩ => rfl
  have e10 : View.readAt (Elt F) arg10.view (Rect.unit (s := S1x1x1x256x512) ![0, 0, 0, 0, 0] S1x1x1x256x512.size inb_S1x1x1x256x512_S1x1x1x256x512_0_0_0_0_0).toLoadRect (harg10.unread x6) = x6 := by
    rw [View.readAt_eq_ld, harg10.read_unread]; exact View.ld_unit_zero hz5 _ _
  have e8 : View.readAt (Elt F) arg8.view (Rect.unit (s := S1x128x256) ![0, 0, 0] S1x128x256.size inb_S1x128x256_S1x128x256_0_0_0).toLoadRect (harg8.unread x4) = x4 := by
    rw [View.readAt_eq_ld, harg8.read_unread]; exact View.ld_unit_zero hz3 _ _
  have e9 : View.readAt (Elt F) arg9.view (Rect.unit (s := S1x1x256) ![0, 0, 0] S1x1x256.size inb_S1x1x256_S1x1x256_0_0_0).toLoadRect (harg9.unread x5) = x5 := by
    rw [View.readAt_eq_ld, harg9.read_unread]; exact View.ld_unit_zero hz3 _ _
  simp only [cc0_gla_eq_skeleton]; unfold cc0_gla_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  obtain rfl := harg13.eq_unread hfs0
  sl_exec (disch := first | sl_exact hc0 | sl_exact hc1)
  sl_step
  try sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; swap; · iexact H7
    ipureintro
    refine out_val _ _ _ i arg4 harg4 arg5 harg5 arg6 harg6 arg7 harg7 arg8 harg8 arg9 harg9 arg10 harg10 arg11 harg11 arg12 harg12 arg13 harg13 x4 x5 x0 x1 x2 x3 _ _ _ ?_
    exact harg13.read_unread _
  iexists _; isplitr; swap; · iexact HS0
  ipureintro

  refine st_val _ _ _ i arg4 harg4 arg5 harg5 arg6 harg6 arg7 harg7 arg8 harg8 arg9 harg9 arg10 harg10 arg11 harg11 arg12 harg12 arg13 harg13 x4 x5 x0 x1 x2 x3 _ _ _ ?_
  exact harg13.read_unread _

end Cert.Proof.Gla

end
-- ==== Proof.GlaRunC.lean ====
/-
  The body of the recurrence kernel, case C: it leaves the eight chunks' rows in the block of the result and the state
  after them in the scratch buffer.
-/
module

public import proofs.«01_k».proof.Proof.GlaRunB

@[expose] public section

set_option maxRecDepth 16384

noncomputable section

namespace Cert.Proof.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_C (c : Dev nD) (i : grid0.Coords) (arg4 : Memref sig .tc .vmem S1x512x128 .f32) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x512 .bf16) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x1x1x256x512 .f32) (harg10 : arg10.IsWhole) (arg11 : Memref sig .tc .vmem S1x1x512x512 .bf16) (harg11 : arg11.IsWhole) (arg12 : Memref sig .tc .vmem S1x1x1x256x512 .f32) (harg12 : arg12.IsWhole) (arg13 : Memref sig .tc .vmem S256x512 .f32) (harg13 : arg13.IsWhole) (hc0 : ¬cond0_0 i) (hc1 : cond0_1 i)
    (x0 : Vec F S1x512x128 .f32) (x1 : Vec F S1x512x256 .bf16) (x2 : Vec F S1x512x256 .bf16) (x3 : Vec F S1x512x512 .bf16) (x4 : Vec F S1x128x256 .f32) (x5 : Vec F S1x1x256 .f32) (x6 : Vec F S1x1x1x256x512 .f32) (xs : Vec F S256x512 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ owns (c : Thread nD τ) arg13 fullShare xs
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (outB i x4 x5 x0 x1 x2 x3 (xs)) ∗ owns (c : Thread nD τ) arg12 fullShare (k0_pay9 (St i x4 x5 x0 x2 x3 (xs) k0_t1_loop.trips)) ∗ owns (c : Thread nD τ) arg13 fullShare (St i x4 x5 x0 x2 x3 (xs) k0_t1_loop.trips)) -∗ K ⟨⟩))
      ⊢ wp frame (wpE (defs₀ (F := F)) Variants.none c none) E (cc0_gla i arg4 harg4 arg5 harg5 arg6 harg6 arg7 harg7 arg8 harg8 arg9 harg9 arg10 harg10 arg11 harg11 arg12 harg12 arg13 harg13) K := by
  have hz5 : (![0, 0, 0, 0, 0] : Fin 5 → Nat) = fun _ => 0 := funext fun a => by match a with | ⟨0, _⟩ => rfl | ⟨1, _⟩ => rfl | ⟨2, _⟩ => rfl | ⟨3, _⟩ => rfl | ⟨4, _⟩ => rfl
  have hz3 : (![0, 0, 0] : Fin 3 → Nat) = fun _ => 0 := funext fun a => by match a with | ⟨0, _⟩ => rfl | ⟨1, _⟩ => rfl | ⟨2, _⟩ => rfl
  have hz2 : (![0, 0] : Fin 2 → Nat) = fun _ => 0 := funext fun a => by match a with | ⟨0, _⟩ => rfl | ⟨1, _⟩ => rfl
  have e10 : View.readAt (Elt F) arg10.view (Rect.unit (s := S1x1x1x256x512) ![0, 0, 0, 0, 0] S1x1x1x256x512.size inb_S1x1x1x256x512_S1x1x1x256x512_0_0_0_0_0).toLoadRect (harg10.unread x6) = x6 := by
    rw [View.readAt_eq_ld, harg10.read_unread]; exact View.ld_unit_zero hz5 _ _
  have e8 : View.readAt (Elt F) arg8.view (Rect.unit (s := S1x128x256) ![0, 0, 0] S1x128x256.size inb_S1x128x256_S1x128x256_0_0_0).toLoadRect (harg8.unread x4) = x4 := by
    rw [View.readAt_eq_ld, harg8.read_unread]; exact View.ld_unit_zero hz3 _ _
  have e9 : View.readAt (Elt F) arg9.view (Rect.unit (s := S1x1x256) ![0, 0, 0] S1x1x256.size inb_S1x1x256_S1x1x256_0_0_0).toLoadRect (harg9.unread x5) = x5 := by
    rw [View.readAt_eq_ld, harg9.read_unread]; exact View.ld_unit_zero hz3 _ _
  simp only [cc0_gla_eq_skeleton]; unfold cc0_gla_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  obtain rfl := harg13.eq_unread hfs0
  sl_exec (disch := first | sl_exact hc0 | sl_exact hc1)
  sl_step
  try sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; swap; · iexact H7
    ipureintro
    refine out_val _ _ _ i arg4 harg4 arg5 harg5 arg6 harg6 arg7 harg7 arg8 harg8 arg9 harg9 arg10 harg10 arg11 harg11 arg12 harg12 arg13 harg13 x4 x5 x0 x1 x2 x3 _ _ _ ?_
    exact harg13.read_unread _
  isplitl [H8]
  · iexists _; isplitr; swap; · iexact H8
    ipureintro
    refine (View.read_writes_full _ _ _ _ _).trans (congrArg k0_pay9 ?_)
    sl_unfold_words
    rw [View.readAt_eq_ld]
    refine (View.ld_unit_zero hz2 _ _).trans ?_
    refine st_val _ _ _ i arg4 harg4 arg5 harg5 arg6 harg6 arg7 harg7 arg8 harg8 arg9 harg9 arg10 harg10 arg11 harg11 arg12 harg12 arg13 harg13 x4 x5 x0 x1 x2 x3 _ _ _ ?_
    exact harg13.read_unread _
  iexists _; isplitr; swap; · iexact HS0
  ipureintro

  refine st_val _ _ _ i arg4 harg4 arg5 harg5 arg6 harg6 arg7 harg7 arg8 harg8 arg9 harg9 arg10 harg10 arg11 harg11 arg12 harg12 arg13 harg13 x4 x5 x0 x1 x2 x3 _ _ _ ?_
  exact harg13.read_unread _

end Cert.Proof.Gla

end
-- ==== Proof.GlaFrame.lean ====
/-
  The recurrence kernel's run over the whole grid, with what every point leaves: the block of the result, the state in
  the scratch buffer and, at a sequence's last point, the block of the final state.
-/
module

public import proofs.«01_k».proof.Proof.GlaRunC
public import Idealize.ShloMosaic.Lib.Claim
public import Idealize.ShloMosaic.Lib.Quiescent

@[expose] public section

set_option maxRecDepth 16384

noncomputable section

namespace Cert.Proof.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state the body leaves at point `t`, from the state it begins the eight chunks with. -/
def stStep (c : Dev nD) (t : Fin cfg0.N) (S : Vec F S256x512 .f32) : Vec F S256x512 .f32 :=
  St (grid0.coords t) (iblk m c 4 t) (iblk m c 5 t) (iblk m c 0 t) (iblk m c 2 t) (iblk m c 3 t) S k0_t1_loop.trips

/-- The state after the body at position `n`. -/
def stAt (c : Dev nD) : (n : ℕ) → n < cfg0.N → Vec F S256x512 .f32
  | 0, h => stStep m c ⟨0, h⟩ (k0_pay1 (iblk m c 6 ⟨0, h⟩))
  | n + 1, h => stStep m c ⟨n + 1, h⟩ (if (n + 1) % 8 = 0 then k0_pay1 (iblk m c 6 ⟨n + 1, h⟩) else stAt c n (Nat.lt_of_succ_lt h))

/-- The state the body begins point `t`'s eight chunks with: the initial one at a sequence's first point. -/
def stIn (c : Dev nD) (t : Fin cfg0.N) : Vec F S256x512 .f32 :=
  if t.val % 8 = 0 then k0_pay1 (iblk m c 6 t) else stAt m c (t.val - 1) (Nat.lt_of_le_of_lt (Nat.sub_le _ _) t.isLt)

theorem stAt_eq (c : Dev nD) (t : Fin cfg0.N) : stAt m c t.val t.isLt = stStep m c t (stIn m c t) := by
  obtain ⟨n, hn⟩ := t
  cases n with
  | zero => show stAt m c 0 hn = _; unfold stAt stIn; rw [if_pos (Nat.zero_mod 8)]
  | succ n => show stAt m c (n + 1) hn = _; rw [stAt]; unfold stIn; dsimp only; rfl

/-- The block of the result point `t` leaves. -/
def oAt (c : Dev nD) (t : Fin cfg0.N) : Vec F S1x1x512x512 .bf16 :=
  outB (grid0.coords t) (iblk m c 4 t) (iblk m c 5 t) (iblk m c 0 t) (iblk m c 1 t) (iblk m c 2 t) (iblk m c 3 t) (stIn m c t)

/-- The invariant before position `n`: the scratch buffer at the state the point before left. -/
def PhiS (c : Dev nD) : (n : ℕ) → n ≤ cfg0.N → sProp 𝕄
  | 0, _ => Pipeline.ΦA spec0 c
  | n + 1, hn => iprop(iprop(owns (c : Thread nD τ) scM0_0 fullShare ((stAt m c n hn))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((stAt m c n hn))) ∗ (∃ r, prngReg c r)) := rfl

theorem PhiS_pos (c : Dev nD) (n : ℕ) (h : n ≤ cfg0.N) (hz : n ≠ 0) :
    PhiS m c n h = iprop(iprop(owns (c : Thread nD τ) scM0_0 fullShare ((stAt m c (n - 1) (by omega)))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oAt m c t
    | ⟨8, _⟩ => k0_pay9 (stAt m c t.val t.isLt)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = oAt m c t := by dsimp only [dats]
theorem after0_8 (c : Dev nD) (t : Fin cfg0.N) : (dats m 0 c).after 8 t = k0_pay9 (stAt m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem idleAt0_8 (t : Fin cfg0.N) (h : ¬t.val % 8 = 7) : cfg0.idle 8 (grid0.coords t) = true := by
  have hc : ¬ k0_cond2 (grid0.coords t) = 1#1 := fun h' => h ((hcond0_1 t).mp h')
  show (!(k0_cond2 (grid0.coords t) == 1#1)) = true
  rw [beq_false_of_ne hc]; rfl
theorem liveAt0_8 (t : Fin cfg0.N) (h : t.val % 8 = 7) : cfg0.idle 8 (grid0.coords t) = false := by
  have hc : k0_cond2 (grid0.coords t) = 1#1 := (hcond0_1 t).mpr h
  show (!(k0_cond2 (grid0.coords t) == 1#1)) = false
  rw [hc]; rfl
theorem noflush0_8 (t : Fin cfg0.N) (h : ¬t.val % 8 = 7) : (cfg0.win 8).flush t = false := by
  rcases hb : (cfg0.win 8).flush t with _ | _
  · rfl
  · exact absurd ((flush0_8 t).mp hb) h

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  rw [stAt_eq m c t]
  unfold oAt
  by_cases h0 : t.val % 8 = 0
  · have h1 : ¬t.val % 8 = 7 := by omega
    have hS : stIn m c t = k0_pay1 (iblk m c 6 t) := if_pos h0
    rw [(dats m 0 c).leavesExact_idle 8 t (idleAt0_8 t h1) (noflush0_8 t h1), hS]
    unfold stStep
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := by intro h; omega
    have hS : stIn m c t = stAt m c (t.val - 1) (Nat.lt_of_le_of_lt (Nat.sub_le _ _) t.isLt) := if_neg h0
    rw [PhiS_castSucc m c t, PhiS_pos m c _ _ hz, hS]
    by_cases h1 : t.val % 8 = 7
    · rw [show (dats m 0 c).leavesExact 8 t = owns (c : Thread nD τ) (ms0_8 t) fullShare ((dats m 0 c).after 8 t) from by
        unfold Dat.leavesExact; rw [liveAt0_8 t h1], after0_8, stAt_eq m c t, hS]
      unfold stStep
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, H7, H8, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [(dats m 0 c).leavesExact_idle 8 t (idleAt0_8 t h1) (noflush0_8 t h1)]
      unfold stStep
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

set_option backward.isDefEq.respectTransparency.types false in
/-- The launch: every run ends with the arrays at what the data name and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Gla

end
-- ==== Proof.GlaRefFrame.lean ====
/-
  The recurrence's reference leaves its arguments as they are.
-/
module

public import proofs.«01_k».proof.Defs
public import proofs.«01_k».proof.Proof.Gen.ReferenceIdeal.Run
public import Idealize.ShloMosaic.Lib.Quiescent

@[expose] public section

set_option maxRecDepth 16384

noncomputable section

namespace Cert.ReferenceIdeal.GV

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F] (m : (ℓ : Loc nD τ sig) → Buf (Elt F) ℓ) (ρ : Dev nD → PrngReg)

/-- A trip keeps a buffer neither the condition nor the body writes. -/
theorem atK_keep (c : Dev nD) (b : Ref sig .tc) (hc : ∀ V : Valuation τ sig (Elt F), after condOps V (Proc.devRef .tc b) = V (Proc.devRef .tc b))
    (hb : ∀ V : Valuation τ sig (Elt F), afterL bodyI V (Proc.devRef .tc b) = V (Proc.devRef .tc b)) :
    ∀ k, atK m k c (Proc.devRef .tc b) = entryContents preI m c (Proc.devRef .tc b)
  | 0 => rfl
  | k + 1 => ((hb _).trans (hc _)).trans (atK_keep c b hc hb k)

/-- The buffers a stretch after the loop writes. -/
abbrev hostOps0_19_W : List (Ref sig .tc) := [main_v79, main_v80, main_v81, main_v82, main_v83]
theorem hostOps0_19_writes : (hostOps0_19 : List (HloOp τ sig (Elt F))).Forall fun op => op.writes ⊆ (hostOps0_19_W.map (Proc.devRef (τ := τ) .tc)).toFinset :=
  StableHlo.forall_writes_sub_of_map rfl
/-- The buffers a stretch after the loop writes. -/
abbrev hostOps0_20_W : List (Ref sig .tc) := [main_v84]
theorem hostOps0_20_writes : (hostOps0_20 : List (HloOp τ sig (Elt F))).Forall fun op => op.writes ⊆ (hostOps0_20_W.map (Proc.devRef (τ := τ) .tc)).toFinset :=
  StableHlo.forall_writes_sub_of_map rfl
/-- The buffers a stretch after the loop writes. -/
abbrev hostOps0_21_W : List (Ref sig .tc) := [main_v85, main_v86, main_v87, main_v88, main_v89]
theorem hostOps0_21_writes : (hostOps0_21 : List (HloOp τ sig (Elt F))).Forall fun op => op.writes ⊆ (hostOps0_21_W.map (Proc.devRef (τ := τ) .tc)).toFinset :=
  StableHlo.forall_writes_sub_of_map rfl
theorem pre_arg0 (V : Valuation τ sig (Elt F)) : afterL preI V (Proc.devRef .tc main_arg0) = V (Proc.devRef .tc main_arg0) := by
    simp only [afterL_cons, afterL_nil]
    rw [after_of_writes_sub hostOps0_18 _ hostOps0_18_writes (by decide), after_of_writes_sub hostOps0_17 _ hostOps0_17_writes (by decide), after_of_writes_sub hostOps0_16 _ hostOps0_16_writes (by decide), after_of_writes_sub hostOps0_15 _ hostOps0_15_writes (by decide), after_of_writes_sub hostOps0_14 _ hostOps0_14_writes (by decide), after_of_writes_sub hostOps0_13 _ hostOps0_13_writes (by decide), after_of_writes_sub hostOps0_12 _ hostOps0_12_writes (by decide), after_of_writes_sub hostOps0_11 _ hostOps0_11_writes (by decide), after_of_writes_sub hostOps0_10 _ hostOps0_10_writes (by decide), after_of_writes_sub hostOps0_9 _ hostOps0_9_writes (by decide), after_of_writes_sub hostOps0_8 _ hostOps0_8_writes (by decide), after_of_writes_sub hostOps0_7 _ hostOps0_7_writes (by decide), after_of_writes_sub hostOps0_6 _ hostOps0_6_writes (by decide), after_of_writes_sub hostOps0_5 _ hostOps0_5_writes (by decide), after_of_writes_sub hostOps0_4 _ hostOps0_4_writes (by decide), after_of_writes_sub hostOps0_3 _ hostOps0_3_writes (by decide), after_of_writes_sub hostOps0_2 _ hostOps0_2_writes (by decide), after_of_writes_sub hostOps0_1 _ hostOps0_1_writes (by decide), after_of_writes_sub hostOps0 _ hostOps0_writes (by decide)]
theorem body_arg0 (V : Valuation τ sig (Elt F)) : afterL bodyI V (Proc.devRef .tc main_arg0) = V (Proc.devRef .tc main_arg0) := by
    simp only [afterL_cons, afterL_nil]
    rw [after_of_writes_sub while0Ops0_6 _ while0Ops0_6_writes (by decide), after_of_writes_sub while0Ops0_5 _ while0Ops0_5_writes (by decide), after_of_writes_sub while0Ops0_4 _ while0Ops0_4_writes (by decide), after_of_writes_sub while0Ops0_3 _ while0Ops0_3_writes (by decide), after_of_writes_sub while0Ops0_2 _ while0Ops0_2_writes (by decide), after_of_writes_sub while0Ops0_1 _ while0Ops0_1_writes (by decide), after_of_writes_sub while0Ops0 _ while0Ops0_writes (by decide)]
theorem post_arg0 (V : Valuation τ sig (Elt F)) : afterL postI V (Proc.devRef .tc main_arg0) = V (Proc.devRef .tc main_arg0) := by
    simp only [afterL_cons, afterL_nil]
    rw [after_of_writes_sub hostOps0_21 _ hostOps0_21_writes (by decide), after_of_writes_sub hostOps0_20 _ hostOps0_20_writes (by decide), after_of_writes_sub hostOps0_19 _ hostOps0_19_writes (by decide)]
theorem final_arg0 (c : Dev nD) : finalContents condOps preI bodyI postI 64 m c (Proc.devRef .tc main_arg0) = m ((c.tc : Thread nD τ).loc main_arg0) :=
  (post_arg0 _).trans ((after_of_writes_sub condOps _ condOps_writes (by decide)).trans ((atK_keep m c main_arg0 (fun V => after_of_writes_sub condOps V condOps_writes (by decide)) body_arg0 64).trans (pre_arg0 _)))

theorem pre_arg1 (V : Valuation τ sig (Elt F)) : afterL preI V (Proc.devRef .tc main_arg1) = V (Proc.devRef .tc main_arg1) := by
    simp only [afterL_cons, afterL_nil]
    rw [after_of_writes_sub hostOps0_18 _ hostOps0_18_writes (by decide), after_of_writes_sub hostOps0_17 _ hostOps0_17_writes (by decide), after_of_writes_sub hostOps0_16 _ hostOps0_16_writes (by decide), after_of_writes_sub hostOps0_15 _ hostOps0_15_writes (by decide), after_of_writes_sub hostOps0_14 _ hostOps0_14_writes (by decide), after_of_writes_sub hostOps0_13 _ hostOps0_13_writes (by decide), after_of_writes_sub hostOps0_12 _ hostOps0_12_writes (by decide), after_of_writes_sub hostOps0_11 _ hostOps0_11_writes (by decide), after_of_writes_sub hostOps0_10 _ hostOps0_10_writes (by decide), after_of_writes_sub hostOps0_9 _ hostOps0_9_writes (by decide), after_of_writes_sub hostOps0_8 _ hostOps0_8_writes (by decide), after_of_writes_sub hostOps0_7 _ hostOps0_7_writes (by decide), after_of_writes_sub hostOps0_6 _ hostOps0_6_writes (by decide), after_of_writes_sub hostOps0_5 _ hostOps0_5_writes (by decide), after_of_writes_sub hostOps0_4 _ hostOps0_4_writes (by decide), after_of_writes_sub hostOps0_3 _ hostOps0_3_writes (by decide), after_of_writes_sub hostOps0_2 _ hostOps0_2_writes (by decide), after_of_writes_sub hostOps0_1 _ hostOps0_1_writes (by decide), after_of_writes_sub hostOps0 _ hostOps0_writes (by decide)]
theorem body_arg1 (V : Valuation τ sig (Elt F)) : afterL bodyI V (Proc.devRef .tc main_arg1) = V (Proc.devRef .tc main_arg1) := by
    simp only [afterL_cons, afterL_nil]
    rw [after_of_writes_sub while0Ops0_6 _ while0Ops0_6_writes (by decide), after_of_writes_sub while0Ops0_5 _ while0Ops0_5_writes (by decide), after_of_writes_sub while0Ops0_4 _ while0Ops0_4_writes (by decide), after_of_writes_sub while0Ops0_3 _ while0Ops0_3_writes (by decide), after_of_writes_sub while0Ops0_2 _ while0Ops0_2_writes (by decide), after_of_writes_sub while0Ops0_1 _ while0Ops0_1_writes (by decide), after_of_writes_sub while0Ops0 _ while0Ops0_writes (by decide)]
theorem post_arg1 (V : Valuation τ sig (Elt F)) : afterL postI V (Proc.devRef .tc main_arg1) = V (Proc.devRef .tc main_arg1) := by
    simp only [afterL_cons, afterL_nil]
    rw [after_of_writes_sub hostOps0_21 _ hostOps0_21_writes (by decide), after_of_writes_sub hostOps0_20 _ hostOps0_20_writes (by decide), after_of_writes_sub hostOps0_19 _ hostOps0_19_writes (by decide)]
theorem final_arg1 (c : Dev nD) : finalContents condOps preI bodyI postI 64 m c (Proc.devRef .tc main_arg1) = m ((c.tc : Thread nD τ).loc main_arg1) :=
  (post_arg1 _).trans ((after_of_writes_sub condOps _ condOps_writes (by decide)).trans ((atK_keep m c main_arg1 (fun V => after_of_writes_sub condOps V condOps_writes (by decide)) body_arg1 64).trans (pre_arg1 _)))

theorem pre_arg2 (V : Valuation τ sig (Elt F)) : afterL preI V (Proc.devRef .tc main_arg2) = V (Proc.devRef .tc main_arg2) := by
    simp only [afterL_cons, afterL_nil]
    rw [after_of_writes_sub hostOps0_18 _ hostOps0_18_writes (by decide), after_of_writes_sub hostOps0_17 _ hostOps0_17_writes (by decide), after_of_writes_sub hostOps0_16 _ hostOps0_16_writes (by decide), after_of_writes_sub hostOps0_15 _ hostOps0_15_writes (by decide), after_of_writes_sub hostOps0_14 _ hostOps0_14_writes (by decide), after_of_writes_sub hostOps0_13 _ hostOps0_13_writes (by decide), after_of_writes_sub hostOps0_12 _ hostOps0_12_writes (by decide), after_of_writes_sub hostOps0_11 _ hostOps0_11_writes (by decide), after_of_writes_sub hostOps0_10 _ hostOps0_10_writes (by decide), after_of_writes_sub hostOps0_9 _ hostOps0_9_writes (by decide), after_of_writes_sub hostOps0_8 _ hostOps0_8_writes (by decide), after_of_writes_sub hostOps0_7 _ hostOps0_7_writes (by decide), after_of_writes_sub hostOps0_6 _ hostOps0_6_writes (by decide), after_of_writes_sub hostOps0_5 _ hostOps0_5_writes (by decide), after_of_writes_sub hostOps0_4 _ hostOps0_4_writes (by decide), after_of_writes_sub hostOps0_3 _ hostOps0_3_writes (by decide), after_of_writes_sub hostOps0_2 _ hostOps0_2_writes (by decide), after_of_writes_sub hostOps0_1 _ hostOps0_1_writes (by decide), after_of_writes_sub hostOps0 _ hostOps0_writes (by decide)]
theorem body_arg2 (V : Valuation τ sig (Elt F)) : afterL bodyI V (Proc.devRef .tc main_arg2) = V (Proc.devRef .tc main_arg2) := by
    simp only [afterL_cons, afterL_nil]
    rw [after_of_writes_sub while0Ops0_6 _ while0Ops0_6_writes (by decide), after_of_writes_sub while0Ops0_5 _ while0Ops0_5_writes (by decide), after_of_writes_sub while0Ops0_4 _ while0Ops0_4_writes (by decide), after_of_writes_sub while0Ops0_3 _ while0Ops0_3_writes (by decide), after_of_writes_sub while0Ops0_2 _ while0Ops0_2_writes (by decide), after_of_writes_sub while0Ops0_1 _ while0Ops0_1_writes (by decide), after_of_writes_sub while0Ops0 _ while0Ops0_writes (by decide)]
theorem post_arg2 (V : Valuation τ sig (Elt F)) : afterL postI V (Proc.devRef .tc main_arg2) = V (Proc.devRef .tc main_arg2) := by
    simp only [afterL_cons, afterL_nil]
    rw [after_of_writes_sub hostOps0_21 _ hostOps0_21_writes (by decide), after_of_writes_sub hostOps0_20 _ hostOps0_20_writes (by decide), after_of_writes_sub hostOps0_19 _ hostOps0_19_writes (by decide)]
theorem final_arg2 (c : Dev nD) : finalContents condOps preI bodyI postI 64 m c (Proc.devRef .tc main_arg2) = m ((c.tc : Thread nD τ).loc main_arg2) :=
  (post_arg2 _).trans ((after_of_writes_sub condOps _ condOps_writes (by decide)).trans ((atK_keep m c main_arg2 (fun V => after_of_writes_sub condOps V condOps_writes (by decide)) body_arg2 64).trans (pre_arg2 _)))

theorem pre_arg3 (V : Valuation τ sig (Elt F)) : afterL preI V (Proc.devRef .tc main_arg3) = V (Proc.devRef .tc main_arg3) := by
    simp only [afterL_cons, afterL_nil]
    rw [after_of_writes_sub hostOps0_18 _ hostOps0_18_writes (by decide), after_of_writes_sub hostOps0_17 _ hostOps0_17_writes (by decide), after_of_writes_sub hostOps0_16 _ hostOps0_16_writes (by decide), after_of_writes_sub hostOps0_15 _ hostOps0_15_writes (by decide), after_of_writes_sub hostOps0_14 _ hostOps0_14_writes (by decide), after_of_writes_sub hostOps0_13 _ hostOps0_13_writes (by decide), after_of_writes_sub hostOps0_12 _ hostOps0_12_writes (by decide), after_of_writes_sub hostOps0_11 _ hostOps0_11_writes (by decide), after_of_writes_sub hostOps0_10 _ hostOps0_10_writes (by decide), after_of_writes_sub hostOps0_9 _ hostOps0_9_writes (by decide), after_of_writes_sub hostOps0_8 _ hostOps0_8_writes (by decide), after_of_writes_sub hostOps0_7 _ hostOps0_7_writes (by decide), after_of_writes_sub hostOps0_6 _ hostOps0_6_writes (by decide), after_of_writes_sub hostOps0_5 _ hostOps0_5_writes (by decide), after_of_writes_sub hostOps0_4 _ hostOps0_4_writes (by decide), after_of_writes_sub hostOps0_3 _ hostOps0_3_writes (by decide), after_of_writes_sub hostOps0_2 _ hostOps0_2_writes (by decide), after_of_writes_sub hostOps0_1 _ hostOps0_1_writes (by decide), after_of_writes_sub hostOps0 _ hostOps0_writes (by decide)]
theorem body_arg3 (V : Valuation τ sig (Elt F)) : afterL bodyI V (Proc.devRef .tc main_arg3) = V (Proc.devRef .tc main_arg3) := by
    simp only [afterL_cons, afterL_nil]
    rw [after_of_writes_sub while0Ops0_6 _ while0Ops0_6_writes (by decide), after_of_writes_sub while0Ops0_5 _ while0Ops0_5_writes (by decide), after_of_writes_sub while0Ops0_4 _ while0Ops0_4_writes (by decide), after_of_writes_sub while0Ops0_3 _ while0Ops0_3_writes (by decide), after_of_writes_sub while0Ops0_2 _ while0Ops0_2_writes (by decide), after_of_writes_sub while0Ops0_1 _ while0Ops0_1_writes (by decide), after_of_writes_sub while0Ops0 _ while0Ops0_writes (by decide)]
theorem post_arg3 (V : Valuation τ sig (Elt F)) : afterL postI V (Proc.devRef .tc main_arg3) = V (Proc.devRef .tc main_arg3) := by
    simp only [afterL_cons, afterL_nil]
    rw [after_of_writes_sub hostOps0_21 _ hostOps0_21_writes (by decide), after_of_writes_sub hostOps0_20 _ hostOps0_20_writes (by decide), after_of_writes_sub hostOps0_19 _ hostOps0_19_writes (by decide)]
theorem final_arg3 (c : Dev nD) : finalContents condOps preI bodyI postI 64 m c (Proc.devRef .tc main_arg3) = m ((c.tc : Thread nD τ).loc main_arg3) :=
  (post_arg3 _).trans ((after_of_writes_sub condOps _ condOps_writes (by decide)).trans ((atK_keep m c main_arg3 (fun V => after_of_writes_sub condOps V condOps_writes (by decide)) body_arg3 64).trans (pre_arg3 _)))

theorem pre_arg4 (V : Valuation τ sig (Elt F)) : afterL preI V (Proc.devRef .tc main_arg4) = V (Proc.devRef .tc main_arg4) := by
    simp only [afterL_cons, afterL_nil]
    rw [after_of_writes_sub hostOps0_18 _ hostOps0_18_writes (by decide), after_of_writes_sub hostOps0_17 _ hostOps0_17_writes (by decide), after_of_writes_sub hostOps0_16 _ hostOps0_16_writes (by decide), after_of_writes_sub hostOps0_15 _ hostOps0_15_writes (by decide), after_of_writes_sub hostOps0_14 _ hostOps0_14_writes (by decide), after_of_writes_sub hostOps0_13 _ hostOps0_13_writes (by decide), after_of_writes_sub hostOps0_12 _ hostOps0_12_writes (by decide), after_of_writes_sub hostOps0_11 _ hostOps0_11_writes (by decide), after_of_writes_sub hostOps0_10 _ hostOps0_10_writes (by decide), after_of_writes_sub hostOps0_9 _ hostOps0_9_writes (by decide), after_of_writes_sub hostOps0_8 _ hostOps0_8_writes (by decide), after_of_writes_sub hostOps0_7 _ hostOps0_7_writes (by decide), after_of_writes_sub hostOps0_6 _ hostOps0_6_writes (by decide), after_of_writes_sub hostOps0_5 _ hostOps0_5_writes (by decide), after_of_writes_sub hostOps0_4 _ hostOps0_4_writes (by decide), after_of_writes_sub hostOps0_3 _ hostOps0_3_writes (by decide), after_of_writes_sub hostOps0_2 _ hostOps0_2_writes (by decide), after_of_writes_sub hostOps0_1 _ hostOps0_1_writes (by decide), after_of_writes_sub hostOps0 _ hostOps0_writes (by decide)]
theorem body_arg4 (V : Valuation τ sig (Elt F)) : afterL bodyI V (Proc.devRef .tc main_arg4) = V (Proc.devRef .tc main_arg4) := by
    simp only [afterL_cons, afterL_nil]
    rw [after_of_writes_sub while0Ops0_6 _ while0Ops0_6_writes (by decide), after_of_writes_sub while0Ops0_5 _ while0Ops0_5_writes (by decide), after_of_writes_sub while0Ops0_4 _ while0Ops0_4_writes (by decide), after_of_writes_sub while0Ops0_3 _ while0Ops0_3_writes (by decide), after_of_writes_sub while0Ops0_2 _ while0Ops0_2_writes (by decide), after_of_writes_sub while0Ops0_1 _ while0Ops0_1_writes (by decide), after_of_writes_sub while0Ops0 _ while0Ops0_writes (by decide)]
theorem post_arg4 (V : Valuation τ sig (Elt F)) : afterL postI V (Proc.devRef .tc main_arg4) = V (Proc.devRef .tc main_arg4) := by
    simp only [afterL_cons, afterL_nil]
    rw [after_of_writes_sub hostOps0_21 _ hostOps0_21_writes (by decide), after_of_writes_sub hostOps0_20 _ hostOps0_20_writes (by decide), after_of_writes_sub hostOps0_19 _ hostOps0_19_writes (by decide)]
theorem final_arg4 (c : Dev nD) : finalContents condOps preI bodyI postI 64 m c (Proc.devRef .tc main_arg4) = m ((c.tc : Thread nD τ).loc main_arg4) :=
  (post_arg4 _).trans ((after_of_writes_sub condOps _ condOps_writes (by decide)).trans ((atK_keep m c main_arg4 (fun V => after_of_writes_sub condOps V condOps_writes (by decide)) body_arg4 64).trans (pre_arg4 _)))

theorem frame : θ_run (defs (F := F)) (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h c main_arg0 (by decide)).trans (final_arg0 m c), (h c main_arg1 (by decide)).trans (final_arg1 m c), (h c main_arg2 (by decide)).trans (final_arg2 m c), (h c main_arg3 (by decide)).trans (final_arg3 m c), (h c main_arg4 (by decide)).trans (final_arg4 m c)⟩,
      Idealize.ShloMosaic.sem_eq_zero_of_no_sems (by decide) r.2⟩)
    (run_fold m ρ)

end Cert.ReferenceIdeal.GV

namespace Cert.Proof.GlaRefFrame

theorem frame_ri : Cert.quiescent_ReferenceIdeal := fun m ρ _ => Cert.ReferenceIdeal.GV.frame m ρ

end Cert.Proof.GlaRefFrame

end
-- ==== Proof.InTrip.lean ====
/-
  One trip of the input projection's counted loop, as functions of the blocks it reads: the normalised rows it stores
  in the scratch buffer (`hnP`) and the low-rank rows it stores in the block of the second result (`lrP`); and the
  contents of both buffers after the four trips (`hnB`, `lrB`).
-/
module

public import proofs.«01_k».proof.Proof.Gen.Kernel2Ideal.Frame
public import proofs.«01_k».proof.Proof.Gen.Kernel2Ideal.Loops
public import Idealize.ShloMosaic.Lib.VecWindow
public import Idealize.ShloMosaic.Lib.Pipeline.Value
public import Idealize.ShloMosaic.Lib.WritesUnit
public import Idealize.ShloMosaic.Lib.Tactic
public import Idealize.ShloMosaic.Lib.Pointwise

@[expose] public section

set_option maxRecDepth 16384

noncomputable section

namespace Cert.Proof.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem trips4 : k0_t1_loop.trips = 4 := by decide +kernel

theorem off1_eq (k : Fin k0_t1_loop.trips) : k0_off1 k = ![256 * k.val, 0] := by
  have h : ∀ b : Fin 4, (Scalar.indexCast (Scalar.muli (Scf.iv 0#32 1#32 b.val) 256#32)).toNat = 256 * b.val := by decide +kernel
  exact congrArg (fun z => ![z, 0]) (h (k.cast trips4))

theorem off2_eq (k : Fin k0_t1_loop.trips) : k0_off2 k = ![256 * k.val, 0] := off1_eq k

theorem inb1 (k : Fin k0_t1_loop.trips) : ∀ a, k0_off1 k a + S256x2048.size a ≤ S1024x2048.size a := by
  rw [off1_eq]
  have := k.isLt
  have h4 := trips4
  intro a
  match a with
  | ⟨0, _⟩ => show 256 * k.val + 256 ≤ 1024; omega
  | ⟨1, _⟩ => show 0 + _ ≤ _; exact le_of_eq (Nat.zero_add _)

theorem inb2 (k : Fin k0_t1_loop.trips) : ∀ a, k0_off2 k a + S256x128.size a ≤ S1024x128.size a := by
  rw [off2_eq]
  have := k.isLt
  have h4 := trips4
  intro a
  match a with
  | ⟨0, _⟩ => show 256 * k.val + 256 ≤ 1024; omega
  | ⟨1, _⟩ => show 0 + _ ≤ _; exact le_of_eq (Nat.zero_add _)

section Trip
variable (x0 : Vec F S1024x2048 .f32) (x1 x2 : Vec F S1x1x2048 .f32) (x3 : Vec F S1x2048 .f32) (x5 : Vec F S2048x128 .f32)

/-- The rows trip `k` reads. -/
def ldX (k : Fin k0_t1_loop.trips) : Vec F S256x2048 .f32 :=
  View.ld x0 (Rect.unit (s := S1024x2048) (k0_off1 k) S256x2048.size (inb1 k))

/-- The normalised rows trip `k` stores. -/
def hnP (k : Fin k0_t1_loop.trips) : Vec F S256x2048 .bf16 := k0_pay6 (k0_pay1 x1) (ldX x0 k) x3 x2

/-- The low-rank rows trip `k` stores. -/
def lrP (k : Fin k0_t1_loop.trips) : Vec F S256x128 .f32 :=
  k0_pay3 (k0_pay9 (k0_pay1 x1) (k0_pay2 x5) (ldX x0 k) x3 x2) (k0_pay10 (k0_pay1 x1) (k0_pay2 x5) (ldX x0 k) x3 x2) (k0_pay11 (k0_pay1 x1) (k0_pay2 x5) (ldX x0 k) x3 x2)

/-- The pieces the first `n` trips write into the block of the second result, the last first. -/
def lrL : ℕ → List (View.Piece (Elt F) S1024x128 .f32)
  | 0 => []
  | n + 1 => if h : n < k0_t1_loop.trips then
      ⟨Rect.unit (s := S1024x128) (k0_off2 ⟨n, h⟩) S256x128.size (inb2 ⟨n, h⟩), lrP x0 x1 x2 x3 x5 ⟨n, h⟩⟩ :: lrL n
    else lrL n

/-- The pieces the first `n` trips write into the scratch buffer, the last first. -/
def hnL : ℕ → List (View.Piece (Elt F) S1024x2048 .bf16)
  | 0 => []
  | n + 1 => if h : n < k0_t1_loop.trips then
      ⟨Rect.unit (s := S1024x2048) (k0_off1 ⟨n, h⟩) S256x2048.size (inb1 ⟨n, h⟩), hnP x0 x1 x2 x3 ⟨n, h⟩⟩ :: hnL n
    else hnL n

theorem lrL_succ (k : Fin k0_t1_loop.trips) :
    lrL x0 x1 x2 x3 x5 (k.val + 1) = ⟨Rect.unit (s := S1024x128) (k0_off2 k) S256x128.size (inb2 k), lrP x0 x1 x2 x3 x5 k⟩ :: lrL x0 x1 x2 x3 x5 k.val := by
  rw [lrL]; exact dif_pos k.isLt

theorem hnL_succ (k : Fin k0_t1_loop.trips) :
    hnL x0 x1 x2 x3 (k.val + 1) = ⟨Rect.unit (s := S1024x2048) (k0_off1 k) S256x2048.size (inb1 k), hnP x0 x1 x2 x3 k⟩ :: hnL x0 x1 x2 x3 k.val := by
  rw [hnL]; exact dif_pos k.isLt

/-- The trip that works on row `R`. -/
def tripAt (R : Fin 1024) : Fin k0_t1_loop.trips := ⟨R.val / 256, by have := R.isLt; rw [trips4]; omega⟩

/-- The scratch buffer after the four trips. -/
def hnB : Vec F S1024x2048 .bf16 := fun y =>
  hnP x0 x1 x2 x3 (tripAt (y 0)) (ix2 (⟨(y 0).val % 256, Nat.mod_lt _ (by decide)⟩ : Fin 256) (y 1 : Fin 2048))

/-- The block of the second result after the four trips. -/
def lrB : Vec F S1024x128 .f32 := fun y =>
  lrP x0 x1 x2 x3 x5 (tripAt (y 0)) (ix2 (⟨(y 0).val % 256, Nat.mod_lt _ (by decide)⟩ : Fin 256) (y 1 : Fin 128))

theorem read_hn (v : View sig .tc .vmem S1024x2048 .bf16) (f : v.ty.Contents (Elt F)) :
    ∀ n, n ≤ k0_t1_loop.trips → ∀ (j : Fin k0_t1_loop.trips), j.val < n → ∀ (R : Fin 1024) (r : Fin 256) (e : Fin 2048),
      R.val = 256 * j.val + r.val →
      v.read (Elt F) (v.writes (Elt F) f (hnL x0 x1 x2 x3 n)) (ix2 R e) = hnP x0 x1 x2 x3 j (ix2 r e)
  | 0, _, j, hj, _, _, _, _ => absurd hj (Nat.not_lt_zero _)
  | n + 1, h, j, hj, R, r, e, hR => by
    have eo := hnL_succ x0 x1 x2 x3 ⟨n, h⟩
    dsimp only at eo
    rw [eo]
    by_cases hn : j.val = n
    · obtain rfl : j = ⟨n, h⟩ := Fin.ext hn
      generalize hnP x0 x1 x2 x3 ⟨n, h⟩ = w
      generalize hnL x0 x1 x2 x3 n = L
      refine View.read_writes_cons_unit_of_mem v f (inb1 ⟨n, h⟩) w L (ix2 R e) (ix2 r e : S256x2048.Idx) (off1_eq ⟨n, h⟩) ?_
      intro a
      match a with
      | ⟨0, _⟩ => exact hR
      | ⟨1, _⟩ => show e.val = 0 + e.val; omega
    · refine (View.read_writes_cons_unit_of_not_mem v f (inb1 ⟨n, h⟩) _ _ (ix2 R e) (off1_eq ⟨n, h⟩) (0 : Fin 2) ?_).trans
        (read_hn v f n (Nat.le_of_succ_le h) j (by omega) R r e hR)
      show R.val < 256 * n ∨ 256 * n + 256 ≤ R.val
      have hr := r.isLt
      omega

theorem read_lr (v : View sig .tc .vmem S1024x128 .f32) (f : v.ty.Contents (Elt F)) :
    ∀ n, n ≤ k0_t1_loop.trips → ∀ (j : Fin k0_t1_loop.trips), j.val < n → ∀ (R : Fin 1024) (r : Fin 256) (e : Fin 128),
      R.val = 256 * j.val + r.val →
      v.read (Elt F) (v.writes (Elt F) f (lrL x0 x1 x2 x3 x5 n)) (ix2 R e) = lrP x0 x1 x2 x3 x5 j (ix2 r e)
  | 0, _, j, hj, _, _, _, _ => absurd hj (Nat.not_lt_zero _)
  | n + 1, h, j, hj, R, r, e, hR => by
    have eo := lrL_succ x0 x1 x2 x3 x5 ⟨n, h⟩
    dsimp only at eo
    rw [eo]
    by_cases hn : j.val = n
    · obtain rfl : j = ⟨n, h⟩ := Fin.ext hn
      generalize lrP x0 x1 x2 x3 x5 ⟨n, h⟩ = w
      generalize lrL x0 x1 x2 x3 x5 n = L
      refine View.read_writes_cons_unit_of_mem v f (inb2 ⟨n, h⟩) w L (ix2 R e) (ix2 r e : S256x128.Idx) (off2_eq ⟨n, h⟩) ?_
      intro a
      match a with
      | ⟨0, _⟩ => exact hR
      | ⟨1, _⟩ => show e.val = 0 + e.val; omega
    · refine (View.read_writes_cons_unit_of_not_mem v f (inb2 ⟨n, h⟩) _ _ (ix2 R e) (off2_eq ⟨n, h⟩) (0 : Fin 2) ?_).trans
        (read_lr v f n (Nat.le_of_succ_le h) j (by omega) R r e hR)
      show R.val < 256 * n ∨ 256 * n + 256 ≤ R.val
      have hr := r.isLt
      omega

theorem read_hnB (v : View sig .tc .vmem S1024x2048 .bf16) (f : v.ty.Contents (Elt F)) :
    v.read (Elt F) (v.writes (Elt F) f (hnL x0 x1 x2 x3 k0_t1_loop.trips)) = hnB x0 x1 x2 x3 := by
  funext y
  obtain ⟨R, e, rfl⟩ : ∃ (R : Fin 1024) (e : Fin 2048), y = ix2 R e := ⟨y 0, y 1, eq_ix2 y⟩
  refine read_hn x0 x1 x2 x3 v f _ le_rfl (tripAt R) (tripAt R).isLt R ⟨R.val % 256, Nat.mod_lt _ (by decide)⟩ e ?_
  show R.val = 256 * (R.val / 256) + R.val % 256
  omega

theorem read_lrB (v : View sig .tc .vmem S1024x128 .f32) (f : v.ty.Contents (Elt F)) :
    v.read (Elt F) (v.writes (Elt F) f (lrL x0 x1 x2 x3 x5 k0_t1_loop.trips)) = lrB x0 x1 x2 x3 x5 := by
  funext y
  obtain ⟨R, e, rfl⟩ : ∃ (R : Fin 1024) (e : Fin 128), y = ix2 R e := ⟨y 0, y 1, eq_ix2 y⟩
  refine read_lr x0 x1 x2 x3 x5 v f _ le_rfl (tripAt R) (tripAt R).isLt R ⟨R.val % 256, Nat.mod_lt _ (by decide)⟩ e ?_
  show R.val = 256 * (R.val / 256) + R.val % 256
  omega

end Trip

set_option maxHeartbeats 4000000 in
theorem trip_pieces (𝒱 : Variants) (c : Dev nD) (bd : Option 𝒱.V) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (k0_h1 : k0_cond1 i = 1#1) (v9 : Vec F S1x1x2048 .f32) (v11 : Vec F S2048x128 .f32) (X_arg2 : BufTy.Contents (Elt F) arg2.view.ty) (X_arg4 : BufTy.Contents (Elt F) arg4.view.ty) (X_arg5 : BufTy.Contents (Elt F) arg5.view.ty) (k : Fin k0_t1_loop.trips) :
    (trip_k0_t1 (F := F) 𝒱 c bd i arg2 harg2 arg3 harg3 arg4 harg4 arg5 harg5 arg6 harg6 arg7 harg7 arg8 harg8 arg9 harg9 arg10 harg10 k0_h1 v9 v11 X_arg2 X_arg4 X_arg5 k).1
      = [⟨Rect.unit (s := S1024x128) (k0_off2 k) S256x128.size (inb2 k), lrP (arg2.view.read (Elt F) X_arg2) v9 (arg4.view.read (Elt F) X_arg4) (arg5.view.read (Elt F) X_arg5) v11 k⟩]
    ∧ (trip_k0_t1 (F := F) 𝒱 c bd i arg2 harg2 arg3 harg3 arg4 harg4 arg5 harg5 arg6 harg6 arg7 harg7 arg8 harg8 arg9 harg9 arg10 harg10 k0_h1 v9 v11 X_arg2 X_arg4 X_arg5 k).2.1
      = [⟨Rect.unit (s := S1024x2048) (k0_off1 k) S256x2048.size (inb1 k), hnP (arg2.view.read (Elt F) X_arg2) v9 (arg4.view.read (Elt F) X_arg4) (arg5.view.read (Elt F) X_arg5) k⟩] := by
  have hz3 : (![0, 0, 0] : Fin 3 → Nat) = fun _ => 0 := funext fun a => by match a with | ⟨0, _⟩ => rfl | ⟨1, _⟩ => rfl | ⟨2, _⟩ => rfl
  have hz2 : (![0, 0] : Fin 2 → Nat) = fun _ => 0 := funext fun a => by match a with | ⟨0, _⟩ => rfl | ⟨1, _⟩ => rfl
  have e5 : View.readAt (Elt F) arg5.view (Rect.unit (s := S1x2048) ![0, 0] S1x2048.size inb_S1x2048_S1x2048_0_0).toLoadRect X_arg5 = arg5.view.read (Elt F) X_arg5 := by
    rw [View.readAt_eq_ld]; exact View.ld_unit_zero hz2 _ _
  have e4 : View.readAt (Elt F) arg4.view (Rect.unit (s := S1x1x2048) ![0, 0, 0] S1x1x2048.size inb_S1x1x2048_S1x1x2048_0_0_0).toLoadRect X_arg4 = arg4.view.read (Elt F) X_arg4 := by
    rw [View.readAt_eq_ld]; exact View.ld_unit_zero hz3 _ _
  rw [← e4, ← e5]
  unfold lrP hnP ldX
  rw [← View.readAt_eq_ld]
  unfold trip_k0_t1
  dsimp only
  exact ⟨rfl, rfl⟩

set_option maxHeartbeats 400000 in
/-- The run's piece lists: what the first `n` trips write into the two buffers. -/
theorem pieces (𝒱 : Variants) (c : Dev nD) (bd : Option 𝒱.V) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (k0_h1 : k0_cond1 i = 1#1) (v9 : Vec F S1x1x2048 .f32) (v11 : Vec F S2048x128 .f32) (X_arg2 : BufTy.Contents (Elt F) arg2.view.ty) (X_arg4 : BufTy.Contents (Elt F) arg4.view.ty) (X_arg5 : BufTy.Contents (Elt F) arg5.view.ty) :
    ∀ n, n ≤ k0_t1_loop.trips →
      (pb_k0_t1 (F := F) 𝒱 c bd i arg2 harg2 arg3 harg3 arg4 harg4 arg5 harg5 arg6 harg6 arg7 harg7 arg8 harg8 arg9 harg9 arg10 harg10 k0_h1 v9 v11 X_arg2 X_arg4 X_arg5 n).1 = lrL (arg2.view.read (Elt F) X_arg2) v9 (arg4.view.read (Elt F) X_arg4) (arg5.view.read (Elt F) X_arg5) v11 n
      ∧ (pb_k0_t1 (F := F) 𝒱 c bd i arg2 harg2 arg3 harg3 arg4 harg4 arg5 harg5 arg6 harg6 arg7 harg7 arg8 harg8 arg9 harg9 arg10 harg10 k0_h1 v9 v11 X_arg2 X_arg4 X_arg5 n).2 = hnL (arg2.view.read (Elt F) X_arg2) v9 (arg4.view.read (Elt F) X_arg4) (arg5.view.read (Elt F) X_arg5) n
  | 0, _ => ⟨rfl, rfl⟩
  | n + 1, h => by
    obtain ⟨h1, h2⟩ := pieces 𝒱 c bd i arg2 harg2 arg3 harg3 arg4 harg4 arg5 harg5 arg6 harg6 arg7 harg7 arg8 harg8 arg9 harg9 arg10 harg10 k0_h1 v9 v11 X_arg2 X_arg4 X_arg5 n (Nat.le_of_succ_le h)
    obtain ⟨t1, t2⟩ := trip_pieces (F := F) 𝒱 c bd i arg2 harg2 arg3 harg3 arg4 harg4 arg5 harg5 arg6 harg6 arg7 harg7 arg8 harg8 arg9 harg9 arg10 harg10 k0_h1 v9 v11 X_arg2 X_arg4 X_arg5 ⟨n, h⟩
    have e := (pb_k0_t1_succ (F := F) 𝒱 c bd i arg2 harg2 arg3 harg3 arg4 harg4 arg5 harg5 arg6 harg6 arg7 harg7 arg8 harg8 arg9 harg9 arg10 harg10 k0_h1 v9 v11 X_arg2 X_arg4 X_arg5 ⟨n, h⟩)
    refine ⟨(congrArg Prod.fst e).trans ?_, (congrArg Prod.snd e).trans ?_⟩
    · exact (congrArg₂ (fun a b => a ++ b) t1 h1).trans (lrL_succ (arg2.view.read (Elt F) X_arg2) v9 (arg4.view.read (Elt F) X_arg4) (arg5.view.read (Elt F) X_arg5) v11 ⟨n, h⟩).symm
    · exact (congrArg₂ (fun a b => a ++ b) t2 h2).trans (hnL_succ (arg2.view.read (Elt F) X_arg2) v9 (arg4.view.read (Elt F) X_arg4) (arg5.view.read (Elt F) X_arg5) ⟨n, h⟩).symm

end Cert.Proof.Inproj
-- ==== Proof.InRuns.lean ====
/-
  What the runs of the input projection's body share: the branch condition in closed form over the points, the memrefs
  the body is called with, the invariant the scratch buffer is taken from, and what the loop leaves.
-/
module

public import proofs.«01_k».proof.Proof.InTrip

@[expose] public section

set_option maxRecDepth 16384

noncomputable section

namespace Cert.Proof.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 14) — by arithmetic of the point. -/
theorem hcond0_0 : ∀ t : Fin cfg0.N, cond0_0 (grid0.coords t) ↔ t.val % 14 = 0 :=
  (fun t => by
    have ht : t.val < 224 := Nat.lt_of_lt_of_eq t.isLt N_0
    have e0 : (grid0.coords t 0).val = t.val / 14 % 16 := Pipeline.Grid.coords_val t 0 (by decide) rfl
    have e1 : (grid0.coords t 1).val = t.val / 1 % 14 := Pipeline.Grid.coords_val t 1 (by decide) rfl
    simp only [cond0_0, k0_cond1, e0, e1]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x2048 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

theorem hn_val (𝒱 : Variants) (c : Dev nD) (bd : Option 𝒱.V) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (k0_h1 : k0_cond1 i = 1#1) (v9 : Vec F S1x1x2048 .f32) (v11 : Vec F S2048x128 .f32)
    (x0 : Vec F S1024x2048 .f32) (x2 : Vec F S1x1x2048 .f32) (x3 : Vec F S1x2048 .f32) (G : BufTy.Contents (Elt F) arg10.view.ty) :
    arg10.view.read (Elt F) (arg10.view.writes (Elt F) G (pb_k0_t1 (F := F) 𝒱 c bd i arg2 harg2 arg3 harg3 arg4 harg4 arg5 harg5 arg6 harg6 arg7 harg7 arg8 harg8 arg9 harg9 arg10 harg10 k0_h1 v9 v11 (harg2.unread x0) (harg4.unread x2) (harg5.unread x3) k0_t1_loop.trips).2) = hnB x0 v9 x2 x3 := by
  rw [(pieces 𝒱 c bd i arg2 harg2 arg3 harg3 arg4 harg4 arg5 harg5 arg6 harg6 arg7 harg7 arg8 harg8 arg9 harg9 arg10 harg10 k0_h1 v9 v11 (harg2.unread x0) (harg4.unread x2) (harg5.unread x3) _ le_rfl).2, read_hnB, harg2.read_unread, harg4.read_unread, harg5.read_unread]

theorem lr_val (𝒱 : Variants) (c : Dev nD) (bd : Option 𝒱.V) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (k0_h1 : k0_cond1 i = 1#1) (v9 : Vec F S1x1x2048 .f32) (v11 : Vec F S2048x128 .f32)
    (x0 : Vec F S1024x2048 .f32) (x2 : Vec F S1x1x2048 .f32) (x3 : Vec F S1x2048 .f32) (G : BufTy.Contents (Elt F) arg9.view.ty) :
    arg9.view.read (Elt F) (arg9.view.writes (Elt F) G (pb_k0_t1 (F := F) 𝒱 c bd i arg2 harg2 arg3 harg3 arg4 harg4 arg5 harg5 arg6 harg6 arg7 harg7 arg8 harg8 arg9 harg9 arg10 harg10 k0_h1 v9 v11 (harg2.unread x0) (harg4.unread x2) (harg5.unread x3) k0_t1_loop.trips).1) = lrB x0 v9 x2 x3 v11 := by
  rw [(pieces 𝒱 c bd i arg2 harg2 arg3 harg3 arg4 harg4 arg5 harg5 arg6 harg6 arg7 harg7 arg8 harg8 arg9 harg9 arg10 harg10 k0_h1 v9 v11 (harg2.unread x0) (harg4.unread x2) (harg5.unread x3) _ le_rfl).1, read_lrB, harg2.read_unread, harg4.read_unread, harg5.read_unread]

end Cert.Proof.Inproj

end
-- ==== Proof.InRunA.lean ====
/-
  The body of the input projection, case A: the normalised rows and the low-rank rows are computed and the tile of the product is stored.
-/
module

public import proofs.«01_k».proof.Proof.InRuns

@[expose] public section

set_option maxRecDepth 16384

noncomputable section

namespace Cert.Proof.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run_A (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x1x2048 .f32) (x2 : Vec F S1x1x2048 .f32) (x3 : Vec F S1x2048 .f32) (x4 : Vec F S2048x1024 .bf16) (x5 : Vec F S2048x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (hnB x0 x1 x2 x3) x4) ∗ owns (c : Thread nD τ) arg9 fullShare (lrB x0 x1 x2 x3 x5) ∗ owns (c : Thread nD τ) arg10 fullShare (hnB x0 x1 x2 x3)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  have hz3 : (![0, 0, 0] : Fin 3 → Nat) = fun _ => 0 := funext fun a => by match a with | ⟨0, _⟩ => rfl | ⟨1, _⟩ => rfl | ⟨2, _⟩ => rfl
  have hz2 : (![0, 0] : Fin 2 → Nat) = fun _ => 0 := funext fun a => by match a with | ⟨0, _⟩ => rfl | ⟨1, _⟩ => rfl
  have e3 : View.readAt (Elt F) arg3.view (Rect.unit (s := S1x1x2048) ![0, 0, 0] S1x1x2048.size inb_S1x1x2048_S1x1x2048_0_0_0).toLoadRect (harg3.unread x1) = x1 := by
    rw [View.readAt_eq_ld, harg3.read_unread]; exact View.ld_unit_zero hz3 _ _
  have e7 : View.readAt (Elt F) arg7.view (Rect.unit (s := S2048x128) ![0, 0] S2048x128.size inb_S2048x128_S2048x128_0_0).toLoadRect (harg7.unread x5) = x5 := by
    rw [View.readAt_eq_ld, harg7.read_unread]; exact View.ld_unit_zero hz2 _ _
  have e6 : View.readAt (Elt F) arg6.view (Rect.unit (s := S2048x1024) ![0, 0] S2048x1024.size inb_S2048x1024_S2048x1024_0_0).toLoadRect (harg6.unread x4) = x4 := by
    rw [View.readAt_eq_ld, harg6.read_unread]; exact View.ld_unit_zero hz2 _ _
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ _ _ _).trans ?_
    sl_unfold_words
    refine congrArg₂ k0_pay4 ?_ (by first | exact e6 | rfl)
    rw [View.readAt_eq_ld]
    refine (View.ld_unit_zero hz2 _ _).trans ?_
    try rw [e3, e7]
    exact hn_val _ _ _ i arg2 harg2 arg3 harg3 arg4 harg4 arg5 harg5 arg6 harg6 arg7 harg7 arg8 harg8 arg9 harg9 arg10 harg10 _ _ _ _ _ _ _
  isplitl [H7]
  · iexists _; isplitr; swap; · iexact H7
    ipureintro
    sl_unfold_words
    try rw [e3, e7]
    exact lr_val _ _ _ i arg2 harg2 arg3 harg3 arg4 harg4 arg5 harg5 arg6 harg6 arg7 harg7 arg8 harg8 arg9 harg9 arg10 harg10 _ _ _ _ _ _ _
  iexists _; isplitr; swap; · iexact HS0
  ipureintro
  sl_unfold_words
  try rw [e3, e7]
  exact hn_val _ _ _ i arg2 harg2 arg3 harg3 arg4 harg4 arg5 harg5 arg6 harg6 arg7 harg7 arg8 harg8 arg9 harg9 arg10 harg10 _ _ _ _ _ _ _

end Cert.Proof.Inproj

end
-- ==== Proof.InRunB.lean ====
/-
  The body of the input projection, case B: the tile of the product is stored, from the normalised rows in the scratch buffer.
-/
module

public import proofs.«01_k».proof.Proof.InRunA

@[expose] public section

set_option maxRecDepth 16384

noncomputable section

namespace Cert.Proof.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run_B (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x1x2048 .f32) (x2 : Vec F S1x1x2048 .f32) (x3 : Vec F S1x2048 .f32) (x4 : Vec F S2048x1024 .bf16) (x5 : Vec F S2048x128 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 xs x4) ∗ owns (c : Thread nD τ) arg10 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  have hz3 : (![0, 0, 0] : Fin 3 → Nat) = fun _ => 0 := funext fun a => by match a with | ⟨0, _⟩ => rfl | ⟨1, _⟩ => rfl | ⟨2, _⟩ => rfl
  have hz2 : (![0, 0] : Fin 2 → Nat) = fun _ => 0 := funext fun a => by match a with | ⟨0, _⟩ => rfl | ⟨1, _⟩ => rfl
  have e3 : View.readAt (Elt F) arg3.view (Rect.unit (s := S1x1x2048) ![0, 0, 0] S1x1x2048.size inb_S1x1x2048_S1x1x2048_0_0_0).toLoadRect (harg3.unread x1) = x1 := by
    rw [View.readAt_eq_ld, harg3.read_unread]; exact View.ld_unit_zero hz3 _ _
  have e7 : View.readAt (Elt F) arg7.view (Rect.unit (s := S2048x128) ![0, 0] S2048x128.size inb_S2048x128_S2048x128_0_0).toLoadRect (harg7.unread x5) = x5 := by
    rw [View.readAt_eq_ld, harg7.read_unread]; exact View.ld_unit_zero hz2 _ _
  have e6 : View.readAt (Elt F) arg6.view (Rect.unit (s := S2048x1024) ![0, 0] S2048x1024.size inb_S2048x1024_S2048x1024_0_0).toLoadRect (harg6.unread x4) = x4 := by
    rw [View.readAt_eq_ld, harg6.read_unread]; exact View.ld_unit_zero hz2 _ _
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg10.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ _ _ _).trans ?_
    sl_unfold_words
    refine congrArg₂ k0_pay4 ?_ (by first | exact e6 | rfl)
    rw [View.readAt_eq_ld, harg10.read_unread]
    exact View.ld_unit_zero hz2 _ _
  iexists _; isplitr; swap; · iexact HS0
  ipureintro
  exact harg10.read_unread _

end Cert.Proof.Inproj

end
-- ==== Proof.InFrame.lean ====
/-
  The input projection's run over the whole grid, with what every point leaves: the tile of the product, and, over a
  row of tiles, the normalised rows in the scratch buffer and the low-rank rows in the block of the second result.
-/
module

public import proofs.«01_k».proof.Proof.InRunB
public import Idealize.ShloMosaic.Lib.Claim
public import Idealize.ShloMosaic.Lib.Quiescent

@[expose] public section

set_option maxRecDepth 16384

noncomputable section

namespace Cert.Proof.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row of tiles `t` is in. -/
def firstOf (t : Fin cfg0.N) : Fin cfg0.N := ⟨t.val - t.val % 14, Nat.lt_of_le_of_lt (Nat.sub_le _ _) t.isLt⟩

theorem firstOf_self (t : Fin cfg0.N) (h : t.val % 14 = 0) : firstOf t = t := Fin.ext (by show t.val - t.val % 14 = t.val; omega)

theorem firstOf_pred (t : Fin cfg0.N) (h : ¬t.val % 14 = 0) :
    firstOf ⟨t.val - 1, Nat.lt_of_le_of_lt (Nat.sub_le _ _) t.isLt⟩ = firstOf t :=
  Fin.ext (by show (t.val - 1) - (t.val - 1) % 14 = t.val - t.val % 14; omega)

/-- The normalised rows in the scratch buffer after point `t`. -/
def hnAt (c : Dev nD) (t : Fin cfg0.N) : Vec F S1024x2048 .bf16 :=
  hnB (iblk m c 0 (firstOf t)) (iblk m c 1 (firstOf t)) (iblk m c 2 (firstOf t)) (iblk m c 3 (firstOf t))

/-- The block of the second result after point `t`. -/
def lrAt (c : Dev nD) (t : Fin cfg0.N) : Vec F S1024x128 .f32 :=
  lrB (iblk m c 0 (firstOf t)) (iblk m c 1 (firstOf t)) (iblk m c 2 (firstOf t)) (iblk m c 3 (firstOf t)) (iblk m c 5 (firstOf t))

/-- The tile of the product point `t` leaves. -/
def oAt (c : Dev nD) (t : Fin cfg0.N) : Vec F S1024x1024 .bf16 := k0_pay4 (hnAt m c t) (iblk m c 4 t)

/-- The invariant before position `n`: the scratch buffer at the rows the point before left. -/
def PhiS (c : Dev nD) : (n : ℕ) → n ≤ cfg0.N → sProp 𝕄
  | 0, _ => Pipeline.ΦA spec0 c
  | n + 1, hn => iprop(iprop(owns (c : Thread nD τ) scM0_0 fullShare (hnAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (hnAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (hnAt m c ⟨n - 1, by omega⟩)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oAt m c t
    | ⟨7, _⟩ => lrAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = oAt m c t := by dsimp only [dats]
theorem after0_7 (c : Dev nD) (t : Fin cfg0.N) : (dats m 0 c).after 7 t = lrAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem idleAt0_7 (t : Fin cfg0.N) (h : ¬t.val % 14 = 0) : cfg0.idle 7 (grid0.coords t) = true := by
  have hc : ¬ k0_cond1 (grid0.coords t) = 1#1 := fun h' => h ((hcond0_0 t).mp h')
  show (!(k0_cond1 (grid0.coords t) == 1#1)) = true
  rw [beq_false_of_ne hc]; rfl
theorem liveAt0_7 (t : Fin cfg0.N) (h : t.val % 14 = 0) : cfg0.idle 7 (grid0.coords t) = false := by
  have hc : k0_cond1 (grid0.coords t) = 1#1 := (hcond0_0 t).mpr h
  show (!(k0_cond1 (grid0.coords t) == 1#1)) = false
  rw [hc]; rfl
theorem noflush0_7 (t : Fin cfg0.N) (h : ¬t.val % 14 = 13) : (cfg0.win 7).flush t = false := by
  rcases hb : (cfg0.win 7).flush t with _ | _
  · rfl
  · exact absurd ((flush0_7 t).mp hb) h

theorem kept0_7 (c : Dev nD) (t : Fin cfg0.N) (d) : (dats m 0 c).kept 7 t d = (dats m 0 c).after 7 t := by
  unfold Dat.kept
  rw [Pipeline.fill_of_clip_none 7 (cfg0.grid.coords t) (fun _ => rfl) d ((dats m 0 c).after 7 t), Window.fill_cut]

/-- Off the first point of a row of tiles, the block of the second result is found as that point left it. -/
theorem before0_7 (c : Dev nD) : ∀ (n : ℕ) (hn : n < cfg0.N), ¬n % 14 = 0 → ∀ d, (dats m 0 c).before 7 ⟨n, hn⟩ d = lrAt m c ⟨n, hn⟩
  | 0, _, h, _ => absurd (Nat.zero_mod 14) h
  | n + 1, hn, h, d => by
    have hn' : n < cfg0.N := Nat.lt_of_succ_lt hn
    have hpred : firstOf ⟨n, hn'⟩ = firstOf ⟨n + 1, hn⟩ := firstOf_pred ⟨n + 1, hn⟩ h
    have hl : lrAt m c ⟨n, hn'⟩ = lrAt m c ⟨n + 1, hn⟩ := by unfold lrAt; rw [hpred]
    rw [(dats m 0 c).before_of_pos 7 ⟨n + 1, hn⟩ (Nat.succ_ne_zero n) ((cfg0.win 7).fetch_out rfl _)]
    have hf : (cfg0.win 7).flush ⟨n, hn'⟩ = false := noflush0_7 ⟨n, hn'⟩ (by show ¬n % 14 = 13; omega)
    refine (if_neg (by intro h'; exact absurd (hf.symm.trans h') Bool.false_ne_true)).trans ?_
    show (dats m 0 c).left 7 ⟨n, hn'⟩ d = _
    unfold Dat.left
    by_cases h0 : n % 14 = 0
    · rw [liveAt0_7 ⟨n, hn'⟩ h0]
      exact (kept0_7 m c ⟨n, hn'⟩ d).trans ((after0_7 m c _).trans hl)
    · rw [idleAt0_7 ⟨n, hn'⟩ h0]
      exact (before0_7 c n hn' h0 d).trans hl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 224 := lt_of_lt_of_eq t.isLt (show cfg0.N = 224 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [show cfg0.idle 6 (grid0.coords t) = false from rfl], after0_6]
  unfold oAt
  rw [show (⟨t.val, t.isLt⟩ : Fin cfg0.N) = t from rfl]
  by_cases h0 : t.val % 14 = 0
  · have hh : hnAt m c t = hnB (iblk m c 0 t) (iblk m c 1 t) (iblk m c 2 t) (iblk m c 3 t) := by
      unfold hnAt; rw [firstOf_self t h0]
    have hl : lrAt m c t = lrB (iblk m c 0 t) (iblk m c 1 t) (iblk m c 2 t) (iblk m c 3 t) (iblk m c 5 t) := by
      unfold lrAt; rw [firstOf_self t h0]
    rw [show (dats m 0 c).leavesExact 7 t = owns (c : Thread nD τ) (ms0_7 t) fullShare ((dats m 0 c).after 7 t) from by
      unfold Dat.leavesExact; rw [liveAt0_7 t h0], after0_7, hh, hl]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := by intro h; omega
    have hh : hnAt m c t = hnAt m c ⟨t.val - 1, Nat.lt_of_le_of_lt (Nat.sub_le _ _) t.isLt⟩ := by
      unfold hnAt; rw [firstOf_pred t h0]
    rw [PhiS_castSucc m c t, PhiS_pos m c _ _ hz, hh]
    by_cases h1 : t.val % 14 = 13
    · rw [show (dats m 0 c).leavesExact 7 t = owns (c : Thread nD τ) (ms0_7 t) fullShare ((dats m 0 c).after 7 t) from by
        unfold Dat.leavesExact; rw [idleAt0_7 t h0, (flush0_7 t).mpr h1], after0_7]
      simp only [before0_7 m c t.val t.isLt h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [(dats m 0 c).leavesExact_idle 7 t (idleAt0_7 t h0) (noflush0_7 t h1)]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 224 := N_0; omega)

set_option backward.isDefEq.respectTransparency.types false in
/-- The launch: every run ends with the arrays at what the data name and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.Inproj

end
-- ==== Proof.MergeSpec.lean ====
/-
  The merge of one token, as plain mathematics over the extended reals: what both the kernel and the reference compute,
  row by row. A token has its 2048 summed attention outputs `o`, its 2048 summed recurrence outputs `y`, its four rows of
  projections `pg pr mg ml`, its residual `x` and gate `gt`; the weights are shared.
-/
module

public import Idealize.ShloMosaic.Lib.Pointwise

@[expose] public section
noncomputable section

namespace Cert.MergeSpec
open Idealize.ShloMosaic

/-- The logistic function, as `1 / (1 + exp (0 - z))`. -/
def lgst (z : EReal) : EReal := Ideal.div 1 (1 + Ideal.exp (0 - z))

/-- The reciprocal root of the mean square: `c` is the number of entries, as its float constant; 1e-6 is added. -/
def rstd {n : Nat} (c : EReal) (x : Fin n → EReal) : EReal :=
  Ideal.rsqrt (Ideal.div (∑ k, x k * x k) c + Ideal.ofBits .f32 0x358637BD#32)

/-- The head-wise normalised attention output: each 512 columns are one head. -/
def normed (o : Fin 2048 → EReal) (gh : Fin 512 → EReal) (e : Fin 2048) : EReal :=
  o e * rstd (Ideal.ofBits .f32 0x44000000#32) (fun k : Fin 512 => o ⟨512 * (e.val / 512) + k.val, by omega⟩)
    * gh ⟨e.val % 512, by omega⟩

/-- A gated row against a weight matrix: `∑ x, a x · (p x · lgst (p x)) · w x l`. -/
def gated (a p : Fin 2048 → EReal) (w : Fin 2048 → Fin 2048 → EReal) (l : Fin 2048) : EReal :=
  ∑ x, a x * (p x * lgst (p x)) * w x l

/-- The two branches mixed by their gates, at column `x`. -/
def mixed (o y pg pr mg ml : Fin 2048 → EReal) (gh : Fin 512 → EReal) (bm : Fin 4096 → EReal)
    (wog wor : Fin 2048 → Fin 2048 → EReal) (x : Fin 2048) : EReal :=
  lgst (mg x + bm ⟨x.val, by omega⟩) * gated (normed o gh) pg wog x
    + lgst (ml x + bm ⟨2048 + x.val, by omega⟩) * gated y pr wor x

/-- The residual plus the gated output projection, at column `l`. -/
def resid (xr gt mix : Fin 2048 → EReal) (wout : Fin 2048 → Fin 2048 → EReal) (l : Fin 2048) : EReal :=
  xr l + gt l * ∑ x, mix x * wout x l

/-- The final normalisation. -/
def final (r gf : Fin 2048 → EReal) (l : Fin 2048) : EReal :=
  r l * rstd (Ideal.ofBits .f32 0x45000000#32) r * gf l

/-- The merge of one token, at column `l`. -/
def out (o y pg pr mg ml xr gt : Fin 2048 → EReal) (gh : Fin 512 → EReal) (bm : Fin 4096 → EReal)
    (wog wor wout : Fin 2048 → Fin 2048 → EReal) (gf : Fin 2048 → EReal) (l : Fin 2048) : EReal :=
  final (resid xr gt (mixed o y pg pr mg ml gh bm wog wor) wout) gf l

end Cert.MergeSpec
-- ==== Proof.InSpec.lean ====
/-
  The input projection of one token, as plain mathematics over the extended reals: what both the kernel and the
  reference compute, row by row. A token has its 2048 activations `x`; its sequence has a scale row `sc` and a shift row
  `sh`; the gain `g` and the weight are shared.
-/
module

public import proofs.«01_k».proof.Proof.MergeSpec

@[expose] public section
noncomputable section

namespace Cert.InSpec
open Idealize.ShloMosaic Cert.MergeSpec

/-- The normalised and modulated activation, at entry `e`. -/
def hn (x g sc sh : Fin 2048 → EReal) (e : Fin 2048) : EReal :=
  x e * rstd (Ideal.ofBits .f32 0x45000000#32) x * g e * (1 + sc e) + sh e

/-- A row against one column of the weight. -/
def prod (a : Fin 2048 → EReal) (w : Fin 2048 → EReal) : EReal := ∑ x, a x * w x

end Cert.InSpec
-- ==== Proof.InKernel.lean ====
/-
  What one grid point of the input projection stores, read at an index: the token's normalised row (`InSpec.hn`) against a
  column of the weight.
-/
module

public import proofs.«01_k».proof.Proof.Gen.Kernel2Ideal.Skeleton
public import proofs.«01_k».proof.Proof.InSpec

@[expose] public section
set_option maxRecDepth 16384
noncomputable section

namespace Cert.Kernel2Ideal.IV
open Cert.Kernel2Ideal Cert.Kernel2Ideal.Gen Idealize.ShloMosaic Cert.InSpec Cert.MergeSpec

/-- The normalised rows, in the compute type. -/
theorem pay5 (sh : Vec Ideal S1x1x2048 .f32) (x : Vec Ideal S256x2048 .f32) (g : Vec Ideal S1x2048 .f32) (sc : Vec Ideal S1x1x2048 .f32)
    (r : Fin 256) (e : Fin 2048) :
    k0_pay5 (k0_pay1 sh) x g sc (ix2 r e)
      = hn (fun k => x (ix2 r k)) (fun k => g (ix2 0 k)) (fun k => sc (ix3 0 0 k)) (fun k => sh (ix3 0 0 k)) e := by
  pointwise [k0_pay5, k0_pay1, hn, rstd]

theorem pay6 (sh : Vec Ideal S1x1x2048 .f32) (x : Vec Ideal S256x2048 .f32) (g : Vec Ideal S1x2048 .f32) (sc : Vec Ideal S1x1x2048 .f32)
    (r : Fin 256) (e : Fin 2048) :
    k0_pay6 (k0_pay1 sh) x g sc (ix2 r e)
      = hn (fun k => x (ix2 r k)) (fun k => g (ix2 0 k)) (fun k => sc (ix3 0 0 k)) (fun k => sh (ix3 0 0 k)) e := by
  have h := pay5 sh x g sc r e
  revert h
  unfold k0_pay6
  generalize k0_pay5 (k0_pay1 sh) x g sc = A
  intro h
  pointwise []
  exact h

/-- The low-rank rows: the product of the high parts and the two products that mend it. -/
theorem pay3 (sh : Vec Ideal S1x1x2048 .f32) (w : Vec Ideal S2048x128 .f32) (x : Vec Ideal S256x2048 .f32) (g : Vec Ideal S1x2048 .f32) (sc : Vec Ideal S1x1x2048 .f32)
    (r : Fin 256) (l : Fin 128) (H : Fin 2048 → EReal)
    (hH : H = hn (fun k => x (ix2 r k)) (fun k => g (ix2 0 k)) (fun k => sc (ix3 0 0 k)) (fun k => sh (ix3 0 0 k))) :
    k0_pay3 (k0_pay9 (k0_pay1 sh) (k0_pay2 w) x g sc) (k0_pay10 (k0_pay1 sh) (k0_pay2 w) x g sc) (k0_pay11 (k0_pay1 sh) (k0_pay2 w) x g sc) (ix2 r l)
      = (∑ k, H k * w (ix2 k l)) + ((∑ k, H k * (w (ix2 k l) - w (ix2 k l))) + ∑ k, (H k - H k) * w (ix2 k l)) := by
  have h : ∀ e, k0_pay5 (k0_pay1 sh) x g sc (ix2 r e) = H e := fun e => by rw [hH]; exact pay5 sh x g sc r e
  revert h
  unfold k0_pay9 k0_pay10 k0_pay11 k0_pay7
  generalize k0_pay5 (k0_pay1 sh) x g sc = A
  intro h
  pointwise [k0_pay3, k0_pay8, k0_pay2]
  simp only [h]

/-- The tile of the product. -/
theorem pay4 (a : Vec Ideal S1024x2048 .bf16) (w : Vec Ideal S2048x1024 .bf16) (r : Fin 1024) (l : Fin 1024) :
    k0_pay4 a w (ix2 r l) = prod (fun k => a (ix2 r k)) (fun k => w (ix2 k l)) := by
  pointwise [k0_pay4, prod]

end Cert.Kernel2Ideal.IV
-- ==== Proof.InRef.lean ====
/-
  The input projection's reference read at an index: the token's normalised row (`InSpec.hn`) against a column of the
  weight.
-/
module

public import proofs.«01_k».proof.Proof.Gen.Reference2Ideal.Read
public import proofs.«01_k».proof.Proof.InSpec

@[expose] public section
set_option maxRecDepth 16384
noncomputable section

namespace Cert.Reference2Ideal.IV
open Cert.Reference2Ideal Cert.Reference2Ideal.Gen Cert.Reference2Ideal.Read Idealize.ShloMosaic Cert.InSpec Cert.MergeSpec

/-- The normalised row of token `t` of sequence `b`. -/
abbrev row (x0 : (⟨S4x4096x2048, .f32⟩ : BufTy).Contents (Elt Ideal)) (x1 : (⟨S8x1x6144, .f32⟩ : BufTy).Contents (Elt Ideal)) (x2 : (⟨S1x2048, .f32⟩ : BufTy).Contents (Elt Ideal)) (b : Fin 4) (t : Fin 4096) : Fin 2048 → EReal :=
  hn (fun k => x0 (ix3 b t k)) (fun k => x2 (ix2 0 k)) (fun k => x1 (ix3 ⟨b.val, by omega⟩ 0 ⟨2048 + k.val, by omega⟩))
    (fun k => x1 (ix3 ⟨b.val, by omega⟩ 0 ⟨k.val, by omega⟩))

theorem normed (x0 : (⟨S4x4096x2048, .f32⟩ : BufTy).Contents (Elt Ideal)) (x1 : (⟨S8x1x6144, .f32⟩ : BufTy).Contents (Elt Ideal)) (x2 : (⟨S1x2048, .f32⟩ : BufTy).Contents (Elt Ideal)) (b : Fin 4) (t : Fin 4096) (e : Fin 2048) :
    val_main_v27 (F := Ideal) x0 x1 x2 (ix3 b t e) = row x0 x1 x2 b t e := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2, hn, rstd]

theorem parts (x0 : (⟨S4x4096x2048, .f32⟩ : BufTy).Contents (Elt Ideal)) (x1 : (⟨S8x1x6144, .f32⟩ : BufTy).Contents (Elt Ideal)) (x2 : (⟨S1x2048, .f32⟩ : BufTy).Contents (Elt Ideal)) (x3 : (⟨S1x2048x14368, .f32⟩ : BufTy).Contents (Elt Ideal)) (b : Fin 4) (t : Fin 4096) (l : Fin 14368) :
    val_main_v29 (F := Ideal) x0 x1 x2 x3 (ix3 b t l) = prod (row x0 x1 x2 b t) (fun k => x3 (ix3 0 k l)) := by
  pointwise [val_main_v29, val_main_v28, prod]
  simp only [normed]

/-- The weight column a column of the wide result is. -/
abbrev wcol (l : Fin 14336) : Fin 14368 := ⟨if l.val < 6144 then l.val else l.val + 32, by have := l.isLt; split <;> omega⟩

theorem wide (x0 : (⟨S4x4096x2048, .f32⟩ : BufTy).Contents (Elt Ideal)) (x1 : (⟨S8x1x6144, .f32⟩ : BufTy).Contents (Elt Ideal)) (x2 : (⟨S1x2048, .f32⟩ : BufTy).Contents (Elt Ideal)) (x3 : (⟨S1x2048x14368, .f32⟩ : BufTy).Contents (Elt Ideal)) (R : Fin 16384) (l : Fin 14336) :
    val_main_v36 (F := Ideal) x0 x1 x2 x3 (ix2 R l)
      = prod (row x0 x1 x2 ⟨R.val / 4096, by omega⟩ ⟨R.val % 4096, by omega⟩) (fun k => x3 (ix3 0 k (wcol l))) := by
  have h := fun l => parts x0 x1 x2 x3 ⟨R.val / 4096, by omega⟩ ⟨R.val % 4096, by omega⟩ l
  rw [← h]
  pointwise [val_main_v36, val_main_v33, val_main_v32, val_main_v31, val_main_v30]
  generalize val_main_v29 (F := Ideal) x0 x1 x2 x3 = y
  by_cases h : l.val < 6144
  · rw [dif_pos h]; exact congrArg (fun z => y (ix3 _ _ z)) (Fin.ext (by show l.val = if _ then _ else _; rw [if_pos h]))
  · rw [dif_neg h]; exact congrArg (fun z => y (ix3 _ _ z)) (Fin.ext (by show 6176 + (l.val - 6144) = if _ then _ else _; rw [if_neg h]; omega))

theorem low_pad (y : (⟨S4x4096x14368, .f32⟩ : BufTy).Contents (Elt Ideal)) (R : Fin 16384) (l : Fin 128) :
    (shapeCast S16384x128 (pad S4x4096x128 ![0, 0, 0] ![0, 0, 96] ![0, 0, 0] (extractStridedSlice S4x4096x32 ![0, 0, 6144] y slices_S4x4096x14368_S4x4096x32_0_0_6144)
        (sitofp .f32 (constantI S_ 32 0#32) : FVec Ideal S_ .f32) pads_S4x4096x32_S4x4096x128_000_000_0960 h_S_ : FVec Ideal S4x4096x128 .f32) shapeCasts_S4x4096x128_S16384x128 : FVec Ideal S16384x128 .f32) (ix2 R l)
      = if h : l.val < 32 then y (ix3 ⟨R.val / 4096, by omega⟩ ⟨R.val % 4096, by omega⟩ ⟨6144 + l.val, by omega⟩) else 0 := by
  pointwise []
  have hs : (FloatOps.sitofp FTy.f32 0#32 : Ideal .f32) = 0 := by show (((0#32 : BitVec 32).toInt : ℝ) : EReal) = 0; simp
  have hR := R.isLt
  by_cases h3 : l.val < 32
  · have hc : R.val / 4096 < 4 ∧ R.val % 4096 < 4096 ∧ l.val < 32 := ⟨by omega, by omega, h3⟩
    simp only [dif_pos hc, dif_pos h3]
  · have hc : ¬(R.val / 4096 < 4 ∧ R.val % 4096 < 4096 ∧ l.val < 32) := fun h' => h3 h'.2.2
    simp only [dif_neg hc, dif_neg h3]; exact hs

theorem low (x0 : (⟨S4x4096x2048, .f32⟩ : BufTy).Contents (Elt Ideal)) (x1 : (⟨S8x1x6144, .f32⟩ : BufTy).Contents (Elt Ideal)) (x2 : (⟨S1x2048, .f32⟩ : BufTy).Contents (Elt Ideal)) (x3 : (⟨S1x2048x14368, .f32⟩ : BufTy).Contents (Elt Ideal)) (R : Fin 16384) (l : Fin 128) :
    val_main_v37 (F := Ideal) x0 x1 x2 x3 (ix2 R l)
      = if h : l.val < 32 then prod (row x0 x1 x2 ⟨R.val / 4096, by omega⟩ ⟨R.val % 4096, by omega⟩) (fun k => x3 (ix3 0 k ⟨6144 + l.val, by omega⟩))
        else 0 := by
  refine (low_pad (val_main_v29 (F := Ideal) x0 x1 x2 x3) R l).trans ?_
  by_cases h3 : l.val < 32
  · simp only [dif_pos h3]; exact parts x0 x1 x2 x3 _ _ _
  · simp only [dif_neg h3]

end Cert.Reference2Ideal.IV
-- ==== Proof.InBlocks.lean ====
/-
  The input projection's blocks, entry by entry, in terms of the arguments.
-/
module

public import proofs.«01_k».proof.Proof.InFrame
public import proofs.«01_k».proof.Proof.InKernel
public import proofs.«01_k».proof.Proof.InRef

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Kernel2Ideal.IA

open Cert.Kernel2Ideal Cert.Kernel2Ideal.Gen

variable (m : (ℓ : Loc nD τ sig) → Buf (Elt Ideal) ℓ)

/-- The sequence a grid point works on, among the eight rows of modulations. -/
abbrev bt (t : Fin cfg0.N) : Fin 8 := ⟨t.val / 56, by have := t.isLt; have : cfg0.N = 224 := N_0; omega⟩
/-- The row of the flattened tokens a row of a grid point's block is. -/
abbrev rt (t : Fin cfg0.N) (r : Fin 1024) : Fin 16384 := ⟨t.val / 14 * 1024 + r.val, by have := t.isLt; have : cfg0.N = 224 := N_0; omega⟩
/-- The column of the wide result a column of a grid point's tile is. -/
abbrev ct (t : Fin cfg0.N) (l : Fin 1024) : Fin 14336 := ⟨t.val % 14 * 1024 + l.val, by omega⟩

/-! ## The input blocks -/

theorem idx0 : ∀ t : Fin cfg0.N, win0_0.index t 0 = t.val / 14 ∧ win0_0.index t 1 = 0 :=
  (by decide +kernel : ∀ t : Fin grid0.N, win0_0.index t 0 = t.val / 14 ∧ win0_0.index t 1 = 0)

theorem blk0 (c : Dev nD) (t : Fin cfg0.N) (r : Fin 1024) (e : Fin 2048) :
    iblk m c 0 t (ix2 r e) = V m c main_v7 (ix2 (rt t r) e) := by
  have h := idx0 t
  unfold iblk
  rw [View.read_apply]
  show V m c main_v7 _ = _
  refine congrArg _ (funext fun a => Fin.ext ?_)
  match a with
  | ⟨0, _⟩ => show win0_0.index t 0 * 1024 + 1 * r.val = t.val / 14 * 1024 + r.val; rw [h.1]; try omega
  | ⟨1, _⟩ => show win0_0.index t 1 * 2048 + 1 * e.val = e.val; rw [h.2]; try omega

theorem idx1 : ∀ t : Fin cfg0.N, win0_1.index t 0 = t.val / 56 ∧ win0_1.index t 1 = 0 ∧ win0_1.index t 2 = 0 :=
  (by decide +kernel : ∀ t : Fin grid0.N, win0_1.index t 0 = t.val / 56 ∧ win0_1.index t 1 = 0 ∧ win0_1.index t 2 = 0)

theorem blk1 (c : Dev nD) (t : Fin cfg0.N) (e : Fin 2048) :
    iblk m c 1 t (ix3 0 0 e) = m ((c : Thread nD τ).loc main_arg1) (ix3 (bt t) 0 ⟨e.val, by omega⟩) := by
  have h := idx1 t
  unfold iblk
  rw [View.read_apply]
  show V m c main_arg1 _ = _
  rw [V_main_arg1]
  refine congrArg _ (funext fun a => Fin.ext ?_)
  match a with
  | ⟨0, _⟩ => show win0_1.index t 0 * 1 + 1 * 0 = t.val / 56; rw [h.1]; try omega
  | ⟨1, _⟩ => show win0_1.index t 1 * 1 + 1 * 0 = 0; rw [h.2.1]; try omega
  | ⟨2, _⟩ => show win0_1.index t 2 * 2048 + 1 * e.val = e.val; rw [h.2.2]; try omega

theorem idx2 : ∀ t : Fin cfg0.N, win0_2.index t 0 = t.val / 56 ∧ win0_2.index t 1 = 0 ∧ win0_2.index t 2 = 1 :=
  (by decide +kernel : ∀ t : Fin grid0.N, win0_2.index t 0 = t.val / 56 ∧ win0_2.index t 1 = 0 ∧ win0_2.index t 2 = 1)

theorem blk2 (c : Dev nD) (t : Fin cfg0.N) (e : Fin 2048) :
    iblk m c 2 t (ix3 0 0 e) = m ((c : Thread nD τ).loc main_arg1) (ix3 (bt t) 0 ⟨2048 + e.val, by omega⟩) := by
  have h := idx2 t
  unfold iblk
  rw [View.read_apply]
  show V m c main_arg1 _ = _
  rw [V_main_arg1]
  refine congrArg _ (funext fun a => Fin.ext ?_)
  match a with
  | ⟨0, _⟩ => show win0_2.index t 0 * 1 + 1 * 0 = t.val / 56; rw [h.1]; try omega
  | ⟨1, _⟩ => show win0_2.index t 1 * 1 + 1 * 0 = 0; rw [h.2.1]; try omega
  | ⟨2, _⟩ => show win0_2.index t 2 * 2048 + 1 * e.val = 2048 + e.val; rw [h.2.2]; try omega

theorem idx3 : ∀ t : Fin cfg0.N, win0_3.index t 0 = 0 ∧ win0_3.index t 1 = 0 :=
  (by decide +kernel : ∀ t : Fin grid0.N, win0_3.index t 0 = 0 ∧ win0_3.index t 1 = 0)

theorem blk3 (c : Dev nD) (t : Fin cfg0.N) (e : Fin 2048) :
    iblk m c 3 t (ix2 0 e) = V m c main_v9 (ix2 0 e) := by
  have h := idx3 t
  unfold iblk
  rw [View.read_apply]
  show V m c main_v9 _ = _
  refine congrArg _ (funext fun a => Fin.ext ?_)
  match a with
  | ⟨0, _⟩ => show win0_3.index t 0 * 1 + 1 * 0 = 0; rw [h.1]; try omega
  | ⟨1, _⟩ => show win0_3.index t 1 * 2048 + 1 * e.val = e.val; rw [h.2]; try omega

theorem idx4 : ∀ t : Fin cfg0.N, win0_4.index t 0 = 0 ∧ win0_4.index t 1 = t.val % 14 :=
  (by decide +kernel : ∀ t : Fin grid0.N, win0_4.index t 0 = 0 ∧ win0_4.index t 1 = t.val % 14)

theorem blk4 (c : Dev nD) (t : Fin cfg0.N) (k : Fin 2048) (l : Fin 1024) :
    iblk m c 4 t (ix2 k l) = V m c main_v4 (ix2 k (ct t l)) := by
  have h := idx4 t
  unfold iblk
  rw [View.read_apply]
  show V m c main_v4 _ = _
  refine congrArg _ (funext fun a => Fin.ext ?_)
  match a with
  | ⟨0, _⟩ => show win0_4.index t 0 * 2048 + 1 * k.val = k.val; rw [h.1]; try omega
  | ⟨1, _⟩ => show win0_4.index t 1 * 1024 + 1 * l.val = t.val % 14 * 1024 + l.val; rw [h.2]; try omega

theorem idx5 : ∀ t : Fin cfg0.N, win0_5.index t 0 = 0 ∧ win0_5.index t 1 = 0 :=
  (by decide +kernel : ∀ t : Fin grid0.N, win0_5.index t 0 = 0 ∧ win0_5.index t 1 = 0)

theorem blk5 (c : Dev nD) (t : Fin cfg0.N) (k : Fin 2048) (l : Fin 128) :
    iblk m c 5 t (ix2 k l) = V m c main_v6 (ix2 k l) := by
  have h := idx5 t
  unfold iblk
  rw [View.read_apply]
  show V m c main_v6 _ = _
  refine congrArg _ (funext fun a => Fin.ext ?_)
  match a with
  | ⟨0, _⟩ => show win0_5.index t 0 * 2048 + 1 * k.val = k.val; rw [h.1]; try omega
  | ⟨1, _⟩ => show win0_5.index t 1 * 128 + 1 * l.val = l.val; rw [h.2]; try omega

/-! ## The buffers the host code fills before the kernel starts -/

theorem flat_x (x : Vec Ideal S4x4096x2048 .f32) (R : Fin 16384) (e : Fin 2048) :
    (shapeCast S16384x2048 x shapeCasts_S4x4096x2048_S16384x2048 : Vec Ideal S16384x2048 .f32) (ix2 R e)
      = x (ix3 ⟨R.val / 4096, by omega⟩ ⟨R.val % 4096, by omega⟩ e) := by
  pointwise []

theorem V_v7 (c : Dev nD) (R : Fin 16384) (e : Fin 2048) :
    V m c main_v7 (ix2 R e) = m ((c : Thread nD τ).loc main_arg0) (ix3 ⟨R.val / 4096, by omega⟩ ⟨R.val % 4096, by omega⟩ e) := by
  refine Eq.trans (congrFun (?_ : V m c main_v7 = (shapeCast S16384x2048 (m ((c : Thread nD τ).loc main_arg0) : Vec Ideal S4x4096x2048 .f32) shapeCasts_S4x4096x2048_S16384x2048 : Vec Ideal S16384x2048 .f32)) (ix2 R e)) ?_
  · show StableHlo.after (List.flatten [hostOps0, hostOps0_1, hostOps0_2]) _ _ = _
    simp only [hostOps0, hostOps0_1, hostOps0_2, List.flatten_cons, List.flatten_nil, List.append_nil, List.cons_append, List.nil_append, TRef.binary, TRef.unary, TRef.toBuf, TRef.ofBuf, cast_eq]
    after_results_simp
    rfl
  exact flat_x _ R e

theorem V_v9 (c : Dev nD) (e : Fin 2048) : V m c main_v9 (ix2 0 e) = m ((c : Thread nD τ).loc main_arg2) (ix2 0 e) := by
  refine Eq.trans (congrFun (?_ : V m c main_v9 = (shapeCast S1x2048 (shapeCast S2048 (m ((c : Thread nD τ).loc main_arg2) : Vec Ideal S1x2048 .f32) shapeCasts_S1x2048_S2048 : Vec Ideal S2048 .f32) shapeCasts_S2048_S1x2048 : Vec Ideal S1x2048 .f32)) (ix2 0 e)) ?_
  · show StableHlo.after (List.flatten [hostOps0, hostOps0_1, hostOps0_2]) _ _ = _
    simp only [hostOps0, hostOps0_1, hostOps0_2, List.flatten_cons, List.flatten_nil, List.append_nil, List.cons_append, List.nil_append, TRef.binary, TRef.unary, TRef.toBuf, TRef.ofBuf, cast_eq]
    after_results_simp
    rfl
  pointwise []

theorem cat_w (y : Vec Ideal S1x2048x14368 .f32) (k : Fin 2048) (l : Fin 14336) :
    truncf (F := Ideal) .bf16 (concatenate S2048x14336 1 [⟨S2048x6144, extractStridedSlice S2048x6144 ![0, 0] (shapeCast S2048x14368 y shapeCasts_S1x2048x14368_S2048x14368) slices_S2048x14368_S2048x6144_0_0⟩,
        ⟨S2048x8192, extractStridedSlice S2048x8192 ![0, 6176] (shapeCast S2048x14368 y shapeCasts_S1x2048x14368_S2048x14368) slices_S2048x14368_S2048x8192_0_6176⟩] concatenates_S2048x6144_S2048x8192_S2048x14336_d1 : FVec Ideal S2048x14336 .f32) bitsLt_bf16_f32 (ix2 k l)
      = y (ix3 0 k (Cert.Reference2Ideal.IV.wcol l)) := by
  pointwise []
  by_cases h : l.val < 6144
  · rw [dif_pos h]; exact congrArg (fun z => y (ix3 0 k z)) (Fin.ext (by show l.val = if _ then _ else _; rw [if_pos h]))
  · rw [dif_neg h]; exact congrArg (fun z => y (ix3 0 k z)) (Fin.ext (by show 6176 + (l.val - 6144) = if _ then _ else _; rw [if_neg h]; omega))

theorem V_v4 (c : Dev nD) (k : Fin 2048) (l : Fin 14336) :
    V m c main_v4 (ix2 k l) = m ((c : Thread nD τ).loc main_arg3) (ix3 0 k (Cert.Reference2Ideal.IV.wcol l)) := by
  refine Eq.trans (congrFun (?_ : V m c main_v4 = _) (ix2 k l)) (cat_w _ k l)
  show StableHlo.after (List.flatten [hostOps0, hostOps0_1, hostOps0_2]) _ _ = _
  simp only [hostOps0, hostOps0_1, hostOps0_2, List.flatten_cons, List.flatten_nil, List.append_nil, List.cons_append, List.nil_append, TRef.binary, TRef.unary, TRef.toBuf, TRef.ofBuf, cast_eq]
  after_results_simp
  rfl

theorem pad_w (y : Vec Ideal S1x2048x14368 .f32) (k : Fin 2048) (l : Fin 128) :
    (pad S2048x128 ![0, 0] ![0, 96] ![0, 0] (extractStridedSlice S2048x32 ![0, 6144] (shapeCast S2048x14368 y shapeCasts_S1x2048x14368_S2048x14368) slices_S2048x14368_S2048x32_0_6144)
        (sitofp .f32 (constantI S_ 32 0#32) : FVec Ideal S_ .f32) pads_S2048x32_S2048x128_000_0960 h_S_ : FVec Ideal S2048x128 .f32) (ix2 k l)
      = if h : l.val < 32 then y (ix3 0 k ⟨6144 + l.val, by omega⟩) else 0 := by
  pointwise []
  have hs : (FloatOps.sitofp FTy.f32 0#32 : Ideal .f32) = 0 := by show (((0#32 : BitVec 32).toInt : ℝ) : EReal) = 0; simp
  by_cases h3 : l.val < 32
  · simp only [dif_pos h3]
  · simp only [dif_neg h3]; exact hs

theorem V_v6 (c : Dev nD) (k : Fin 2048) (l : Fin 128) :
    V m c main_v6 (ix2 k l) = if h : l.val < 32 then (m ((c : Thread nD τ).loc main_arg3) : Vec Ideal S1x2048x14368 .f32) (ix3 0 k ⟨6144 + l.val, by omega⟩) else (0 : EReal) := by
  refine Eq.trans (congrFun (?_ : V m c main_v6 = _) (ix2 k l)) (pad_w _ k l)
  show StableHlo.after (List.flatten [hostOps0, hostOps0_1, hostOps0_2]) _ _ = _
  simp only [hostOps0, hostOps0_1, hostOps0_2, List.flatten_cons, List.flatten_nil, List.append_nil, List.cons_append, List.nil_append, TRef.binary, TRef.unary, TRef.toBuf, TRef.ofBuf, cast_eq]
  after_results_simp
  rfl

end Cert.Kernel2Ideal.IA

end
-- ==== Proof.FiniteReals.lean ====
/-
  Extended reals that are real numbers, and what the two preconditions say: every entry of the named arguments is one.
-/
module

public import proofs.«01_k».proof.Defs
public import proofs.«01_k».proof.Proof.MergeSpec
public import Idealize.ShloMosaic.Lib.ReduceAll
public import Idealize.ShloMosaic.Lib.Pointwise

@[expose] public section
set_option maxRecDepth 16384
noncomputable section

namespace Cert.FiniteReals
open Idealize.ShloMosaic Cert.MergeSpec

/-- The extended real is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} : IsR x → IsR y → IsR (x + y)
  | ⟨a, ha⟩, ⟨b, hb⟩ => ⟨a + b, by rw [ha, hb, EReal.coe_add]⟩
theorem IsR.mul {x y : EReal} : IsR x → IsR y → IsR (x * y)
  | ⟨a, ha⟩, ⟨b, hb⟩ => ⟨a * b, by rw [ha, hb, EReal.coe_mul]⟩
theorem IsR.sub {x y : EReal} : IsR x → IsR y → IsR (x - y)
  | ⟨a, ha⟩, ⟨b, hb⟩ => ⟨a - b, by rw [ha, hb, EReal.coe_sub]⟩
theorem IsR.sub_self {x : EReal} : IsR x → x - x = 0
  | ⟨a, ha⟩ => by rw [ha, ← EReal.coe_sub, _root_.sub_self, EReal.coe_zero]
theorem IsR.sum {ι : Type} (s : Finset ι) (f : ι → EReal) (h : ∀ i, IsR (f i)) : IsR (∑ i ∈ s, f i) := by
  classical
  induction s using Finset.induction_on with
  | empty => rw [Finset.sum_empty]; exact IsR.zero
  | insert a s ha ih => rw [Finset.sum_insert ha]; exact (h a).add ih
theorem IsR.sum_sq {ι : Type} (s : Finset ι) (f : ι → EReal) (h : ∀ i, IsR (f i)) : ∃ r : ℝ, 0 ≤ r ∧ ∑ i ∈ s, f i * f i = (r : EReal) := by
  classical
  induction s using Finset.induction_on with
  | empty => exact ⟨0, le_rfl, by rw [Finset.sum_empty, EReal.coe_zero]⟩
  | insert a s ha ih =>
    obtain ⟨r, hr, e⟩ := ih
    obtain ⟨b, hb⟩ := h a
    exact ⟨b * b + r, add_nonneg (mul_self_nonneg b) hr, by rw [Finset.sum_insert ha, e, hb, EReal.coe_add, EReal.coe_mul]⟩

theorem f2048 : Ideal.ofBits .f32 0x45000000#32 = ((2048 : ℝ) : EReal) := by
  simp [Ideal.ofBits, Ideal.ieee, -EReal.coe_mul]; norm_num
theorem eps_pos : ∃ r : ℝ, 0 < r ∧ Ideal.ofBits .f32 0x358637BD#32 = (r : EReal) := by
  refine ⟨_, ?_, by simp [Ideal.ofBits, Ideal.ieee, -EReal.coe_mul]; rfl⟩
  positivity

/-- The reciprocal root of a mean square of reals is a real. -/
theorem rstd_real (x : Fin 2048 → EReal) (h : ∀ k, IsR (x k)) : IsR (rstd (Ideal.ofBits .f32 0x45000000#32) x) := by
  obtain ⟨r, hr, e⟩ := IsR.sum_sq Finset.univ x h
  obtain ⟨p, hp, ep⟩ := eps_pos
  unfold rstd
  rw [e, f2048, ep, Ideal.div_coe (by norm_num), ← EReal.coe_mul, ← EReal.coe_add, Ideal.rsqrt_coe]
  have h0 : 0 < r * (1 / 2048) + p := by positivity
  rw [if_neg (not_lt.mpr h0.le), if_neg h0.ne']
  exact IsR.coe _

/-- A magnitude below the infinity: a real number. -/
theorem real_of_abs_lt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x with
  | bot => exact absurd h (by simp [Ideal.cmp])
  | top => exact absurd h (by simp [Ideal.cmp])
  | coe r => exact IsR.coe r

/-- The scalar index shape has one index. -/
theorem sub0 {s : Shape} (h : s.rank = 0) : Subsingleton s.Idx := ⟨fun a b => funext fun k => absurd k.isLt (by omega)⟩

end Cert.FiniteReals
end
-- ==== Proof.PreReal.lean ====
/-
  The projection's precondition read back: every entry of its arguments is a real number.
-/
module

public import proofs.«01_k».proof.Proof.FiniteReals

@[expose] public section
set_option maxRecDepth 16384
noncomputable section

namespace Cert.Pre_finite_inputs.Gen
open Idealize.ShloMosaic Cert.FiniteReals Cert.Pre_finite_inputs

instance facts : Cert.Pre_finite_inputs.Facts where
  bcast_S_S4x4096x2048 := by decide
  reducesTo_S4x4096x2048_S_d0_1_2 := by decide
  h_S_ := by decide
  bcast_S_S8x1x6144 := by decide
  reducesTo_S8x1x6144_S_d0_1_2 := by decide
  bcast_S_S1x2048 := by decide
  reducesTo_S1x2048_S_d0_1 := by decide
  bcast_S_S1x2048x14368 := by decide
  reducesTo_S1x2048x14368_S_d0_1_2 := by decide

theorem reals (a0 : FVec Ideal S4x4096x2048 .f32) (a1 : FVec Ideal S8x1x6144 .f32) (a2 : FVec Ideal S1x2048 .f32) (a3 : FVec Ideal S1x2048x14368 .f32)
    (h : fn (F := Ideal) a0 a1 a2 a3 = fun _ => 1#1) :
    (∀ i, IsR (a0 i)) ∧ (∀ i, IsR (a1 i)) ∧ (∀ i, IsR (a2 i)) ∧ (∀ i, IsR (a3 i)) := by
  haveI : Subsingleton S_.Idx := sub0 rfl
  have j : S_.Idx := Shape.Idx.first Facts.h_S_
  have e := congrFun h j
  unfold fn fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨fun i => real_of_abs_lt _ (Host.reduce_andi_all _ _ _ _ j e0 i), fun i => real_of_abs_lt _ (Host.reduce_andi_all _ _ _ _ j e1 i),
    fun i => real_of_abs_lt _ (Host.reduce_andi_all _ _ _ _ j e2 i), fun i => real_of_abs_lt _ (Host.reduce_andi_all _ _ _ _ j e3 i)⟩

end Cert.Pre_finite_inputs.Gen

end
-- ==== Proof.InClaim.lean ====
/-
  The input projection's two result arrays, index by index, and their equality with the reference's.
-/
module

public import proofs.«01_k».proof.Defs
public import proofs.«01_k».proof.Proof.InPFrame
public import proofs.«01_k».proof.Proof.Gen.Reference2Ideal.Run
public import proofs.«01_k».proof.Proof.InBlocks
public import proofs.«01_k».proof.Proof.PreReal
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.InSpec Cert.FiniteReals

namespace Cert.Kernel2Ideal.IA

open Cert.Kernel2Ideal Cert.Kernel2Ideal.Gen Cert.Proof.Inproj

variable (m : (ℓ : Loc nD τ sig) → Buf (Elt Ideal) ℓ)

/-- The reference's wide result of device `c`'s arguments. -/
abbrev G0 (c : Dev nD) : Buf (Elt Ideal) ((c : Thread nD τ).loc main_v10_0) :=
  Cert.Reference2Ideal.Read.val_main_v36 (F := Ideal) (m ((c : Thread nD τ).loc main_arg0)) (m ((c : Thread nD τ).loc main_arg1))
    (m ((c : Thread nD τ).loc main_arg2)) (m ((c : Thread nD τ).loc main_arg3))

/-- The reference's low-rank result of device `c`'s arguments. -/
abbrev G1 (c : Dev nD) : Buf (Elt Ideal) ((c : Thread nD τ).loc main_v10_1) :=
  Cert.Reference2Ideal.Read.val_main_v37 (F := Ideal) (m ((c : Thread nD τ).loc main_arg0)) (m ((c : Thread nD τ).loc main_arg1))
    (m ((c : Thread nD τ).loc main_arg2)) (m ((c : Thread nD τ).loc main_arg3))

/-- The normalised row of a row of the flattened tokens. -/
abbrev rowOf (c : Dev nD) (R : Fin 16384) : Fin 2048 → EReal :=
  Cert.Reference2Ideal.IV.row (m ((c : Thread nD τ).loc main_arg0)) (m ((c : Thread nD τ).loc main_arg1))
    (m ((c : Thread nD τ).loc main_arg2)) ⟨R.val / 4096, by omega⟩ ⟨R.val % 4096, by omega⟩

theorem ldX_apply (x0 : Vec Ideal S1024x2048 .f32) (k : Fin k0_t1_loop.trips) (r : Fin 256) (e : Fin 2048) (R : Fin 1024)
    (hR : R.val = 256 * k.val + r.val) : ldX x0 k (ix2 r e) = x0 (ix2 R e) := by
  unfold ldX
  show x0 _ = _
  refine congrArg x0 (funext fun a => Fin.ext ?_)
  match a with
  | ⟨0, _⟩ => show k0_off1 k 0 + 1 * r.val = R.val; rw [off1_eq]; show 256 * k.val + 1 * r.val = _; omega
  | ⟨1, _⟩ => show k0_off1 k 1 + 1 * e.val = e.val; rw [off1_eq]; show 0 + 1 * e.val = _; omega

/-- The normalised row a row of a point's trip works on. -/
theorem row_eq (c : Dev nD) (t : Fin cfg0.N) (R : Fin 1024) :
    hn (fun k => ldX (iblk m c 0 t) (tripAt R) (ix2 (⟨R.val % 256, Nat.mod_lt _ (by decide)⟩ : Fin 256) k)) (fun k => iblk m c 3 t (ix2 0 k))
      (fun k => iblk m c 2 t (ix3 0 0 k)) (fun k => iblk m c 1 t (ix3 0 0 k)) = rowOf m c (rt t R) := by
  have hN : t.val < 224 := lt_of_lt_of_eq t.isLt (show cfg0.N = 224 from N_0)
  have hR := R.isLt
  have e0 : ∀ k, ldX (iblk m c 0 t) (tripAt R) (ix2 (⟨R.val % 256, Nat.mod_lt _ (by decide)⟩ : Fin 256) k)
      = m ((c : Thread nD τ).loc main_arg0) (ix3 ⟨(rt t R).val / 4096, by omega⟩ ⟨(rt t R).val % 4096, by omega⟩ k) := fun k =>
    (ldX_apply _ _ _ k R (by show R.val = 256 * (R.val / 256) + R.val % 256; omega)).trans ((blk0 m c t R k).trans (V_v7 m c _ k))
  have e3 : ∀ k, iblk m c 3 t (ix2 0 k) = m ((c : Thread nD τ).loc main_arg2) (ix2 0 k) := fun k => (blk3 m c t k).trans (V_v9 m c k)
  have hb : (bt t : Fin 8) = ⟨(rt t R).val / 4096, by omega⟩ := Fin.ext (by show t.val / 56 = (t.val / 14 * 1024 + R.val) / 4096; omega)
  unfold rowOf
  simp only [e0, e3, blk1, blk2, hb]

theorem hnAt_apply (c : Dev nD) (t : Fin cfg0.N) (R : Fin 1024) (e : Fin 2048) :
    hnAt m c t (ix2 R e) = rowOf m c (rt (firstOf t) R) e := by
  unfold hnAt hnB hnP
  refine (Cert.Kernel2Ideal.IV.pay6 _ _ _ _ _ e).trans ?_
  exact congrFun (row_eq m c (firstOf t) R) e

theorem rt_firstOf (t : Fin cfg0.N) (R : Fin 1024) : rt (firstOf t) R = rt t R :=
  Fin.ext (by show (t.val - t.val % 14) / 14 * 1024 + R.val = t.val / 14 * 1024 + R.val; omega)

/-! ## The wide result -/

theorem idx6 : ∀ t : Fin cfg0.N, win0_6.index t 0 = t.val / 14 ∧ win0_6.index t 1 = t.val % 14 :=
  (by decide +kernel : ∀ t : Fin grid0.N, win0_6.index t 0 = t.val / 14 ∧ win0_6.index t 1 = t.val % 14)

theorem rd6 (t : Fin cfg0.N) (f : S16384x14336.Idx → EReal) (r : Fin 1024) (l : Fin 1024) :
    ((cfg0.win 6).blk t).view.read (Elt Ideal) f (ix2 r l) = f (ix2 (rt t r) (ct t l)) := by
  have h := idx6 t
  rw [View.read_apply]
  refine congrArg f (funext fun a => Fin.ext ?_)
  match a with
  | ⟨0, _⟩ => show win0_6.index t 0 * 1024 + 1 * r.val = t.val / 14 * 1024 + r.val; rw [h.1]; omega
  | ⟨1, _⟩ => show win0_6.index t 1 * 1024 + 1 * l.val = t.val % 14 * 1024 + l.val; rw [h.2]; omega

theorem flushed6 (c : Dev nD) (t : Fin cfg0.N) :
    (dats m 0 c).flushed 6 t = ((cfg0.win 6).blk t).view.read (Elt Ideal) (G0 m c) := by
  show (cfg0.win 6).cut (grid0.coords t) ((dats m 0 c).after 6 t) = _
  rw [after0_6]
  show oAt m c t = _
  unfold oAt
  refine funext fun (i : S1024x1024.Idx) => ?_
  obtain ⟨r, l, rfl⟩ : ∃ (r : Fin 1024) (l : Fin 1024), i = ix2 r l := ⟨i 0, i 1, eq_ix2 i⟩
  refine (Cert.Kernel2Ideal.IV.pay4 _ _ r l).trans ?_
  refine Eq.trans ?_ ((rd6 t _ r l).trans (Cert.Reference2Ideal.IV.wide _ _ _ _ (rt t r) (ct t l))).symm
  refine congrArg₂ prod (funext fun k => ?_) (funext fun k => ?_)
  · exact (hnAt_apply m c t r k).trans (congrArg (fun z => rowOf m c z k) (rt_firstOf t r))
  · exact (blk4 m c t k l).trans (V_v4 m c k (ct t l))

theorem mem6 (t : Fin cfg0.N) (i : S16384x14336.Idx) (h0 : (i 0 : Nat) / 1024 = t.val / 14) (h1 : (i 1 : Nat) / 1024 = t.val % 14) :
    i ∈ ((cfg0.win 6).blk t).view.set := by
  show i ∈ ((View.whole main_v10_0).slice (win0_6.rect t)).set
  rw [View.set_slice_whole, Rect.mem_set_unit]
  have h := idx6 t
  intro a
  match a with
  | ⟨0, _⟩ => show win0_6.index t 0 * 1024 ≤ (i 0 : Nat) ∧ (i 0 : Nat) < win0_6.index t 0 * 1024 + 1024
              rw [h.1]; omega
  | ⟨1, _⟩ => show win0_6.index t 1 * 1024 ≤ (i 1 : Nat) ∧ (i 1 : Nat) < win0_6.index t 1 * 1024 + 1024
              rw [h.2]; omega

/-- The wide result array ends as the reference's. -/
theorem final6 (c : Dev nD) : (dats m 0 c).arrAt 6 cfg0.N = G0 m c :=
  (dats m 0 c).arrAt_eq_of_cover 6 (G0 m c) (fun t _ => flushed6 m c t) fun (i : S16384x14336.Idx) => by
    have hN : cfg0.N = 224 := N_0
    have h0 : (i 0 : Nat) < 16384 := (i 0).isLt
    have h1 : (i 1 : Nat) < 14336 := (i 1).isLt
    refine ⟨⟨(i 0 : Nat) / 1024 * 14 + (i 1 : Nat) / 1024, by omega⟩, flush0_6 _, mem6 _ i ?_ ?_⟩ <;> dsimp only <;> omega

/-! ## The low-rank result -/

theorem idx7 : ∀ t : Fin cfg0.N, win0_7.index t 0 = t.val / 14 ∧ win0_7.index t 1 = 0 :=
  (by decide +kernel : ∀ t : Fin grid0.N, win0_7.index t 0 = t.val / 14 ∧ win0_7.index t 1 = 0)

theorem rd7 (t : Fin cfg0.N) (f : S16384x128.Idx → EReal) (r : Fin 1024) (l : Fin 128) :
    ((cfg0.win 7).blk t).view.read (Elt Ideal) f (ix2 r l) = f (ix2 (rt t r) l) := by
  have h := idx7 t
  rw [View.read_apply]
  refine congrArg f (funext fun a => Fin.ext ?_)
  match a with
  | ⟨0, _⟩ => show win0_7.index t 0 * 1024 + 1 * r.val = t.val / 14 * 1024 + r.val; rw [h.1]; omega
  | ⟨1, _⟩ => show win0_7.index t 1 * 128 + 1 * l.val = l.val; rw [h.2]; omega

/-- The arguments of device `c` are real numbers. -/
def Reals (c : Dev nD) : Prop :=
  (∀ i, IsR (m ((c : Thread nD τ).loc main_arg0) i)) ∧ (∀ i, IsR (m ((c : Thread nD τ).loc main_arg1) i))
    ∧ (∀ i, IsR (m ((c : Thread nD τ).loc main_arg2) i)) ∧ (∀ i, IsR (m ((c : Thread nD τ).loc main_arg3) i))

theorem row_real (c : Dev nD) (h : Reals m c) (R : Fin 16384) (k : Fin 2048) : IsR (rowOf m c R k) :=
  (((((h.1 _).mul (rstd_real _ fun _ => h.1 _)).mul (h.2.2.1 _)).mul (IsR.one.add (h.2.1 _))).add (h.2.1 _))

/-- With real entries the two mending products vanish. -/
theorem mended (H w : Fin 2048 → EReal) (hH : ∀ k, IsR (H k)) (hw : ∀ k, IsR (w k)) :
    (∑ k, H k * w k) + ((∑ k, H k * (w k - w k)) + ∑ k, (H k - H k) * w k) = prod H w := by
  have e1 : ∀ k, H k * (w k - w k) = 0 := fun k => by rw [(hw k).sub_self, mul_zero]
  have e2 : ∀ k, (H k - H k) * w k = 0 := fun k => by rw [(hH k).sub_self, zero_mul]
  simp only [e1, e2, Finset.sum_const_zero, add_zero]
  rfl

theorem lrAt_apply (c : Dev nD) (h : Reals m c) (t : Fin cfg0.N) (R : Fin 1024) (l : Fin 128) :
    lrAt m c t (ix2 R l) = G1 m c (ix2 (rt t R) l) := by
  unfold lrAt lrB lrP
  refine (Cert.Kernel2Ideal.IV.pay3 _ _ _ _ _ _ l (rowOf m c (rt (firstOf t) R)) (row_eq m c (firstOf t) R).symm).trans ?_
  rw [rt_firstOf]
  have ew : ∀ k, iblk m c 5 (firstOf t) (ix2 k l) = _ := fun k => (blk5 m c (firstOf t) k l).trans (V_v6 m c k l)
  refine Eq.trans ?_ (Cert.Reference2Ideal.IV.low _ _ _ _ (rt t R) l).symm
  by_cases hl : l.val < 32
  · simp only [ew, dif_pos hl]
    exact mended _ _ (row_real m c h _) (fun k => h.2.2.2 _)
  · simp only [ew, dif_neg hl]
    refine (mended _ (fun _ => 0) (row_real m c h _) (fun k => IsR.zero)).trans ?_
    simp only [prod, mul_zero, Finset.sum_const_zero]

theorem flushed7 (c : Dev nD) (h : Reals m c) (t : Fin cfg0.N) :
    (dats m 0 c).flushed 7 t = ((cfg0.win 7).blk t).view.read (Elt Ideal) (G1 m c) := by
  show (cfg0.win 7).cut (grid0.coords t) ((dats m 0 c).after 7 t) = _
  rw [after0_7]
  show lrAt m c t = _
  refine funext fun (i : S1024x128.Idx) => ?_
  obtain ⟨r, l, rfl⟩ : ∃ (r : Fin 1024) (l : Fin 128), i = ix2 r l := ⟨i 0, i 1, eq_ix2 i⟩
  exact (lrAt_apply m c h t r l).trans (rd7 t _ r l).symm

theorem mem7 (t : Fin cfg0.N) (i : S16384x128.Idx) (h0 : (i 0 : Nat) / 1024 = t.val / 14) :
    i ∈ ((cfg0.win 7).blk t).view.set := by
  show i ∈ ((View.whole main_v10_1).slice (win0_7.rect t)).set
  rw [View.set_slice_whole, Rect.mem_set_unit]
  have h := idx7 t
  have h1 : (i 1 : Nat) < 128 := (i 1).isLt
  intro a
  match a with
  | ⟨0, _⟩ => show win0_7.index t 0 * 1024 ≤ (i 0 : Nat) ∧ (i 0 : Nat) < win0_7.index t 0 * 1024 + 1024
              rw [h.1]; omega
  | ⟨1, _⟩ => show win0_7.index t 1 * 128 ≤ (i 1 : Nat) ∧ (i 1 : Nat) < win0_7.index t 1 * 128 + 128
              rw [h.2]; omega

/-- The low-rank result array ends as the reference's. -/
theorem final7 (c : Dev nD) (h : Reals m c) : (dats m 0 c).arrAt 7 cfg0.N = G1 m c :=
  (dats m 0 c).arrAt_eq_of_cover 7 (G1 m c) (fun t _ => flushed7 m c h t) fun (i : S16384x128.Idx) => by
    have hN : cfg0.N = 224 := N_0
    have h0 : (i 0 : Nat) < 16384 := (i 0).isLt
    refine ⟨⟨(i 0 : Nat) / 1024 * 14 + 13, by omega⟩, (flush0_7 _).mpr ?_, mem7 _ i ?_⟩ <;> dsimp only <;> omega

/-- After the run the two result arrays are the reference's and the arguments are unchanged. -/
theorem run_values (ρ : Dev nD → PrngReg) (h : ∀ c, Reals m c) :
    θ_run defs (onTc (τ := τ) (main (F := Ideal))) ⟨m, fun _ => 0, ρ⟩ fun r => ∀ c : Dev nD,
      r.2.mem ((c : Thread nD τ).loc main_v10_0) = G0 m c
      ∧ r.2.mem ((c : Thread nD τ).loc main_v10_1) = G1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c =>
    ⟨((hr.1 c).1 6).trans (final6 m c), ((hr.1 c).1 7).trans (final7 m c (h c)), hr.2.1 c⟩)
    (θ_run_and (run_main m ρ) (Cert.Proof.Inproj.frame m ρ))

end Cert.Kernel2Ideal.IA

namespace Cert.Proof.InClaims

theorem frame_p : Cert.quiescent_Kernel2 := fun m ρ _ => Cert.Proof.InprojPrinted.frame m ρ
theorem frame_pi : Cert.quiescent_Kernel2Ideal := fun m ρ _ => Cert.Proof.Inproj.frame m ρ
theorem frame_ri : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)
theorem preserves : Cert.preserves_Kernel2_Kernel2Ideal := trivial

/-- The projection kernel and the plain projection leave the same two arrays, for real inputs. -/
theorem algebraic : Cert.algebraic_Kernel2Ideal_Reference2Ideal_pre_finite_inputs := fun m ρ m' ρ' hpre hag => by
  have hr : ∀ c, Cert.Kernel2Ideal.IA.Reals m c := fun c => Cert.Pre_finite_inputs.Gen.reals _ _ _ _ (hpre c)
  refine ⟨fun c => Cert.Kernel2Ideal.IA.G0 m c, fun c => Cert.Kernel2Ideal.IA.G1 m c, ?_, ?_⟩
  · exact Cert.Kernel2Ideal.IA.run_values m ρ hr
  · refine (θ_run _ _ _).mono (fun r h c => ⟨((h c).1).trans ?_, ((h c).2.1).trans ?_, (h c).2.2⟩) (Cert.Reference2Ideal.Value.run (F := Ideal) m' ρ')
    · rw [Cert.Reference2Ideal.Read.val_main_v36_eq]
      obtain ⟨a0, a1, a2, a3⟩ := hag c
      rw [a0, a1, a2, a3]
    · rw [Cert.Reference2Ideal.Read.val_main_v37_eq]
      obtain ⟨a0, a1, a2, a3⟩ := hag c
      rw [a0, a1, a2, a3]

end Cert.Proof.InClaims

end
-- ==== Proof.MergeKernel.lean ====
/-
  What one grid point of the merge kernel stores, read at an index: the merge of that row's token (`MergeSpec.out`).
-/
module

public import proofs.«01_k».proof.Proof.Gen.Kernel3Ideal.Skeleton
public import proofs.«01_k».proof.Proof.MergeSpec

@[expose] public section
set_option maxRecDepth 16384
noncomputable section

namespace Cert.Kernel3Ideal.MV
open Cert.Kernel3Ideal Cert.Kernel3Ideal.Gen Idealize.ShloMosaic Cert.MergeSpec

/-- The normalised heads, the projection gate and the first weight: the attention branch. -/
theorem gla_branch (a b : Vec Ideal S1x1x256x2048 .bf16) (g : Vec Ideal S1x512 .f32) (p : Vec Ideal S1x256x2048 .bf16)
    (w : Vec Ideal S2048x2048 .bf16) (r : Fin 256) (l : Fin 2048) :
    k0_pay9 (k0_pay2 a b) (k0_pay3 g) (k0_pay4 a b g) (k0_pay5 a b g) (k0_pay6 a b) (k0_pay7 a b) (k0_pay8 (F := Ideal)) p w (ix2 r l)
      = gated (normed (fun e => a (ix4 0 0 r e) + b (ix4 0 0 r e)) (fun e => g (ix2 0 e))) (fun x => p (ix3 0 r x))
          (fun x l => w (ix2 x l)) l := by
  pointwise [k0_pay9, k0_pay2, k0_pay3, k0_pay4, k0_pay5, k0_pay6, k0_pay7, k0_pay8, gated, normed, lgst, rstd]
  refine Finset.sum_congr rfl fun x _ => ?_
  refine Ideal.mul_congr (Ideal.mul_congr ?_ rfl) rfl
  have hx := x.isLt
  by_cases h1 : x.val < 512
  · rw [dif_pos h1]
    have e1 : x.val / 512 = 0 := by omega
    have e2 : x.val % 512 = x.val := by omega
    simp only [e1, e2, Nat.mul_zero, Nat.zero_add]
  rw [dif_neg h1]
  by_cases h2 : x.val - 512 < 512
  · rw [dif_pos h2]
    have e1 : x.val / 512 = 1 := by omega
    have e2 : x.val % 512 = x.val - 512 := by omega
    have e3 : 512 + (x.val - 512) = x.val := by omega
    simp only [e1, e2, e3, Nat.mul_one, Fin.eta]
  rw [dif_neg h2]
  by_cases h3 : x.val - 512 - 512 < 512
  · rw [dif_pos h3]
    have e1 : x.val / 512 = 2 := by omega
    have e2 : x.val % 512 = x.val - 512 - 512 := by omega
    have e3 : 1024 + (x.val - 512 - 512) = x.val := by omega
    simp only [e1, e2, e3, Nat.reduceMul, Fin.eta]
  · rw [dif_neg h3]
    have e1 : x.val / 512 = 3 := by omega
    have e2 : x.val % 512 = x.val - 512 - 512 - 512 := by omega
    have e3 : 1536 + (x.val - 512 - 512 - 512) = x.val := by omega
    simp only [e1, e2, e3, Nat.reduceMul, Fin.eta]

/-- The recurrence branch. -/
theorem lru_branch (a b : Vec Ideal S1x1x256x2048 .bf16) (p : Vec Ideal S1x256x2048 .bf16)
    (w : Vec Ideal S2048x2048 .bf16) (r : Fin 256) (l : Fin 2048) :
    k0_pay11 (k0_pay10 a) b p w (ix2 r l)
      = gated (fun e => a (ix4 0 0 r e) + b (ix4 0 0 r e)) (fun x => p (ix3 0 r x)) (fun x l => w (ix2 x l)) l := by
  pointwise [k0_pay11, k0_pay10, gated, lgst]

/-- What the point stores, at row `r` and column `l`. -/
theorem stored (o0 o1 : Vec Ideal S1x1x256x2048 .bf16) (g : Vec Ideal S1x512 .f32) (pg : Vec Ideal S1x256x2048 .bf16)
    (wog : Vec Ideal S2048x2048 .bf16) (y0 y1 : Vec Ideal S1x1x256x2048 .bf16) (pr : Vec Ideal S1x256x2048 .bf16)
    (wor : Vec Ideal S2048x2048 .bf16) (bm : Vec Ideal S1x4096 .f32) (mg ml : Vec Ideal S1x256x2048 .bf16)
    (wout : Vec Ideal S2048x2048 .bf16) (xr : Vec Ideal S1x256x2048 .f32) (gt : Vec Ideal S1x1x2048 .f32)
    (gf : Vec Ideal S1x2048 .f32) (r : Fin 256) (l : Fin 2048) :
    k0_pay1 (k0_pay15 (k0_pay9 (k0_pay2 o0 o1) (k0_pay3 g) (k0_pay4 o0 o1 g) (k0_pay5 o0 o1 g) (k0_pay6 o0 o1) (k0_pay7 o0 o1)
        (k0_pay8 (F := Ideal)) pg wog) (k0_pay11 (k0_pay10 y0) y1 pr wor) (k0_pay12 bm) (k0_pay13 bm mg) (k0_pay14 ml) wout xr gt gf)
        (ix3 0 r l)
      = out (fun e => o0 (ix4 0 0 r e) + o1 (ix4 0 0 r e)) (fun e => y0 (ix4 0 0 r e) + y1 (ix4 0 0 r e))
          (fun e => pg (ix3 0 r e)) (fun e => pr (ix3 0 r e)) (fun e => mg (ix3 0 r e)) (fun e => ml (ix3 0 r e))
          (fun e => xr (ix3 0 r e)) (fun e => gt (ix3 0 0 e)) (fun e => g (ix2 0 e)) (fun e => bm (ix2 0 e))
          (fun x l => wog (ix2 x l)) (fun x l => wor (ix2 x l)) (fun x l => wout (ix2 x l)) (fun e => gf (ix2 0 e)) l := by
  have h9 := gla_branch o0 o1 g pg wog r
  have h11 := lru_branch y0 y1 pr wor r
  revert h9 h11
  generalize k0_pay9 (k0_pay2 o0 o1) (k0_pay3 g) (k0_pay4 o0 o1 g) (k0_pay5 o0 o1 g) (k0_pay6 o0 o1) (k0_pay7 o0 o1)
        (k0_pay8 (F := Ideal)) pg wog = A
  generalize k0_pay11 (k0_pay10 y0) y1 pr wor = B
  intro h9 h11
  pointwise [k0_pay1, k0_pay15, k0_pay12, k0_pay13, k0_pay14]
  simp only [h9, h11]
  rfl

end Cert.Kernel3Ideal.MV
-- ==== Proof.MergeRef.lean ====
/-
  The merge's reference read at an index: the merge of that token (`MergeSpec.out`), one stage of the program at a time.
-/
module

public import proofs.«01_k».proof.Proof.Gen.Reference3Ideal.Read
public import proofs.«01_k».proof.Proof.MergeSpec

@[expose] public section
set_option maxRecDepth 16384
noncomputable section

namespace Cert.Reference3Ideal.MV
open Cert.Reference3Ideal Cert.Reference3Ideal.Gen Cert.Reference3Ideal.Read Idealize.ShloMosaic Cert.MergeSpec

/-- The attention branch. -/
theorem ygla (x0 : (⟨S2x4x4096x2048, .bf16⟩ : BufTy).Contents (Elt Ideal)) (x2 : (⟨S4x4096x14336, .bf16⟩ : BufTy).Contents (Elt Ideal))
    (x5 : (⟨S1x512, .f32⟩ : BufTy).Contents (Elt Ideal)) (x7 : (⟨S1x2048x2048, .f32⟩ : BufTy).Contents (Elt Ideal)) (b : Fin 4) (t : Fin 4096) (l : Fin 2048) :
    val_main_v42 (F := Ideal) x0 x2 x5 x7 (ix3 b t l)
      = gated (normed (fun e => x0 (ix4 0 b t e) + x0 (ix4 1 b t e)) (fun e => x5 (ix2 0 e)))
          (fun e => x2 (ix3 b t ⟨4096 + e.val, by omega⟩)) (fun x l => x7 (ix3 0 x l)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_v26, val_main_v27, val_main_cst_0, val_main_v28, val_main_v29, val_main_cst_1, val_main_v30, val_main_v31, val_main_v32, val_main_v33, val_main_v34, val_main_v35, val_main_v36, val_main_v37, val_main_v38, val_main_v39, val_main_call0_v0, val_main_call0_v1, val_main_call0_cst, val_main_call0_v2, val_main_call0_v3, val_main_call0_cst_0, val_main_call0_v4, val_main_call0_v5, val_main_v40, val_main_v41, val_main_v42, gated, normed, lgst, rstd]
  simp only [zero_sub, Nat.mul_comm 512]

/-- The recurrence branch. -/
theorem ylru (x1 : (⟨S2x4x4096x2048, .bf16⟩ : BufTy).Contents (Elt Ideal)) (x2 : (⟨S4x4096x14336, .bf16⟩ : BufTy).Contents (Elt Ideal))
    (x8 : (⟨S1x2048x2048, .f32⟩ : BufTy).Contents (Elt Ideal)) (b : Fin 4) (t : Fin 4096) (l : Fin 2048) :
    val_main_v45 (F := Ideal) x1 x2 x8 (ix3 b t l)
      = gated (fun e => x1 (ix4 0 b t e) + x1 (ix4 1 b t e))
          (fun e => x2 (ix3 b t ⟨8192 + e.val, by omega⟩)) (fun x l => x8 (ix3 0 x l)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_v26, val_main_v27, val_main_cst_0, val_main_v28, val_main_v29, val_main_cst_1, val_main_v30, val_main_v31, val_main_v32, val_main_v33, val_main_v34, val_main_v35, val_main_v36, val_main_v37, val_main_v38, val_main_v39, val_main_call0_v0, val_main_call0_v1, val_main_call0_cst, val_main_call0_v2, val_main_call0_v3, val_main_call0_cst_0, val_main_call0_v4, val_main_call0_v5, val_main_v40, val_main_v41, val_main_v42, val_main_call1_v0, val_main_call1_v1, val_main_call1_cst, val_main_call1_v2, val_main_call1_v3, val_main_call1_cst_0, val_main_call1_v4, val_main_call1_v5, val_main_v43, val_main_v44, val_main_v45, gated, normed, lgst, rstd]
  simp only [zero_sub]

/-- The mixed branches against the output weight. -/
theorem projected (x0 x1 : (⟨S2x4x4096x2048, .bf16⟩ : BufTy).Contents (Elt Ideal)) (x2 : (⟨S4x4096x14336, .bf16⟩ : BufTy).Contents (Elt Ideal))

    (x5 : (⟨S1x512, .f32⟩ : BufTy).Contents (Elt Ideal)) (x6 : (⟨S1x4096, .f32⟩ : BufTy).Contents (Elt Ideal))
    (x7 x8 x9 : (⟨S1x2048x2048, .f32⟩ : BufTy).Contents (Elt Ideal))
    (b : Fin 4) (t : Fin 4096) (l : Fin 2048) :
    val_main_v69 (F := Ideal) x0 x1 x2 x5 x6 x7 x8 x9 (ix3 b t l)
      = ∑ x, mixed (fun e => x0 (ix4 0 b t e) + x0 (ix4 1 b t e)) (fun e => x1 (ix4 0 b t e) + x1 (ix4 1 b t e))
          (fun e => x2 (ix3 b t ⟨4096 + e.val, by omega⟩)) (fun e => x2 (ix3 b t ⟨8192 + e.val, by omega⟩))
          (fun e => x2 (ix3 b t ⟨10240 + e.val, by omega⟩)) (fun e => x2 (ix3 b t ⟨12288 + e.val, by omega⟩))
          (fun e => x5 (ix2 0 e)) (fun e => x6 (ix2 0 e)) (fun x l => x7 (ix3 0 x l)) (fun x l => x8 (ix3 0 x l)) x
          * x9 (ix3 0 x l) := by
  pointwise [val_main_v46, val_main_v47, val_main_v48, val_main_v49, val_main_v50, val_main_v51, val_main_cst_2, val_main_v52, val_main_v53, val_main_cst_3, val_main_v54, val_main_v55, val_main_v56, val_main_v57, val_main_v58, val_main_v59, val_main_v60, val_main_v61, val_main_cst_4, val_main_v62, val_main_v63, val_main_cst_5, val_main_v64, val_main_v65, val_main_v66, val_main_v67, val_main_v68, val_main_v69, val_main_v3, val_main_v18, val_main_v19, val_main_v23, val_main_v24]
  simp only [ygla, ylru, mixed, lgst, zero_sub]

/-- The reference's result at token `t` of sequence `b`, column `l`. -/
theorem result (x0 x1 : (⟨S2x4x4096x2048, .bf16⟩ : BufTy).Contents (Elt Ideal)) (x2 : (⟨S4x4096x14336, .bf16⟩ : BufTy).Contents (Elt Ideal))
    (x3 : (⟨S4x4096x2048, .f32⟩ : BufTy).Contents (Elt Ideal)) (x4 : (⟨S8x1x6144, .f32⟩ : BufTy).Contents (Elt Ideal))
    (x5 : (⟨S1x512, .f32⟩ : BufTy).Contents (Elt Ideal)) (x6 : (⟨S1x4096, .f32⟩ : BufTy).Contents (Elt Ideal))
    (x7 x8 x9 : (⟨S1x2048x2048, .f32⟩ : BufTy).Contents (Elt Ideal)) (x10 : (⟨S2048, .f32⟩ : BufTy).Contents (Elt Ideal))
    (b : Fin 4) (t : Fin 4096) (l : Fin 2048) :
    val_main_v85 (F := Ideal) x0 x1 x2 x3 x4 x5 x6 x7 x8 x9 x10 (ix3 b t l)
      = out (fun e => x0 (ix4 0 b t e) + x0 (ix4 1 b t e)) (fun e => x1 (ix4 0 b t e) + x1 (ix4 1 b t e))
          (fun e => x2 (ix3 b t ⟨4096 + e.val, by omega⟩)) (fun e => x2 (ix3 b t ⟨8192 + e.val, by omega⟩))
          (fun e => x2 (ix3 b t ⟨10240 + e.val, by omega⟩)) (fun e => x2 (ix3 b t ⟨12288 + e.val, by omega⟩))
          (fun e => x3 (ix3 b t e)) (fun e => x4 (ix3 ⟨b.val, by omega⟩ 0 ⟨4096 + e.val, by omega⟩))
          (fun e => x5 (ix2 0 e)) (fun e => x6 (ix2 0 e)) (fun x l => x7 (ix3 0 x l)) (fun x l => x8 (ix3 0 x l))
          (fun x l => x9 (ix3 0 x l)) (fun e => x10 (ix1 e)) l := by
  pointwise [val_main_v70, val_main_v71, val_main_v72, val_main_v73, val_main_cst_6, val_main_v74, val_main_v75, val_main_cst_7, val_main_v76, val_main_v77, val_main_cst_8, val_main_v78, val_main_v79, val_main_v80, val_main_v81, val_main_v82, val_main_v83, val_main_v84, val_main_v85, val_main_v0]
  simp only [projected, out, final, resid, rstd]

end Cert.Reference3Ideal.MV
-- ==== Proof.MergeBlocks.lean ====
module

public import proofs.«01_k».proof.Proof.Gen.Kernel3Ideal.Value
public import proofs.«01_k».proof.Proof.MergeKernel
public import proofs.«01_k».proof.Proof.MergeRef
public import Idealize.ShloMosaic.Lib.Pipeline.Value
public import Idealize.ShloMosaic.Lib.Quiescent

/-!
The merge kernel's result array, index by index, and its equality with the reference's.
-/

@[expose] public section

set_option maxRecDepth 16384

noncomputable section

open Idealize.ShloMosaic Idealize.ShloMosaic.TcCoe Idealize.SL.Sem
open Idealize.ShloMosaic.Pipeline (Dat)
open Cert.MergeSpec

namespace Cert.Kernel3Ideal.MA

open Cert.Kernel3Ideal Cert.Kernel3Ideal.Gen

variable (m : (ℓ : Loc nD τ sig) → Buf (Elt Ideal) ℓ)

/-- The sequence a grid point works on. -/
abbrev bt (t : Fin cfg0.N) : Fin 4 := ⟨t.val / 16, by have := t.isLt; have : cfg0.N = 64 := N_0; omega⟩
/-- The token a row of a grid point's block is. -/
abbrev rt (t : Fin cfg0.N) (r : Fin 256) : Fin 4096 := ⟨t.val % 16 * 256 + r.val, by omega⟩

/-! ## The input blocks -/

theorem idx0 : ∀ t : Fin cfg0.N, win0_0.index t 0 = 0 ∧ win0_0.index t 1 = t.val / 16 ∧ win0_0.index t 2 = t.val % 16 ∧ win0_0.index t 3 = 0 :=
  (by decide +kernel : ∀ t : Fin grid0.N, win0_0.index t 0 = 0 ∧ win0_0.index t 1 = t.val / 16 ∧ win0_0.index t 2 = t.val % 16 ∧ win0_0.index t 3 = 0)

theorem blk0 (c : Dev nD) (t : Fin cfg0.N) (r : Fin 256) (e : Fin 2048) :
    iblk m c 0 t (ix4 0 0 r e) = m ((c : Thread nD τ).loc main_arg0) (ix4 0 (bt t) (rt t r) e) := by
  have h := idx0 t
  unfold iblk
  rw [View.read_apply]
  show V m c main_arg0 _ = _
  rw [V_main_arg0]
  refine congrArg _ (funext fun a => Fin.ext ?_)
  match a with
  | ⟨0, _⟩ => show win0_0.index t 0 * 1 + 1 * 0 = 0; rw [h.1]; try omega
  | ⟨1, _⟩ => show win0_0.index t 1 * 1 + 1 * 0 = t.val / 16; rw [h.2.1]; try omega
  | ⟨2, _⟩ => show win0_0.index t 2 * 256 + 1 * r.val = t.val % 16 * 256 + r.val; rw [h.2.2.1]; try omega
  | ⟨3, _⟩ => show win0_0.index t 3 * 2048 + 1 * e.val = e.val; rw [h.2.2.2]; try omega

theorem idx1 : ∀ t : Fin cfg0.N, win0_1.index t 0 = 1 ∧ win0_1.index t 1 = t.val / 16 ∧ win0_1.index t 2 = t.val % 16 ∧ win0_1.index t 3 = 0 :=
  (by decide +kernel : ∀ t : Fin grid0.N, win0_1.index t 0 = 1 ∧ win0_1.index t 1 = t.val / 16 ∧ win0_1.index t 2 = t.val % 16 ∧ win0_1.index t 3 = 0)

theorem blk1 (c : Dev nD) (t : Fin cfg0.N) (r : Fin 256) (e : Fin 2048) :
    iblk m c 1 t (ix4 0 0 r e) = m ((c : Thread nD τ).loc main_arg0) (ix4 1 (bt t) (rt t r) e) := by
  have h := idx1 t
  unfold iblk
  rw [View.read_apply]
  show V m c main_arg0 _ = _
  rw [V_main_arg0]
  refine congrArg _ (funext fun a => Fin.ext ?_)
  match a with
  | ⟨0, _⟩ => show win0_1.index t 0 * 1 + 1 * 0 = 1; rw [h.1]; try omega
  | ⟨1, _⟩ => show win0_1.index t 1 * 1 + 1 * 0 = t.val / 16; rw [h.2.1]; try omega
  | ⟨2, _⟩ => show win0_1.index t 2 * 256 + 1 * r.val = t.val % 16 * 256 + r.val; rw [h.2.2.1]; try omega
  | ⟨3, _⟩ => show win0_1.index t 3 * 2048 + 1 * e.val = e.val; rw [h.2.2.2]; try omega

theorem idx2 : ∀ t : Fin cfg0.N, win0_2.index t 0 = 0 ∧ win0_2.index t 1 = t.val / 16 ∧ win0_2.index t 2 = t.val % 16 ∧ win0_2.index t 3 = 0 :=
  (by decide +kernel : ∀ t : Fin grid0.N, win0_2.index t 0 = 0 ∧ win0_2.index t 1 = t.val / 16 ∧ win0_2.index t 2 = t.val % 16 ∧ win0_2.index t 3 = 0)

theorem blk2 (c : Dev nD) (t : Fin cfg0.N) (r : Fin 256) (e : Fin 2048) :
    iblk m c 2 t (ix4 0 0 r e) = m ((c : Thread nD τ).loc main_arg1) (ix4 0 (bt t) (rt t r) e) := by
  have h := idx2 t
  unfold iblk
  rw [View.read_apply]
  show V m c main_arg1 _ = _
  rw [V_main_arg1]
  refine congrArg _ (funext fun a => Fin.ext ?_)
  match a with
  | ⟨0, _⟩ => show win0_2.index t 0 * 1 + 1 * 0 = 0; rw [h.1]; try omega
  | ⟨1, _⟩ => show win0_2.index t 1 * 1 + 1 * 0 = t.val / 16; rw [h.2.1]; try omega
  | ⟨2, _⟩ => show win0_2.index t 2 * 256 + 1 * r.val = t.val % 16 * 256 + r.val; rw [h.2.2.1]; try omega
  | ⟨3, _⟩ => show win0_2.index t 3 * 2048 + 1 * e.val = e.val; rw [h.2.2.2]; try omega

theorem idx3 : ∀ t : Fin cfg0.N, win0_3.index t 0 = 1 ∧ win0_3.index t 1 = t.val / 16 ∧ win0_3.index t 2 = t.val % 16 ∧ win0_3.index t 3 = 0 :=
  (by decide +kernel : ∀ t : Fin grid0.N, win0_3.index t 0 = 1 ∧ win0_3.index t 1 = t.val / 16 ∧ win0_3.index t 2 = t.val % 16 ∧ win0_3.index t 3 = 0)

theorem blk3 (c : Dev nD) (t : Fin cfg0.N) (r : Fin 256) (e : Fin 2048) :
    iblk m c 3 t (ix4 0 0 r e) = m ((c : Thread nD τ).loc main_arg1) (ix4 1 (bt t) (rt t r) e) := by
  have h := idx3 t
  unfold iblk
  rw [View.read_apply]
  show V m c main_arg1 _ = _
  rw [V_main_arg1]
  refine congrArg _ (funext fun a => Fin.ext ?_)
  match a with
  | ⟨0, _⟩ => show win0_3.index t 0 * 1 + 1 * 0 = 1; rw [h.1]; try omega
  | ⟨1, _⟩ => show win0_3.index t 1 * 1 + 1 * 0 = t.val / 16; rw [h.2.1]; try omega
  | ⟨2, _⟩ => show win0_3.index t 2 * 256 + 1 * r.val = t.val % 16 * 256 + r.val; rw [h.2.2.1]; try omega
  | ⟨3, _⟩ => show win0_3.index t 3 * 2048 + 1 * e.val = e.val; rw [h.2.2.2]; try omega

theorem idx4 : ∀ t : Fin cfg0.N, win0_4.index t 0 = t.val / 16 ∧ win0_4.index t 1 = t.val % 16 ∧ win0_4.index t 2 = 2 :=
  (by decide +kernel : ∀ t : Fin grid0.N, win0_4.index t 0 = t.val / 16 ∧ win0_4.index t 1 = t.val % 16 ∧ win0_4.index t 2 = 2)

theorem blk4 (c : Dev nD) (t : Fin cfg0.N) (r : Fin 256) (e : Fin 2048) :
    iblk m c 4 t (ix3 0 r e) = m ((c : Thread nD τ).loc main_arg2) (ix3 (bt t) (rt t r) ⟨4096 + e.val, by omega⟩) := by
  have h := idx4 t
  unfold iblk
  rw [View.read_apply]
  show V m c main_arg2 _ = _
  rw [V_main_arg2]
  refine congrArg _ (funext fun a => Fin.ext ?_)
  match a with
  | ⟨0, _⟩ => show win0_4.index t 0 * 1 + 1 * 0 = t.val / 16; rw [h.1]; try omega
  | ⟨1, _⟩ => show win0_4.index t 1 * 256 + 1 * r.val = t.val % 16 * 256 + r.val; rw [h.2.1]; try omega
  | ⟨2, _⟩ => show win0_4.index t 2 * 2048 + 1 * e.val = 4096 + e.val; rw [h.2.2]; try omega

theorem idx5 : ∀ t : Fin cfg0.N, win0_5.index t 0 = t.val / 16 ∧ win0_5.index t 1 = t.val % 16 ∧ win0_5.index t 2 = 4 :=
  (by decide +kernel : ∀ t : Fin grid0.N, win0_5.index t 0 = t.val / 16 ∧ win0_5.index t 1 = t.val % 16 ∧ win0_5.index t 2 = 4)

theorem blk5 (c : Dev nD) (t : Fin cfg0.N) (r : Fin 256) (e : Fin 2048) :
    iblk m c 5 t (ix3 0 r e) = m ((c : Thread nD τ).loc main_arg2) (ix3 (bt t) (rt t r) ⟨8192 + e.val, by omega⟩) := by
  have h := idx5 t
  unfold iblk
  rw [View.read_apply]
  show V m c main_arg2 _ = _
  rw [V_main_arg2]
  refine congrArg _ (funext fun a => Fin.ext ?_)
  match a with
  | ⟨0, _⟩ => show win0_5.index t 0 * 1 + 1 * 0 = t.val / 16; rw [h.1]; try omega
  | ⟨1, _⟩ => show win0_5.index t 1 * 256 + 1 * r.val = t.val % 16 * 256 + r.val; rw [h.2.1]; try omega
  | ⟨2, _⟩ => show win0_5.index t 2 * 2048 + 1 * e.val = 8192 + e.val; rw [h.2.2]; try omega

theorem idx6 : ∀ t : Fin cfg0.N, win0_6.index t 0 = t.val / 16 ∧ win0_6.index t 1 = t.val % 16 ∧ win0_6.index t 2 = 5 :=
  (by decide +kernel : ∀ t : Fin grid0.N, win0_6.index t 0 = t.val / 16 ∧ win0_6.index t 1 = t.val % 16 ∧ win0_6.index t 2 = 5)

theorem blk6 (c : Dev nD) (t : Fin cfg0.N) (r : Fin 256) (e : Fin 2048) :
    iblk m c 6 t (ix3 0 r e) = m ((c : Thread nD τ).loc main_arg2) (ix3 (bt t) (rt t r) ⟨10240 + e.val, by omega⟩) := by
  have h := idx6 t
  unfold iblk
  rw [View.read_apply]
  show V m c main_arg2 _ = _
  rw [V_main_arg2]
  refine congrArg _ (funext fun a => Fin.ext ?_)
  match a with
  | ⟨0, _⟩ => show win0_6.index t 0 * 1 + 1 * 0 = t.val / 16; rw [h.1]; try omega
  | ⟨1, _⟩ => show win0_6.index t 1 * 256 + 1 * r.val = t.val % 16 * 256 + r.val; rw [h.2.1]; try omega
  | ⟨2, _⟩ => show win0_6.index t 2 * 2048 + 1 * e.val = 10240 + e.val; rw [h.2.2]; try omega

theorem idx7 : ∀ t : Fin cfg0.N, win0_7.index t 0 = t.val / 16 ∧ win0_7.index t 1 = t.val % 16 ∧ win0_7.index t 2 = 6 :=
  (by decide +kernel : ∀ t : Fin grid0.N, win0_7.index t 0 = t.val / 16 ∧ win0_7.index t 1 = t.val % 16 ∧ win0_7.index t 2 = 6)

theorem blk7 (c : Dev nD) (t : Fin cfg0.N) (r : Fin 256) (e : Fin 2048) :
    iblk m c 7 t (ix3 0 r e) = m ((c : Thread nD τ).loc main_arg2) (ix3 (bt t) (rt t r) ⟨12288 + e.val, by omega⟩) := by
  have h := idx7 t
  unfold iblk
  rw [View.read_apply]
  show V m c main_arg2 _ = _
  rw [V_main_arg2]
  refine congrArg _ (funext fun a => Fin.ext ?_)
  match a with
  | ⟨0, _⟩ => show win0_7.index t 0 * 1 + 1 * 0 = t.val / 16; rw [h.1]; try omega
  | ⟨1, _⟩ => show win0_7.index t 1 * 256 + 1 * r.val = t.val % 16 * 256 + r.val; rw [h.2.1]; try omega
  | ⟨2, _⟩ => show win0_7.index t 2 * 2048 + 1 * e.val = 12288 + e.val; rw [h.2.2]; try omega

theorem idx8 : ∀ t : Fin cfg0.N, win0_8.index t 0 = t.val / 16 ∧ win0_8.index t 1 = t.val % 16 ∧ win0_8.index t 2 = 0 :=
  (by decide +kernel : ∀ t : Fin grid0.N, win0_8.index t 0 = t.val / 16 ∧ win0_8.index t 1 = t.val % 16 ∧ win0_8.index t 2 = 0)

theorem blk8 (c : Dev nD) (t : Fin cfg0.N) (r : Fin 256) (e : Fin 2048) :
    iblk m c 8 t (ix3 0 r e) = m ((c : Thread nD τ).loc main_arg3) (ix3 (bt t) (rt t r) e) := by
  have h := idx8 t
  unfold iblk
  rw [View.read_apply]
  show V m c main_arg3 _ = _
  rw [V_main_arg3]
  refine congrArg _ (funext fun a => Fin.ext ?_)
  match a with
  | ⟨0, _⟩ => show win0_8.index t 0 * 1 + 1 * 0 = t.val / 16; rw [h.1]; try omega
  | ⟨1, _⟩ => show win0_8.index t 1 * 256 + 1 * r.val = t.val % 16 * 256 + r.val; rw [h.2.1]; try omega
  | ⟨2, _⟩ => show win0_8.index t 2 * 2048 + 1 * e.val = e.val; rw [h.2.2]; try omega

theorem idx9 : ∀ t : Fin cfg0.N, win0_9.index t 0 = t.val / 16 ∧ win0_9.index t 1 = 0 ∧ win0_9.index t 2 = 2 :=
  (by decide +kernel : ∀ t : Fin grid0.N, win0_9.index t 0 = t.val / 16 ∧ win0_9.index t 1 = 0 ∧ win0_9.index t 2 = 2)

theorem blk9 (c : Dev nD) (t : Fin cfg0.N) (e : Fin 2048) :
    iblk m c 9 t (ix3 0 0 e) = m ((c : Thread nD τ).loc main_arg4) (ix3 ⟨(bt t).val, by omega⟩ 0 ⟨4096 + e.val, by omega⟩) := by
  have h := idx9 t
  unfold iblk
  rw [View.read_apply]
  show V m c main_arg4 _ = _
  rw [V_main_arg4]
  refine congrArg _ (funext fun a => Fin.ext ?_)
  match a with
  | ⟨0, _⟩ => show win0_9.index t 0 * 1 + 1 * 0 = t.val / 16; rw [h.1]; try omega
  | ⟨1, _⟩ => show win0_9.index t 1 * 1 + 1 * 0 = 0; rw [h.2.1]; try omega
  | ⟨2, _⟩ => show win0_9.index t 2 * 2048 + 1 * e.val = 4096 + e.val; rw [h.2.2]; try omega

theorem idx10 : ∀ t : Fin cfg0.N, win0_10.index t 0 = 0 ∧ win0_10.index t 1 = 0 :=
  (by decide +kernel : ∀ t : Fin grid0.N, win0_10.index t 0 = 0 ∧ win0_10.index t 1 = 0)

theorem blk10 (c : Dev nD) (t : Fin cfg0.N) (e : Fin 512) :
    iblk m c 10 t (ix2 0 e) = V m c main_v8 (ix2 0 e) := by
  have h := idx10 t
  unfold iblk
  rw [View.read_apply]
  show V m c main_v8 _ = _
  skip
  refine congrArg _ (funext fun a => Fin.ext ?_)
  match a with
  | ⟨0, _⟩ => show win0_10.index t 0 * 1 + 1 * 0 = 0; rw [h.1]; try omega
  | ⟨1, _⟩ => show win0_10.index t 1 * 512 + 1 * e.val = e.val; rw [h.2]; try omega

theorem idx11 : ∀ t : Fin cfg0.N, win0_11.index t 0 = 0 ∧ win0_11.index t 1 = 0 :=
  (by decide +kernel : ∀ t : Fin grid0.N, win0_11.index t 0 = 0 ∧ win0_11.index t 1 = 0)

theorem blk11 (c : Dev nD) (t : Fin cfg0.N) (e : Fin 4096) :
    iblk m c 11 t (ix2 0 e) = V m c main_v9 (ix2 0 e) := by
  have h := idx11 t
  unfold iblk
  rw [View.read_apply]
  show V m c main_v9 _ = _
  skip
  refine congrArg _ (funext fun a => Fin.ext ?_)
  match a with
  | ⟨0, _⟩ => show win0_11.index t 0 * 1 + 1 * 0 = 0; rw [h.1]; try omega
  | ⟨1, _⟩ => show win0_11.index t 1 * 4096 + 1 * e.val = e.val; rw [h.2]; try omega

theorem idx12 : ∀ t : Fin cfg0.N, win0_12.index t 0 = 0 ∧ win0_12.index t 1 = 0 :=
  (by decide +kernel : ∀ t : Fin grid0.N, win0_12.index t 0 = 0 ∧ win0_12.index t 1 = 0)

theorem blk12 (c : Dev nD) (t : Fin cfg0.N) (x : Fin 2048) (e : Fin 2048) :
    iblk m c 12 t (ix2 x e) = V m c main_v3 (ix2 x e) := by
  have h := idx12 t
  unfold iblk
  rw [View.read_apply]
  show V m c main_v3 _ = _
  skip
  refine congrArg _ (funext fun a => Fin.ext ?_)
  match a with
  | ⟨0, _⟩ => show win0_12.index t 0 * 2048 + 1 * x.val = x.val; rw [h.1]; try omega
  | ⟨1, _⟩ => show win0_12.index t 1 * 2048 + 1 * e.val = e.val; rw [h.2]; try omega

theorem idx13 : ∀ t : Fin cfg0.N, win0_13.index t 0 = 0 ∧ win0_13.index t 1 = 0 :=
  (by decide +kernel : ∀ t : Fin grid0.N, win0_13.index t 0 = 0 ∧ win0_13.index t 1 = 0)

theorem blk13 (c : Dev nD) (t : Fin cfg0.N) (x : Fin 2048) (e : Fin 2048) :
    iblk m c 13 t (ix2 x e) = V m c main_v5 (ix2 x e) := by
  have h := idx13 t
  unfold iblk
  rw [View.read_apply]
  show V m c main_v5 _ = _
  skip
  refine congrArg _ (funext fun a => Fin.ext ?_)
  match a with
  | ⟨0, _⟩ => show win0_13.index t 0 * 2048 + 1 * x.val = x.val; rw [h.1]; try omega
  | ⟨1, _⟩ => show win0_13.index t 1 * 2048 + 1 * e.val = e.val; rw [h.2]; try omega

theorem idx14 : ∀ t : Fin cfg0.N, win0_14.index t 0 = 0 ∧ win0_14.index t 1 = 0 :=
  (by decide +kernel : ∀ t : Fin grid0.N, win0_14.index t 0 = 0 ∧ win0_14.index t 1 = 0)

theorem blk14 (c : Dev nD) (t : Fin cfg0.N) (x : Fin 2048) (e : Fin 2048) :
    iblk m c 14 t (ix2 x e) = V m c main_v7 (ix2 x e) := by
  have h := idx14 t
  unfold iblk
  rw [View.read_apply]
  show V m c main_v7 _ = _
  skip
  refine congrArg _ (funext fun a => Fin.ext ?_)
  match a with
  | ⟨0, _⟩ => show win0_14.index t 0 * 2048 + 1 * x.val = x.val; rw [h.1]; try omega
  | ⟨1, _⟩ => show win0_14.index t 1 * 2048 + 1 * e.val = e.val; rw [h.2]; try omega

theorem idx15 : ∀ t : Fin cfg0.N, win0_15.index t 0 = 0 ∧ win0_15.index t 1 = 0 :=
  (by decide +kernel : ∀ t : Fin grid0.N, win0_15.index t 0 = 0 ∧ win0_15.index t 1 = 0)

theorem blk15 (c : Dev nD) (t : Fin cfg0.N) (e : Fin 2048) :
    iblk m c 15 t (ix2 0 e) = V m c main_v10 (ix2 0 e) := by
  have h := idx15 t
  unfold iblk
  rw [View.read_apply]
  show V m c main_v10 _ = _
  skip
  refine congrArg _ (funext fun a => Fin.ext ?_)
  match a with
  | ⟨0, _⟩ => show win0_15.index t 0 * 1 + 1 * 0 = 0; rw [h.1]; try omega
  | ⟨1, _⟩ => show win0_15.index t 1 * 2048 + 1 * e.val = e.val; rw [h.2]; try omega

end Cert.Kernel3Ideal.MA
-- ==== Proof.MergeClaim.lean ====
module

public import proofs.«01_k».proof.Proof.Gen.Kernel3Ideal.Value
public import proofs.«01_k».proof.Defs
public import proofs.«01_k».proof.Proof.Gen.Kernel3.Frame
public import proofs.«01_k».proof.Proof.MergeBlocks
public import Idealize.ShloMosaic.Lib.Pipeline.Value
public import Idealize.ShloMosaic.Lib.Quiescent

/-!
The merge kernel's result array, index by index, and its equality with the reference's.
-/

@[expose] public section

set_option maxRecDepth 16384

noncomputable section

open Idealize.ShloMosaic Idealize.ShloMosaic.TcCoe Idealize.SL.Sem
open Idealize.ShloMosaic.Pipeline (Dat)
open Cert.MergeSpec

namespace Cert.Kernel3Ideal.MA

open Cert.Kernel3Ideal Cert.Kernel3Ideal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem ld0 {e : EltTy} (X : S1x1x256x2048.Idx → Elt Ideal e) : View.ld X r0_0 = X := View.ld_unit_zero hz4 _ X
theorem ld1 {e : EltTy} (X : S1x512.Idx → Elt Ideal e) : View.ld X r0_1 = X := View.ld_unit_zero hz2 _ X
theorem ld2 {e : EltTy} (X : S1x256x2048.Idx → Elt Ideal e) : View.ld X r0_2 = X := View.ld_unit_zero hz3 _ X
theorem ld3 {e : EltTy} (X : S2048x2048.Idx → Elt Ideal e) : View.ld X r0_3 = X := View.ld_unit_zero hz2 _ X
theorem ld4 {e : EltTy} (X : S1x4096.Idx → Elt Ideal e) : View.ld X r0_4 = X := View.ld_unit_zero hz2 _ X
theorem ld5 {e : EltTy} (X : S1x1x2048.Idx → Elt Ideal e) : View.ld X r0_5 = X := View.ld_unit_zero hz3 _ X
theorem ld6 {e : EltTy} (X : S1x2048.Idx → Elt Ideal e) : View.ld X r0_6 = X := View.ld_unit_zero hz2 _ X

/-! ## The buffers the host code fills before the kernel starts -/

theorem V_v8 (c : Dev nD) (e : Fin 512) : V m c main_v8 (ix2 0 e) = m ((c : Thread nD τ).loc main_arg5) (ix2 0 e) := by
  show StableHlo.after hostOps0 _ _ _ = _
  simp only [hostOps0, List.flatten_cons, List.flatten_nil, List.append_nil, List.cons_append, List.nil_append]
  after_results_simp
  generalize hx : (m ((c : Thread nD τ).loc main_arg5)) = x
  show ((shapeCast S1x512 (shapeCast S512 x shapeCasts_S1x512_S512) shapeCasts_S512_S1x512) : Vec Ideal S1x512 .f32) (ix2 0 e) = _
  pointwise []

theorem V_v9 (c : Dev nD) (e : Fin 4096) : V m c main_v9 (ix2 0 e) = m ((c : Thread nD τ).loc main_arg6) (ix2 0 e) := by
  show StableHlo.after hostOps0 _ _ _ = _
  simp only [hostOps0, List.flatten_cons, List.flatten_nil, List.append_nil, List.cons_append, List.nil_append]
  after_results_simp
  generalize hx : (m ((c : Thread nD τ).loc main_arg6)) = x
  show ((shapeCast S1x4096 (shapeCast S4096 x shapeCasts_S1x4096_S4096) shapeCasts_S4096_S1x4096) : Vec Ideal S1x4096 .f32) (ix2 0 e) = _
  pointwise []

theorem V_v10 (c : Dev nD) (e : Fin 2048) : V m c main_v10 (ix2 0 e) = m ((c : Thread nD τ).loc main_arg10) (ix1 e) := by
  show StableHlo.after hostOps0 _ _ _ = _
  simp only [hostOps0, List.flatten_cons, List.flatten_nil, List.append_nil, List.cons_append, List.nil_append]
  after_results_simp
  generalize hx : (m ((c : Thread nD τ).loc main_arg10)) = x
  show ((shapeCast S1x2048 x shapeCasts_S2048_S1x2048) : Vec Ideal S1x2048 .f32) (ix2 0 e) = _
  pointwise []

theorem cast_w (y : Vec Ideal S1x2048x2048 .f32) (x l : Fin 2048) :
    truncf (F := Ideal) .bf16 (shapeCast S2048x2048 y shapeCasts_S1x2048x2048_S2048x2048 : FVec Ideal S2048x2048 .f32) bitsLt_bf16_f32 (ix2 x l) = y (ix3 0 x l) := by
  pointwise []

theorem V_v3 (c : Dev nD) (x l : Fin 2048) : V m c main_v3 (ix2 x l) = m ((c : Thread nD τ).loc main_arg7) (ix3 0 x l) := by
  refine Eq.trans (congrFun (?_ : V m c main_v3 = truncf (F := Ideal) .bf16 (shapeCast S2048x2048 (m ((c : Thread nD τ).loc main_arg7) : Vec Ideal S1x2048x2048 .f32) shapeCasts_S1x2048x2048_S2048x2048 : FVec Ideal S2048x2048 .f32) bitsLt_bf16_f32) (ix2 x l)) (cast_w _ x l)
  show StableHlo.after hostOps0 _ _ = _
  simp only [hostOps0, List.flatten_cons, List.flatten_nil, List.append_nil, List.cons_append, List.nil_append]
  after_results_simp
  rfl

theorem V_v5 (c : Dev nD) (x l : Fin 2048) : V m c main_v5 (ix2 x l) = m ((c : Thread nD τ).loc main_arg8) (ix3 0 x l) := by
  refine Eq.trans (congrFun (?_ : V m c main_v5 = truncf (F := Ideal) .bf16 (shapeCast S2048x2048 (m ((c : Thread nD τ).loc main_arg8) : Vec Ideal S1x2048x2048 .f32) shapeCasts_S1x2048x2048_S2048x2048 : FVec Ideal S2048x2048 .f32) bitsLt_bf16_f32) (ix2 x l)) (cast_w _ x l)
  show StableHlo.after hostOps0 _ _ = _
  simp only [hostOps0, List.flatten_cons, List.flatten_nil, List.append_nil, List.cons_append, List.nil_append]
  after_results_simp
  rfl

theorem V_v7 (c : Dev nD) (x l : Fin 2048) : V m c main_v7 (ix2 x l) = m ((c : Thread nD τ).loc main_arg9) (ix3 0 x l) := by
  refine Eq.trans (congrFun (?_ : V m c main_v7 = truncf (F := Ideal) .bf16 (shapeCast S2048x2048 (m ((c : Thread nD τ).loc main_arg9) : Vec Ideal S1x2048x2048 .f32) shapeCasts_S1x2048x2048_S2048x2048 : FVec Ideal S2048x2048 .f32) bitsLt_bf16_f32) (ix2 x l)) (cast_w _ x l)
  show StableHlo.after hostOps0 _ _ = _
  simp only [hostOps0, List.flatten_cons, List.flatten_nil, List.append_nil, List.cons_append, List.nil_append]
  after_results_simp
  rfl

theorem blkA12 (c : Dev nD) (t : Fin cfg0.N) (x l : Fin 2048) : iblk m c 12 t (ix2 x l) = m ((c : Thread nD τ).loc main_arg7) (ix3 0 x l) :=
  (blk12 m c t x l).trans (V_v3 m c x l)

theorem blkA13 (c : Dev nD) (t : Fin cfg0.N) (x l : Fin 2048) : iblk m c 13 t (ix2 x l) = m ((c : Thread nD τ).loc main_arg8) (ix3 0 x l) :=
  (blk13 m c t x l).trans (V_v5 m c x l)

theorem blkA14 (c : Dev nD) (t : Fin cfg0.N) (x l : Fin 2048) : iblk m c 14 t (ix2 x l) = m ((c : Thread nD τ).loc main_arg9) (ix3 0 x l) :=
  (blk14 m c t x l).trans (V_v7 m c x l)

theorem blkA10 (c : Dev nD) (t : Fin cfg0.N) (e : Fin 512) : iblk m c 10 t (ix2 0 e) = m ((c : Thread nD τ).loc main_arg5) (ix2 0 e) :=
  (blk10 m c t e).trans (V_v8 m c e)

theorem blkA11 (c : Dev nD) (t : Fin cfg0.N) (e : Fin 4096) : iblk m c 11 t (ix2 0 e) = m ((c : Thread nD τ).loc main_arg6) (ix2 0 e) :=
  (blk11 m c t e).trans (V_v9 m c e)

theorem blkA15 (c : Dev nD) (t : Fin cfg0.N) (e : Fin 2048) : iblk m c 15 t (ix2 0 e) = m ((c : Thread nD τ).loc main_arg10) (ix1 e) :=
  (blk15 m c t e).trans (V_v10 m c e)

/-! ## The result array -/

/-- The reference's result of device `c`'s arguments, which the kernel's result array is shown to hold. -/
abbrev G (c : Dev nD) : Buf (Elt Ideal) ((c : Thread nD τ).loc main_v11) :=
  Cert.Reference3Ideal.Read.val_main_v85 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

theorem idx16 : ∀ t : Fin cfg0.N, win0_16.index t 0 = t.val / 16 ∧ win0_16.index t 1 = t.val % 16 ∧ win0_16.index t 2 = 0 :=
  (by decide +kernel : ∀ t : Fin grid0.N, win0_16.index t 0 = t.val / 16 ∧ win0_16.index t 1 = t.val % 16 ∧ win0_16.index t 2 = 0)

/-- The block of a result array at a point, at row `r` and column `l`. -/
theorem rd16 (t : Fin cfg0.N) (f : S4x4096x2048.Idx → EReal) (r : Fin 256) (l : Fin 2048) :
    ((cfg0.win 16).blk t).view.read (Elt Ideal) f (ix3 0 r l) = f (ix3 (bt t) (rt t r) l) := by
  have h := idx16 t
  rw [View.read_apply]
  refine congrArg f (funext fun a => Fin.ext ?_)
  match a with
  | ⟨0, _⟩ => show win0_16.index t 0 * 1 + 1 * 0 = t.val / 16; rw [h.1]; omega
  | ⟨1, _⟩ => show win0_16.index t 1 * 256 + 1 * r.val = t.val % 16 * 256 + r.val; rw [h.2.1]; omega
  | ⟨2, _⟩ => show win0_16.index t 2 * 2048 + 1 * l.val = l.val; rw [h.2.2]; omega

/-- What a point writes back is its block of the reference's result. -/
theorem flushed_eq (c : Dev nD) (t : Fin cfg0.N) :
    (dats m 0 c).flushed 16 t = ((cfg0.win 16).blk t).view.read (Elt Ideal) (G m c) := by
  rw [Value.flushed16]
  show out0_16 _ _ _ _ _ _ _ _ _ _ _ _ _ _ _ _ = _
  unfold out0_16
  rw [View.canon_unit_zero hz3]
  simp only [ld0, ld1, ld2, ld3, ld4, ld5, ld6]
  refine funext fun (i : S1x256x2048.Idx) => ?_
  obtain ⟨r, l, rfl⟩ : ∃ (r : Fin 256) (l : Fin 2048), i = ix3 (0 : Fin 1) r l :=
    ⟨i 1, i 2, (eq_ix3 i).trans (congrArg (fun z => ix3 z (i 1) (i 2)) (Fin.ext (by have : (i 0).val < 1 := (i 0).isLt; show (i 0).val = 0; omega)))⟩
  refine (MV.stored _ _ _ _ _ _ _ _ _ _ _ _ _ _ _ _ r l).trans ?_
  refine Eq.trans ?_ ((rd16 t _ r l).trans (Cert.Reference3Ideal.MV.result _ _ _ _ _ _ _ _ _ _ _ (bt t) (rt t r) l)).symm
  simp only [blk0, blk1, blk2, blk3, blk4, blk5, blk6, blk7, blk8, blk9, blkA10, blkA11, blkA12, blkA13, blkA14, blkA15]

/-- An array index is in a point's block when its sequence and its row of 256 tokens are the point's. -/
theorem mem_blk (t : Fin cfg0.N) (i : S4x4096x2048.Idx) (h0 : (i 0 : Nat) = t.val / 16) (h1 : (i 1 : Nat) / 256 = t.val % 16) :
    i ∈ ((cfg0.win 16).blk t).view.set := by
  show i ∈ ((View.whole main_v11).slice (win0_16.rect t)).set
  rw [View.set_slice_whole, Rect.mem_set_unit]
  have h := idx16 t
  have h2 : (i 2 : Nat) < 2048 := (i 2).isLt
  intro a
  match a with
  | ⟨0, _⟩ => show win0_16.index t 0 * 1 ≤ (i 0 : Nat) ∧ (i 0 : Nat) < win0_16.index t 0 * 1 + 1
              rw [h.1]; omega
  | ⟨1, _⟩ => show win0_16.index t 1 * 256 ≤ (i 1 : Nat) ∧ (i 1 : Nat) < win0_16.index t 1 * 256 + 256
              rw [h.2.1]; omega
  | ⟨2, _⟩ => show win0_16.index t 2 * 2048 ≤ (i 2 : Nat) ∧ (i 2 : Nat) < win0_16.index t 2 * 2048 + 2048
              rw [h.2.2]; omega

/-- The result array ends as the reference's result. -/
theorem final (c : Dev nD) : (dats m 0 c).arrAt 16 cfg0.N = G m c :=
  (dats m 0 c).arrAt_eq_of_cover 16 (G m c) (fun t _ => flushed_eq m c t) fun (i : S4x4096x2048.Idx) => by
    have hN : cfg0.N = 64 := N_0
    have h0 : (i 0 : Nat) < 4 := (i 0).isLt
    have h1 : (i 1 : Nat) < 4096 := (i 1).isLt
    refine ⟨⟨(i 0 : Nat) * 16 + (i 1 : Nat) / 256, by omega⟩, flush0_16 _, mem_blk _ i ?_ ?_⟩ <;> dsimp only <;> omega

end Cert.Kernel3Ideal.MA

namespace Cert.Proof.MergeClaims

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
theorem preserves : Cert.preserves_Kernel3_Kernel3Ideal := trivial
/-- The merge kernel and the plain merge leave the same array. -/
theorem algebraic : Cert.algebraic_Kernel3Ideal_Reference3Ideal := fun m ρ m' ρ' _ hag => by
  refine ⟨fun c => Cert.Kernel3Ideal.MA.G m c, ?_, ?_⟩
  · exact (θ_run _ _ _).mono (fun r h c => ⟨((h c).1).trans (Cert.Kernel3Ideal.MA.final m c), (h c).2⟩)
      (Cert.Kernel3Ideal.Value.run_blocks m ρ)
  · refine (θ_run _ _ _).mono (fun r h c => ⟨((h c).1).trans ?_, (h c).2⟩) (Cert.Reference3Ideal.Value.run (F := Ideal) m' ρ')
    rw [Cert.Reference3Ideal.Read.val_main_v85_eq]
    obtain ⟨a0, a1, a2, a3, a4, a5, a6, a7, a8, a9, a10⟩ := hag c
    rw [a0, a1, a2, a3, a4, a5, a6, a7, a8, a9, a10]

end Cert.Proof.MergeClaims
-- ==== Proof.GlaSpec.lean ====
/-
  Chunked gated linear attention, as plain functions of one chunk's rows in the order of the scan: the gate, the cumulative log-decay of
  the chunk, the chunk's result rows and the state after it; and the real-number facts about them that both programs need.
-/
module

public import proofs.«01_k».proof.Proof.FiniteReals

@[expose] public section
noncomputable section

namespace Cert.GlaSpec
open Idealize.ShloMosaic Cert.FiniteReals

/-- One sixteenth. -/
abbrev c16 : EReal := Ideal.ofBits FTy.f32 1031798784#32

/-- A sixteenth of the logarithm of the logistic function. -/
abbrev lsig (z : EReal) : EReal :=
  (min z 0 - Ideal.log1p (Ideal.exp (0 - FloatOps.absf (F := Ideal) (φ := .f32) z))) * c16

/-- The log-decay summed over the rows of the chunk up to `i`. -/
def cum (la : Fin 64 → Fin 256 → EReal) (i : Fin 64) (x : Fin 256) : EReal := ∑ j, if j ≤ i then la j x else 0

/-- The log-decay summed over the whole chunk. -/
def tot (la : Fin 64 → Fin 256 → EReal) (x : Fin 256) : EReal := ∑ j, la j x

/-- The decayed score of row `i` against row `j`, causal. -/
def sc (q k la : Fin 64 → Fin 256 → EReal) (i j : Fin 64) : EReal :=
  if j ≤ i then ∑ x, q i x * Ideal.exp (cum la i x) * (k j x * Ideal.exp (0 - cum la j x)) else 0

/-- The chunk's result. -/
def out (q k la : Fin 64 → Fin 256 → EReal) (v : Fin 64 → Fin 512 → EReal) (S : Fin 256 → Fin 512 → EReal) (i : Fin 64) (e : Fin 512) : EReal :=
  ∑ j, sc q k la i j * v j e + ∑ x, q i x * Ideal.exp (cum la i x) * S x e

/-- The state after the chunk. -/
def nxt (k la : Fin 64 → Fin 256 → EReal) (v : Fin 64 → Fin 512 → EReal) (S : Fin 256 → Fin 512 → EReal) (x : Fin 256) (e : Fin 512) : EReal :=
  S x e * Ideal.exp (tot la x) + ∑ i, k i x * Ideal.exp (tot la x - cum la i x) * v i e

/-- The state after the first `n` chunks. -/
def state (k la : ℕ → Fin 64 → Fin 256 → EReal) (v : ℕ → Fin 64 → Fin 512 → EReal) (S0 : Fin 256 → Fin 512 → EReal) : ℕ → Fin 256 → Fin 512 → EReal
  | 0 => S0
  | n + 1 => nxt (k n) (la n) (v n) (state k la v S0 n)

theorem cum_last (la : Fin 64 → Fin 256 → EReal) (i : Fin 64) (hi : i.val = 63) (x : Fin 256) : cum la i x = tot la x :=
  Finset.sum_congr rfl fun j _ => if_pos (show j.val ≤ i.val by have := j.isLt; omega)

theorem c16_eq : c16 = ((1 / 16 : ℝ) : EReal) := by
  simp [c16, Ideal.ofBits, Ideal.ieee, -EReal.coe_mul]; norm_num

theorem f16_eq : Ideal.ofBits .f32 0x41800000#32 = ((16 : ℝ) : EReal) := by
  simp [Ideal.ofBits, Ideal.ieee, -EReal.coe_mul]; norm_num

theorem coe_max (r s : ℝ) : ((max r s : ℝ) : EReal) = max (r : EReal) (s : EReal) := EReal.coe_strictMono.monotone.map_max
theorem coe_min (r s : ℝ) : ((min r s : ℝ) : EReal) = min (r : EReal) (s : EReal) := EReal.coe_strictMono.monotone.map_min

theorem absf_real (r : ℝ) : FloatOps.absf (F := Ideal) (φ := .f32) (r : EReal) = ((|r| : ℝ) : EReal) := by
  show max (r : EReal) (-(r : EReal)) = _
  rw [abs_eq_max_neg, coe_max, EReal.coe_neg]

/-- The logarithm of one plus the exponential of a real number is real. -/
theorem log1p_exp_real (r : ℝ) : Ideal.log1p (Ideal.exp (r : EReal)) = ((Real.log (1 + Real.exp r) : ℝ) : EReal) := by
  show Ideal.log (1 + ((Real.exp r : ℝ) : EReal)) = _
  rw [show (1 : EReal) + ((Real.exp r : ℝ) : EReal) = ((1 + Real.exp r : ℝ) : EReal) by push_cast; rfl]
  have h : (0 : ℝ) < 1 + Real.exp r := by positivity
  exact if_neg (not_le.2 h)

theorem lsig_coe (r : ℝ) : lsig (r : EReal) = (((min r 0 - Real.log (1 + Real.exp (-|r|))) * (1 / 16) : ℝ) : EReal) := by
  unfold lsig
  rw [absf_real, c16_eq, show (0 : EReal) - ((|r| : ℝ) : EReal) = ((-|r| : ℝ) : EReal) by rw [zero_sub, EReal.coe_neg], log1p_exp_real,
    ← EReal.coe_zero, ← coe_min, ← EReal.coe_sub, ← EReal.coe_mul]

theorem lsig_real (z : EReal) (h : IsR z) : IsR (lsig z) := by
  obtain ⟨r, rfl⟩ := h
  exact ⟨_, lsig_coe r⟩

/-- The reference's form of the gate: the negated soft-plus of the negated number, divided by sixteen. -/
theorem lsig_ref (z : EReal) (h : IsR z) :
    Ideal.div (-(max (-z) 0 + Ideal.log1p (Ideal.exp (-(FloatOps.absf (F := Ideal) (φ := .f32) (-z - 0)))))) (Ideal.ofBits FTy.f32 0x41800000#32) = lsig z := by
  obtain ⟨r, rfl⟩ := h
  rw [lsig_coe, f16_eq, Ideal.div_coe (by norm_num), sub_zero, ← EReal.coe_neg, absf_real, ← EReal.coe_neg, log1p_exp_real,
    ← EReal.coe_zero, ← coe_max, ← EReal.coe_add, ← EReal.coe_neg, ← EReal.coe_mul, abs_neg]
  congr 2
  rw [neg_add, ← sub_eq_add_neg, max_comm, ← neg_zero, max_neg_neg, neg_neg, neg_zero, min_comm]

/-! ## The whole call -/

/-- The call's arguments: the projected tokens, the low-rank gates, the gate weights and biases of the two directions, the initial states. -/
structure Args where
  tokens : Fin 4 → Fin 4096 → Fin 14336 → EReal
  lowrank : Fin 4 → Fin 4096 → Fin 128 → EReal
  weight : Fin 2 → Fin 16 → Fin 1024 → EReal
  bias : Fin 2 → Fin 1024 → EReal
  init : Fin 2 → Fin 4 → Fin 4 → Fin 256 → Fin 512 → EReal

/-- The token the scan of direction `d` meets at position `s`. -/
def tok (d : Fin 2) (s : Fin 4096) : Fin 4096 := ⟨if d.val = 0 then s.val else 4095 - s.val, by have := s.isLt; split <;> omega⟩

theorem tok_tok (d : Fin 2) (s : Fin 4096) : tok d (tok d s) = s := by
  have := s.isLt
  apply Fin.ext; unfold tok; dsimp only; split <;> omega

/-- The position of row `i` of chunk `n`. -/
def posn (n : ℕ) (i : Fin 64) : Fin 4096 := ⟨(n * 64 + i.val) % 4096, Nat.mod_lt _ (by decide)⟩

section Whole
variable (A : Args) (d : Fin 2) (b : Fin 4) (h : Fin 4)

/-- The queries. -/
def qs (n : ℕ) (i : Fin 64) (x : Fin 256) : EReal := A.tokens b (tok d (posn n i)) ⟨h.val * 256 + x.val, by omega⟩
/-- The scaled keys. -/
def ks (n : ℕ) (i : Fin 64) (x : Fin 256) : EReal := A.tokens b (tok d (posn n i)) ⟨1024 + (h.val * 256 + x.val), by omega⟩ * c16
/-- The values. -/
def vs (n : ℕ) (i : Fin 64) (e : Fin 512) : EReal := A.tokens b (tok d (posn n i)) ⟨2048 + (h.val * 512 + e.val), by omega⟩
/-- The gate before the logistic function, at a token. -/
def pre (t : Fin 4096) (l : Fin 1024) : EReal :=
  ∑ j : Fin 16, A.lowrank b t ⟨16 * d.val + j.val, by omega⟩ * A.weight d j l + A.bias d l
/-- The log-decays. -/
def las (n : ℕ) (i : Fin 64) (x : Fin 256) : EReal := lsig (pre A d b (tok d (posn n i)) ⟨h.val * 256 + x.val, by omega⟩)
/-- The state before chunk `n`. -/
def sts (n : ℕ) : Fin 256 → Fin 512 → EReal := state (ks A d b h) (las A d b h) (vs A d b h) (A.init d b h) n
/-- The result's rows of chunk `n`. -/
def outs (n : ℕ) (i : Fin 64) (e : Fin 512) : EReal :=
  out (qs A d b h n) (ks A d b h n) (las A d b h n) (vs A d b h n) (sts A d b h n) i e

theorem pre_real (h1 : ∀ b t l, IsR (A.lowrank b t l)) (h2 : ∀ d j l, IsR (A.weight d j l)) (h3 : ∀ d l, IsR (A.bias d l)) (t : Fin 4096) (l : Fin 1024) :
    IsR (pre A d b t l) := (IsR.sum _ _ fun _ => (h1 _ _ _).mul (h2 _ _ _)).add (h3 _ _)

theorem las_real (h1 : ∀ b t l, IsR (A.lowrank b t l)) (h2 : ∀ d j l, IsR (A.weight d j l)) (h3 : ∀ d l, IsR (A.bias d l)) (n : ℕ) (i : Fin 64) (x : Fin 256) :
    IsR (las A d b h n i x) := lsig_real _ (pre_real A d b h1 h2 h3 _ _)

end Whole

/-- The result at a token and a column: the row of the chunk the token lies in. -/
def result (A : Args) (d : Fin 2) (b : Fin 4) (t : Fin 4096) (l : Fin 2048) : EReal :=
  outs A d b ⟨l.val / 512, by omega⟩ ((tok d t).val / 64) ⟨(tok d t).val % 64, Nat.mod_lt _ (by decide)⟩ ⟨l.val % 512, Nat.mod_lt _ (by decide)⟩

end Cert.GlaSpec
-- ==== Proof.GlaKernel.lean ====
/-
  One trip of the recurrence kernel's chunk loop, read at an index: in the order of the scan it leaves the chunk's rows and the state that
  the plain functions of the chunk give.
-/
module

public import proofs.«01_k».proof.Proof.GlaTrip
public import proofs.«01_k».proof.Proof.GlaSpec
public import Idealize.ShloMosaic.Lib.Pointwise

@[expose] public section
set_option maxRecDepth 16384
noncomputable section

namespace Cert.KernelIdeal.GK
open Cert.KernelIdeal Cert.KernelIdeal.Gen Cert.Proof.Gla Idealize.ShloMosaic Cert.GlaSpec Cert.FiniteReals

/-- The rows of a chunk in the order of the scan: as they lie, or from the last to the first. -/
def rho (d : Fin 2) : Equiv.Perm (Fin 64) := if d = 0 then Equiv.refl _ else Fin.revPerm

theorem rho_val (d : Fin 2) (r : Fin 64) : (rho d r).val = if d.val = 0 then r.val else 63 - r.val := by
  revert d r; decide +kernel

theorem rho_rho (d : Fin 2) (r : Fin 64) : rho d (rho d r) = r := by
  revert d r; decide +kernel

theorem mask (d : Fin 2) (r c : Fin 64) :
    IntOp.cmpi .sge (IntOp.muli (IntOp.subi (BitVec.ofNat 32 (rho d r).val) (BitVec.ofNat 32 (rho d c).val))
      (Scalar.subi 1#32 (Scalar.muli 2#32 (BitVec.ofNat 32 d.val)))) 0#32 = if c ≤ r then 1#1 else 0#1 := by
  revert d r c; decide +kernel

theorem raw2 (i : grid0.Coords) (r c : Fin 64) : k0_pay2 i (ix2 r c)
    = IntOp.cmpi .sge (IntOp.muli (IntOp.subi (BitVec.ofNat 32 r.val) (BitVec.ofNat 32 c.val))
      (Scalar.subi 1#32 (Scalar.muli 2#32 (BitVec.ofNat 32 (i 0).val)))) 0#32 := by
  unfold k0_pay2
  pointwise []

theorem raw3 (i : grid0.Coords) (r c : Fin 64) : k0_pay3 (F := Ideal) i (ix2 r c) = Scalar.select (k0_pay2 i (ix2 r c)) 1 0 := by
  unfold k0_pay3
  generalize k0_pay2 i = M
  pointwise []

theorem raw10 (a : FVec Ideal S128x256 .f32) (b : FVec Ideal S1x256 .f32) (c : Vec Ideal S1x64x128 .f32) (r : Fin 64) (x : Fin 256) :
    k0_pay10 (F := Ideal) a b c (ix2 r x)
      = lsig (∑ j, c (ix3 0 r j) * a (ix2 j x) + (∑ j, c (ix3 0 r j) * (a (ix2 j x) - a (ix2 j x)) + ∑ j, (c (ix3 0 r j) - c (ix3 0 r j)) * a (ix2 j x)) + b (ix2 0 x)) := by
  pointwise [k0_pay10, lsig]

theorem raw13 (M : FVec Ideal S64x64 .bf16) (a : FVec Ideal S128x256 .f32) (b : FVec Ideal S1x256 .f32) (c : Vec Ideal S1x64x128 .f32)
    (r : Fin 64) (x : Fin 256) :
    k0_pay13 (F := Ideal) M a b c (ix2 r x)
      = ∑ j, M (ix2 r j) * k0_pay10 a b c (ix2 j x) + ∑ j, M (ix2 r j) * (k0_pay10 a b c (ix2 j x) - k0_pay10 a b c (ix2 j x)) := by
  unfold k0_pay13 k0_pay12 k0_pay11
  generalize k0_pay10 a b c = L
  pointwise []

theorem raw14 (w : BitVec 32) (M : FVec Ideal S64x64 .bf16) (a : FVec Ideal S128x256 .f32) (b : FVec Ideal S1x256 .f32) (c : Vec Ideal S1x64x128 .f32)
    (x : Fin 256) :
    k0_pay14 (F := Ideal) w M a b c (ix2 0 x)
      = Scalar.select (Scalar.cmpi .eq w 0#32) (k0_pay13 M a b c (ix2 63 x)) (k0_pay13 M a b c (ix2 0 x)) := by
  unfold k0_pay14
  generalize k0_pay13 M a b c = L
  pointwise []

theorem raw15 (u v : FVec Ideal S64x256 .bf16) (r : Fin 256) (x : Fin 512) :
    k0_pay15 (F := Ideal) k0_pay4 u v (constant S256x128 .f32 0x00000000#32) (ix2 r x)
      = Ideal.exp (∑ j, u (ix2 j r) + ∑ j, v (ix2 j r)) := by
  have h4 : ∀ y : S64x128.Idx, k0_pay4 (F := Ideal) y = 1 := fun y => by
    obtain ⟨p, q, rfl⟩ : ∃ (p : Fin 64) (q : Fin 128), y = ix2 p q := ⟨y 0, y 1, eq_ix2 y⟩
    pointwise [k0_pay4]
  unfold k0_pay15
  generalize k0_pay4 (F := Ideal) = C at h4
  pointwise []
  simp only [h4, mul_one]
  split_ifs <;> rfl

theorem raw7 (M : IVec S64x64 1) (c : FVec Ideal S64x256 .f32) (q k : Vec Ideal S1x64x256 .bf16) (v : Vec Ideal S1x64x512 .bf16)
    (S : Vec Ideal S256x512 .f32) (r : Fin 64) (e : Fin 512) :
    k0_pay7 (k0_pay19 (F := Ideal) M c q k v S) (ix4 0 0 r e)
      = ∑ j, Scalar.select (M (ix2 r j)) (∑ x, q (ix3 0 r x) * Ideal.exp (c (ix2 r x)) * (k (ix3 0 j x) * c16 * Ideal.exp (0 - c (ix2 j x)))) 0 * v (ix3 0 j e)
        + ∑ x, q (ix3 0 r x) * Ideal.exp (c (ix2 r x)) * S (ix2 x e) := by
  pointwise [k0_pay7, k0_pay19, k0_pay16, k0_pay17]

theorem raw8 (D : FVec Ideal S256x512 .f32) (c : FVec Ideal S64x256 .f32) (t : FVec Ideal S1x256 .f32) (k : Vec Ideal S1x64x256 .bf16)
    (v : Vec Ideal S1x64x512 .bf16) (S : Vec Ideal S256x512 .f32) (x : Fin 256) (e : Fin 512) :
    k0_pay8 D (k0_pay17 (F := Ideal) v) (k0_pay18 c t k) S (ix2 x e)
      = S (ix2 x e) * D (ix2 x e) + ∑ i, k (ix3 0 i x) * c16 * Ideal.exp (t (ix2 0 x) - c (ix2 i x)) * v (ix3 0 i e) := by
  pointwise [k0_pay8, k0_pay18, k0_pay16, k0_pay17]

theorem raw5 (v : Vec Ideal S1x128x256 .f32) (j : Fin 128) (x : Fin 256) : k0_pay5 (F := Ideal) v (ix2 j x) = v (ix3 0 j x) := by
  pointwise [k0_pay5]
theorem raw6 (v : Vec Ideal S1x1x256 .f32) (x : Fin 256) : k0_pay6 (F := Ideal) v (ix2 0 x) = v (ix3 0 0 x) := by
  pointwise [k0_pay6]
theorem raw1 (v : Vec Ideal S1x1x1x256x512 .f32) (x : Fin 256) (e : Fin 512) : k0_pay1 (F := Ideal) v (ix2 x e) = v (ix5 0 0 0 x e) := by
  pointwise [k0_pay1]
theorem raw9 (v : Vec Ideal S256x512 .f32) (x : Fin 256) (e : Fin 512) : k0_pay9 (F := Ideal) v (ix5 0 0 0 x e) = v (ix2 x e) := by
  pointwise [k0_pay9]

/-! ## In the order of the scan -/

theorem sel_one (a b : EReal) : Scalar.select 1#1 a b = a := rfl

theorem sel_last (d : Fin 2) (L : FVec Ideal S64x256 .f32) (x : Fin 256) :
    Scalar.select (Scalar.cmpi .eq (BitVec.ofNat 32 d.val) 0#32) (L (ix2 63 x)) (L (ix2 0 x)) = L (ix2 (rho d 63) x) := by
  match d with
  | ⟨0, _⟩ => exact congrArg (fun r => L (ix2 r x)) (show (63 : Fin 64) = rho 0 63 by decide +kernel)
  | ⟨1, _⟩ => exact congrArg (fun r => L (ix2 r x)) (show (0 : Fin 64) = rho 1 63 by decide +kernel)

section Chunk
variable (i : grid0.Coords) (d : Fin 2) (hd : d = i 0)
include hd

theorem mask_scan (r c : Fin 64) : k0_pay2 i (ix2 (rho d r) (rho d c)) = if c ≤ r then 1#1 else 0#1 := by
  subst hd; exact (raw2 i _ _).trans (mask (i 0) r c)

theorem ones_scan (r c : Fin 64) : k0_pay3 (F := Ideal) i (ix2 (rho d r) (rho d c)) = if c ≤ r then 1 else 0 := by
  rw [raw3, mask_scan i d hd]
  by_cases h : c ≤ r
  · rw [if_pos h, if_pos h]; rfl
  · rw [if_neg h, if_neg h]; rfl

variable (a : FVec Ideal S128x256 .f32) (b : FVec Ideal S1x256 .f32) (c : Vec Ideal S1x64x128 .f32)
  (la : Fin 64 → Fin 256 → EReal) (hla : ∀ j x, k0_pay10 a b c (ix2 (rho d j) x) = la j x) (hR : ∀ j x, IsR (la j x))
include hla hR

omit hd in
theorem real10 (j : Fin 64) (x : Fin 256) : k0_pay10 a b c (ix2 j x) - k0_pay10 a b c (ix2 j x) = 0 := by
  have h := hla (rho d j) x
  rw [rho_rho] at h
  rw [h]; exact (hR _ _).sub_self

theorem cum_scan (r : Fin 64) (x : Fin 256) : k0_pay13 (k0_pay3 i) a b c (ix2 (rho d r) x) = cum la r x := by
  rw [raw13]
  simp only [real10 d a b c la hla hR, mul_zero, Finset.sum_const_zero, add_zero]
  rw [← Equiv.sum_comp (rho d)]
  refine Finset.sum_congr rfl fun j _ => ?_
  rw [ones_scan i d hd, hla]
  by_cases h : j ≤ r
  · rw [if_pos h, if_pos h, one_mul]
  · rw [if_neg h, if_neg h, zero_mul]

theorem tot_scan (x : Fin 256) : k0_pay14 (BitVec.ofNat 32 (i 0).val) (k0_pay3 i) a b c (ix2 0 x) = tot la x := by
  rw [raw14]
  have h63 := cum_scan i d hd a b c la hla hR 63 x
  rw [cum_last la 63 rfl] at h63
  rw [← h63]
  have hv : (i 0).val = d.val := by rw [hd]
  rw [hv]
  generalize k0_pay13 (k0_pay3 i) a b c = L
  exact sel_last d L x

omit hd in
theorem decay_scan (x : Fin 256) (e : Fin 512) :
    k0_pay15 k0_pay4 (k0_pay11 a b c) (k0_pay12 a b c) (constant S256x128 .f32 0x00000000#32) (ix2 x e) = Ideal.exp (tot la x) := by
  rw [raw15]
  have h11 : ∀ j, k0_pay11 a b c (ix2 j x) = k0_pay10 a b c (ix2 j x) := fun j => by
    unfold k0_pay11; generalize k0_pay10 a b c = L; pointwise []
  have h12 : ∀ j, k0_pay12 a b c (ix2 j x) = k0_pay10 a b c (ix2 j x) - k0_pay10 a b c (ix2 j x) := fun j => by
    unfold k0_pay12 k0_pay11; generalize k0_pay10 a b c = L; pointwise []
  simp only [h11, h12, real10 d a b c la hla hR, Finset.sum_const_zero, add_zero]
  rw [← Equiv.sum_comp (rho d)]
  exact congrArg Ideal.exp (Finset.sum_congr rfl fun j _ => hla j x)

variable (q k : Vec Ideal S1x64x256 .bf16) (v : Vec Ideal S1x64x512 .bf16) (S : Vec Ideal S256x512 .f32)
  (q' k' : Fin 64 → Fin 256 → EReal) (v' : Fin 64 → Fin 512 → EReal) (S' : Fin 256 → Fin 512 → EReal)
  (hq : ∀ j x, q (ix3 0 (rho d j) x) = q' j x) (hk : ∀ j x, k (ix3 0 (rho d j) x) * c16 = k' j x) (hv : ∀ j e, v (ix3 0 (rho d j) e) = v' j e)
  (hS : ∀ x e, S (ix2 x e) = S' x e)
include hq hk hv hS

theorem out_scan (r : Fin 64) (e : Fin 512) :
    k0_pay7 (k0_pay19 (k0_pay2 i) (k0_pay13 (k0_pay3 i) a b c) q k v S) (ix4 0 0 (rho d r) e) = out q' k' la v' S' r e := by
  rw [raw7]
  refine congrArg₂ (· + ·) ?_ (Finset.sum_congr rfl fun x _ => ?_)
  · rw [← Equiv.sum_comp (rho d)]
    refine Finset.sum_congr rfl fun j _ => ?_
    rw [mask_scan i d hd, hv]
    refine congrArg (· * v' j e) ?_
    unfold sc
    by_cases h : j ≤ r
    · rw [if_pos h, if_pos h, sel_one]
      refine Finset.sum_congr rfl fun x _ => ?_
      rw [cum_scan i d hd a b c la hla hR, cum_scan i d hd a b c la hla hR, hq, hk]
    · rw [if_neg h, if_neg h]; rfl
  · rw [cum_scan i d hd a b c la hla hR, hq, hS]

omit hq in
theorem nxt_scan (x : Fin 256) (e : Fin 512) :
    k0_pay8 (k0_pay15 k0_pay4 (k0_pay11 a b c) (k0_pay12 a b c) (constant S256x128 .f32 0x00000000#32)) (k0_pay17 v)
      (k0_pay18 (k0_pay13 (k0_pay3 i) a b c) (k0_pay14 (BitVec.ofNat 32 (i 0).val) (k0_pay3 i) a b c) k) S (ix2 x e)
      = nxt k' la v' S' x e := by
  rw [raw8, decay_scan d a b c la hla hR, tot_scan i d hd a b c la hla hR, hS]
  refine congrArg (fun z : EReal => S' x e * Ideal.exp (tot la x) + z) ?_
  refine (Equiv.sum_comp (rho d) (fun j => k (ix3 0 j x) * c16 * Ideal.exp (tot la x - k0_pay13 (k0_pay3 i) a b c (ix2 j x)) * v (ix3 0 j e))).symm.trans ?_
  refine Finset.sum_congr rfl fun j _ => ?_
  rw [cum_scan i d hd a b c la hla hR, hk, hv]

end Chunk

end Cert.KernelIdeal.GK
-- ==== Proof.GlaHost.lean ====
/-
  The recurrence kernel's gate weights as its host code lays them out: each direction's sixteen rows set into a zero array of 128 rows, at
  the rows of the low-rank gates that the direction uses.
-/
module

public import proofs.«01_k».proof.Proof.GlaFrame
public import proofs.«01_k».proof.Proof.GlaKernel
public import Idealize.ShloMosaic.Lib.Routing.OpsOne

@[expose] public section

set_option maxRecDepth 16384

noncomputable section

open Idealize.ShloMosaic Idealize.ShloMosaic.TcCoe Idealize.SL.Sem
open Idealize.ShloMosaic.StableHlo

namespace Cert.KernelIdeal.GK

open Cert.KernelIdeal Cert.KernelIdeal.Gen Cert.GlaSpec Cert.FiniteReals

/-- The start of every update: on the first two axes the index words, on the last nothing. -/
theorem start01 (idx : IVec S2 32) (k : S16x1024.Idx) (q : Fin 2) :
    scatter_S2x128x1024_S2_S16x1024_01_0_01_0.start k idx (⟨q.val, by have := q.isLt; show q.val < 3; omega⟩ : Fin S2x128x1024.rank) = (idx (ix1 q)).toInt := by
  have hm : (⟨q.val, by have := q.isLt; show q.val < 3; omega⟩ : Fin S2x128x1024.rank) ∈ scatter_S2x128x1024_S2_S16x1024_01_0_01_0.scatterDimsToOperandDims := by
    show _ ∈ ([0, 1] : List (Fin 3)); fin_cases q <;> simp
  unfold ScatterDims.start
  rw [dif_pos hm]
  refine congrArg (fun z => (idx z).toInt) (funext fun b' => Fin.ext ?_)
  match b' with
  | ⟨0, _⟩ =>
    unfold ScatterDims.siIdx
    have e : ((⟨0, by decide⟩ : Fin S2.rank).val) = scatter_S2x128x1024_S2_S16x1024_01_0_01_0.indexVectorDim := rfl
    rw [dif_pos e]
    show List.idxOf _ ([0, 1] : List (Fin 3)) = q.val
    fin_cases q <;> rfl

theorem start2 (idx : IVec S2 32) (k : S16x1024.Idx) : scatter_S2x128x1024_S2_S16x1024_01_0_01_0.start k idx (2 : Fin 3) = 0 := by
  unfold ScatterDims.start
  exact dif_neg (show ¬ (2 : Fin 3) ∈ ([0, 1] : List (Fin 3)) by decide)

theorem window0 (k : S16x1024.Idx) : scatter_S2x128x1024_S2_S16x1024_01_0_01_0.window k (0 : Fin 3) = 0 := by
  unfold ScatterDims.window
  exact dif_neg (show ¬ (0 : Fin 3) ∈ S2x128x1024.kept [0] by decide)

theorem window12 (k : S16x1024.Idx) :
    scatter_S2x128x1024_S2_S16x1024_01_0_01_0.window k (1 : Fin 3) = (k 0).val
      ∧ scatter_S2x128x1024_S2_S16x1024_01_0_01_0.window k (2 : Fin 3) = (k 1).val := by
  unfold ScatterDims.window
  exact ⟨(dif_pos (show (1 : Fin 3) ∈ S2x128x1024.kept [0] by decide)).trans rfl, (dif_pos (show (2 : Fin 3) ∈ S2x128x1024.kept [0] by decide)).trans rfl⟩

/-- Update `(r', c')` lands at `(a, r, c)` exactly when the first index word is `a`, the second plus `r'` is `r`, and `c'` is `c`. -/
theorem lands (idx : IVec S2 32) (r' : Fin 16) (c' : Fin 1024) (a : Fin 2) (r : Fin 128) (c : Fin 1024) :
    scatter_S2x128x1024_S2_S16x1024_01_0_01_0.resultIdx? (ix2 r' c') idx = some (ix3 a r c)
      ↔ (idx (ix1 0)).toInt = a.val ∧ (idx (ix1 1)).toInt + (r'.val : Int) = r.val ∧ c'.val = c.val := by
  rw [Idealize.ShloMosaic.Routing.resultIdx?_eq_some]
  have s0 := start01 idx (ix2 r' c') 0
  have s1 := start01 idx (ix2 r' c') 1
  have s2 := start2 idx (ix2 r' c')
  have w0 := window0 (ix2 r' c')
  have w1 := (window12 (ix2 r' c')).1
  have w2 := (window12 (ix2 r' c')).2
  constructor
  · intro h
    have e0 := h (0 : Fin 3)
    have e1 := h (1 : Fin 3)
    have e2 := h (2 : Fin 3)
    change _ = ((a.val : ℕ) : Int) at e0
    change _ = ((r.val : ℕ) : Int) at e1
    change _ = ((c.val : ℕ) : Int) at e2
    rw [w0] at e0; rw [w1] at e1; rw [w2, s2] at e2
    change (_ : Int) + ((r'.val : ℕ) : Int) = _ at e1
    change (_ : Int) + ((c'.val : ℕ) : Int) = _ at e2
    refine ⟨?_, ?_, by omega⟩
    · rw [← s0]; simpa using e0
    · rw [← s1]; exact e1
  · rintro ⟨h0, h1, h2⟩ q
    match q with
    | ⟨0, _⟩ => exact (congrArg₂ (fun (x : Int) (y : ℕ) => x + (y : Int)) s0 w0).trans (by simpa using h0)
    | ⟨1, _⟩ => exact (congrArg₂ (fun (x : Int) (y : ℕ) => x + (y : Int)) s1 w1).trans h1
    | ⟨2, _⟩ => exact (congrArg₂ (fun (x : Int) (y : ℕ) => x + (y : Int)) s2 w2).trans (by show (0 : Int) + ((c'.val : ℕ) : Int) = _; rw [h2]; simp)

/-- Sixteen rows set into the array at block `p` from row `o`. -/
theorem set_rows (x0 : Vec Ideal S2x128x1024 .f32) (idx : IVec S2 32) (u : Vec Ideal S16x1024 .f32) (p : Fin 2) (o : ℕ) (ho : o + 16 ≤ 128)
    (h0 : (idx (ix1 0)).toInt = p.val) (h1 : (idx (ix1 1)).toInt = o) (a : Fin 2) (r : Fin 128) (c : Fin 1024) :
    Host.scatter scatter_S2x128x1024_S2_S16x1024_01_0_01_0 (fun _ b => b) x0 idx u (ix3 a r c)
      = if h : a = p ∧ o ≤ r.val ∧ r.val < o + 16 then u (ix2 ⟨r.val - o, by omega⟩ c) else x0 (ix3 a r c) := by
  by_cases h : a = p ∧ o ≤ r.val ∧ r.val < o + 16
  · rw [dif_pos h]
    refine Idealize.ShloMosaic.Routing.scatter_set_hit _ x0 idx u _ _ (fun k hk => ?_) (ix2 ⟨r.val - o, by omega⟩ c)
      ((lands idx _ c a r c).2 ⟨by rw [h0, h.1], by rw [h1]; show (o : Int) + ((r.val - o : ℕ) : Int) = _; omega, rfl⟩)
    obtain ⟨r', c', rfl⟩ : ∃ (r' : Fin 16) (c' : Fin 1024), k = ix2 r' c' := ⟨k 0, k 1, eq_ix2 k⟩
    obtain ⟨_, e1, e2⟩ := (lands idx r' c' a r c).1 hk
    rw [h1] at e1
    exact congrArg₂ (fun y z => u (ix2 y z)) (Fin.ext (by show r'.val = r.val - o; omega)) (Fin.ext e2)
  · rw [dif_neg h]
    refine Idealize.ShloMosaic.Routing.scatter_set_miss _ x0 idx u _ fun k hk => h ?_
    obtain ⟨r', c', rfl⟩ : ∃ (r' : Fin 16) (c' : Fin 1024), k = ix2 r' c' := ⟨k 0, k 1, eq_ix2 k⟩
    obtain ⟨e0, e1, e2⟩ := (lands idx r' c' a r c).1 hk
    rw [h1] at e1; rw [h0] at e0
    have := r'.isLt
    exact ⟨Fin.ext (by omega), by omega, by omega⟩

variable (m : (ℓ : Loc nD τ sig) → Buf (Elt Ideal) ℓ)

/-- The two index words. -/
abbrev words (p q : BitVec 32) : IVec S2 32 :=
  concatenate S2 0 [⟨S1, broadcastInDim S1 ![] bcast_S_S1 (constantI S_ 32 p)⟩, ⟨S1, broadcastInDim S1 ![] bcast_S_S1 (constantI S_ 32 q)⟩] concatenates_S1_S1_S2_d0

theorem words0 (p q : BitVec 32) : words p q (ix1 0) = p := by unfold words; pointwise []
theorem words1 (p q : BitVec 32) : words p q (ix1 1) = q := by unfold words; pointwise []

/-- The host code's array of gate weights. -/
abbrev padded (y : Vec Ideal S1x2x16x1024 .f32) : Vec Ideal S2x128x1024 .f32 :=
  Host.scatter scatter_S2x128x1024_S2_S16x1024_01_0_01_0 (fun _ b => b)
    (Host.scatter scatter_S2x128x1024_S2_S16x1024_01_0_01_0 (fun _ b => b) (broadcastInDim S2x128x1024 ![] bcast_S_S2x128x1024 (constant (F := Ideal) S_ .f32 0x00000000#32))
      (words 0#32 0#32) (shapeCast S16x1024 (extractStridedSlice S1x1x16x1024 ![0, 0, 0, 0] y slices_S1x2x16x1024_S1x1x16x1024_0_0_0_0) shapeCasts_S1x1x16x1024_S16x1024))
    (words 1#32 16#32) (shapeCast S16x1024 (extractStridedSlice S1x1x16x1024 ![0, 1, 0, 0] y slices_S1x2x16x1024_S1x1x16x1024_0_1_0_0) shapeCasts_S1x1x16x1024_S16x1024)

theorem V_v12_eq (c : Dev nD) : V m c main_v12 = padded (m ((c : Thread nD τ).loc main_arg2)) := by
  show StableHlo.after hostOps0 _ _ = _
  simp only [hostOps0, TRef.binary, TRef.unary, TRef.toBuf, TRef.ofBuf, cast_eq]
  after_results_simp
  rfl

theorem cut0 (y : Vec Ideal S1x2x16x1024 .f32) (j : Fin 16) (l : Fin 1024) :
    (shapeCast S16x1024 (extractStridedSlice S1x1x16x1024 ![0, 0, 0, 0] y slices_S1x2x16x1024_S1x1x16x1024_0_0_0_0) shapeCasts_S1x1x16x1024_S16x1024 : Vec Ideal S16x1024 .f32) (ix2 j l)
      = y (ix4 0 0 j l) := by pointwise []
theorem cut1 (y : Vec Ideal S1x2x16x1024 .f32) (j : Fin 16) (l : Fin 1024) :
    (shapeCast S16x1024 (extractStridedSlice S1x1x16x1024 ![0, 1, 0, 0] y slices_S1x2x16x1024_S1x1x16x1024_0_1_0_0) shapeCasts_S1x1x16x1024_S16x1024 : Vec Ideal S16x1024 .f32) (ix2 j l)
      = y (ix4 0 1 j l) := by pointwise []
theorem zeros (a : Fin 2) (r : Fin 128) (l : Fin 1024) :
    (broadcastInDim S2x128x1024 ![] bcast_S_S2x128x1024 (constant (F := Ideal) S_ .f32 0x00000000#32) : Vec Ideal S2x128x1024 .f32) (ix3 a r l) = 0 := by
  pointwise []

theorem two_sets (x0 : Vec Ideal S2x128x1024 .f32) (u0 u1 : Vec Ideal S16x1024 .f32) (y : Vec Ideal S1x2x16x1024 .f32)
    (hx : ∀ a r l, x0 (ix3 a r l) = 0) (h0 : ∀ j l, u0 (ix2 j l) = y (ix4 0 0 j l)) (h1 : ∀ j l, u1 (ix2 j l) = y (ix4 0 1 j l)) (d : Fin 2) (r : Fin 128) (l : Fin 1024) :
    Host.scatter scatter_S2x128x1024_S2_S16x1024_01_0_01_0 (fun _ b => b)
      (Host.scatter scatter_S2x128x1024_S2_S16x1024_01_0_01_0 (fun _ b => b) x0 (words 0#32 0#32) u0) (words 1#32 16#32) u1 (ix3 d r l)
      = if h : 16 * d.val ≤ r.val ∧ r.val < 16 * d.val + 16 then y (ix4 0 d ⟨r.val - 16 * d.val, by omega⟩ l) else 0 := by
  rw [set_rows _ _ _ 1 16 (by omega) (by rw [words0]; rfl) (by rw [words1]; rfl), set_rows _ _ _ 0 0 (by omega) (by rw [words0]; rfl) (by rw [words1]; rfl), hx]
  simp only [h0, h1]
  match d with
  | ⟨0, _⟩ =>
    rw [dif_neg (by rintro ⟨h, _⟩; exact absurd (congrArg Fin.val h) (show (0 : ℕ) ≠ 1 by decide))]
    by_cases h : r.val < 16
    · rw [dif_pos ⟨rfl, Nat.zero_le _, by omega⟩, dif_pos ⟨Nat.zero_le _, by simpa using h⟩]; rfl
    · rw [dif_neg (by rintro ⟨_, _, h'⟩; omega), dif_neg (by rintro ⟨_, h'⟩; simp at h'; omega)]
  | ⟨1, _⟩ =>
    by_cases h : 16 ≤ r.val ∧ r.val < 32
    · rw [dif_pos ⟨rfl, h.1, by omega⟩, dif_pos ⟨by simpa using h.1, by simpa using h.2⟩]; rfl
    · rw [dif_neg (by rintro ⟨_, h1, h2⟩; exact h ⟨h1, by omega⟩), dif_neg (by rintro ⟨h', _⟩; exact absurd (congrArg Fin.val h') (show (1 : ℕ) ≠ 0 by decide)),
        dif_neg (by rintro ⟨h1, h2⟩; simp at h1 h2; exact h ⟨h1, by omega⟩)]

theorem padded_apply (y : Vec Ideal S1x2x16x1024 .f32) (d : Fin 2) (r : Fin 128) (l : Fin 1024) :
    padded y (ix3 d r l) = if h : 16 * d.val ≤ r.val ∧ r.val < 16 * d.val + 16 then y (ix4 0 d ⟨r.val - 16 * d.val, by omega⟩ l) else 0 :=
  two_sets _ _ _ y zeros (cut0 y) (cut1 y) d r l

theorem flat_b (y : Vec Ideal S1x2x1024 .f32) (d : Fin 2) (l : Fin 1024) :
    (shapeCast S2x1x1024 (shapeCast S2x1024 y shapeCasts_S1x2x1024_S2x1024 : Vec Ideal S2x1024 .f32) shapeCasts_S2x1024_S2x1x1024 : Vec Ideal S2x1x1024 .f32) (ix3 d 0 l) = y (ix3 0 d l) := by
  pointwise []

theorem V_v14 (c : Dev nD) (d : Fin 2) (l : Fin 1024) : V m c main_v14 (ix3 d 0 l) = m ((c : Thread nD τ).loc main_arg3) (ix3 0 d l) := by
  refine Eq.trans (congrFun (?_ : V m c main_v14 = (shapeCast S2x1x1024 (shapeCast S2x1024 (m ((c : Thread nD τ).loc main_arg3) : Vec Ideal S1x2x1024 .f32) shapeCasts_S1x2x1024_S2x1024 : Vec Ideal S2x1024 .f32) shapeCasts_S2x1024_S2x1x1024 : Vec Ideal S2x1x1024 .f32)) (ix3 d 0 l)) ?_
  · show StableHlo.after hostOps0 _ _ = _
    simp only [hostOps0, TRef.binary, TRef.unary, TRef.toBuf, TRef.ofBuf, cast_eq]
    after_results_simp
    rfl
  exact flat_b _ d l

/-- A row of 128 against a column whose entries outside sixteen are zero. -/
theorem sum_rows (f : Fin 128 → EReal) (w : Fin 16 → EReal) (d : Fin 2) :
    (∑ r : Fin 128, f r * (if h : 16 * d.val ≤ r.val ∧ r.val < 16 * d.val + 16 then w ⟨r.val - 16 * d.val, by omega⟩ else 0))
      = ∑ j : Fin 16, f ⟨16 * d.val + j.val, by omega⟩ * w j := by
  symm
  refine Finset.sum_of_injOn (fun j : Fin 16 => (⟨16 * d.val + j.val, by omega⟩ : Fin 128)) ?_ (fun _ _ => Finset.mem_coe.2 (Finset.mem_univ _)) ?_ ?_
  · intro a _ b _ h
    have := congrArg Fin.val h
    exact Fin.ext (by dsimp only at this; omega)
  · intro r _ hr
    rw [dif_neg, mul_zero]
    rintro ⟨h1, h2⟩
    exact hr ⟨⟨r.val - 16 * d.val, by omega⟩, Finset.mem_coe.2 (Finset.mem_univ _), Fin.ext (by show 16 * d.val + (r.val - 16 * d.val) = r.val; omega)⟩
  · intro j _
    have := j.isLt
    dsimp only
    rw [dif_pos ⟨by omega, by omega⟩]
    exact congrArg (fun z => _ * w z) (Fin.ext (by show j.val = 16 * d.val + j.val - 16 * d.val; omega))

end Cert.KernelIdeal.GK

end
-- ==== Proof.GlaBlocks.lean ====
/-
  The recurrence kernel's blocks, entry by entry, in terms of the arguments, and the arrays the run leaves: the call's result and last
  states as the plain functions give them.
-/
module

public import proofs.«01_k».proof.Proof.GlaHost
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.KernelIdeal.GK

open Cert.KernelIdeal Cert.KernelIdeal.Gen Cert.GlaSpec Cert.FiniteReals Cert.Proof.Gla

variable (m : (ℓ : Loc nD τ sig) → Buf (Elt Ideal) ℓ)

/-- The arguments of device `c`. -/
abbrev args (c : Dev nD) : Args where
  tokens b t l := m ((c : Thread nD τ).loc main_arg0) (ix3 b t l)
  lowrank b t l := m ((c : Thread nD τ).loc main_arg1) (ix3 b t l)
  weight d j l := m ((c : Thread nD τ).loc main_arg2) (ix4 0 d j l)
  bias d l := m ((c : Thread nD τ).loc main_arg3) (ix3 0 d l)
  init d b h x e := m ((c : Thread nD τ).loc main_arg4) (ix5 d b h x e)

theorem N256 (t : Fin cfg0.N) : t.val < 256 := lt_of_lt_of_eq t.isLt (show cfg0.N = 256 from N_0)

/-- The direction, sequence, head and block of a grid point. -/
abbrev dd (t : Fin cfg0.N) : Fin 2 := ⟨t.val / 128, by have := N256 t; omega⟩
abbrev bb (t : Fin cfg0.N) : Fin 4 := ⟨t.val / 32 % 4, by omega⟩
abbrev hh (t : Fin cfg0.N) : Fin 4 := ⟨t.val / 8 % 4, by omega⟩
abbrev pos (t : Fin cfg0.N) : ℕ := if t.val / 128 = 0 then t.val % 8 else 7 - t.val % 8
theorem pos_lt (t : Fin cfg0.N) : pos t < 8 := by unfold pos; split <;> omega
/-- The token a row of a grid point's block is. -/
abbrev tk (t : Fin cfg0.N) (R : Fin 512) : Fin 4096 := ⟨pos t * 512 + R.val, by have := pos_lt t; omega⟩

theorem coord0 : ∀ t : Fin cfg0.N, ((grid0.coords t) 0).val = t.val / 128 :=
  (by decide +kernel : ∀ t : Fin grid0.N, ((grid0.coords t) 0).val = t.val / 128)

theorem dd_eq (t : Fin cfg0.N) : dd t = (grid0.coords t) 0 := Fin.ext (coord0 t).symm

/-! ## The input blocks -/

theorem idx0 : ∀ t : Fin cfg0.N, win0_0.index t 0 = t.val / 32 % 4 ∧ win0_0.index t 1 = pos t ∧ win0_0.index t 2 = 0 :=
  (by decide +kernel : ∀ t : Fin grid0.N, win0_0.index t 0 = t.val / 32 % 4 ∧ win0_0.index t 1 = (if t.val / 128 = 0 then t.val % 8 else 7 - t.val % 8) ∧ win0_0.index t 2 = 0)
theorem idx1 : ∀ t : Fin cfg0.N, win0_1.index t 0 = t.val / 32 % 4 ∧ win0_1.index t 1 = pos t ∧ win0_1.index t 2 = t.val / 8 % 4 :=
  (by decide +kernel : ∀ t : Fin grid0.N, win0_1.index t 0 = t.val / 32 % 4 ∧ win0_1.index t 1 = (if t.val / 128 = 0 then t.val % 8 else 7 - t.val % 8) ∧ win0_1.index t 2 = t.val / 8 % 4)
theorem idx2 : ∀ t : Fin cfg0.N, win0_2.index t 0 = t.val / 32 % 4 ∧ win0_2.index t 1 = pos t ∧ win0_2.index t 2 = 4 + t.val / 8 % 4 :=
  (by decide +kernel : ∀ t : Fin grid0.N, win0_2.index t 0 = t.val / 32 % 4 ∧ win0_2.index t 1 = (if t.val / 128 = 0 then t.val % 8 else 7 - t.val % 8) ∧ win0_2.index t 2 = 4 + t.val / 8 % 4)
theorem idx3 : ∀ t : Fin cfg0.N, win0_3.index t 0 = t.val / 32 % 4 ∧ win0_3.index t 1 = pos t ∧ win0_3.index t 2 = 4 + t.val / 8 % 4 :=
  (by decide +kernel : ∀ t : Fin grid0.N, win0_3.index t 0 = t.val / 32 % 4 ∧ win0_3.index t 1 = (if t.val / 128 = 0 then t.val % 8 else 7 - t.val % 8) ∧ win0_3.index t 2 = 4 + t.val / 8 % 4)
theorem idx4 : ∀ t : Fin cfg0.N, win0_4.index t 0 = t.val / 128 ∧ win0_4.index t 1 = 0 ∧ win0_4.index t 2 = t.val / 8 % 4 :=
  (by decide +kernel : ∀ t : Fin grid0.N, win0_4.index t 0 = t.val / 128 ∧ win0_4.index t 1 = 0 ∧ win0_4.index t 2 = t.val / 8 % 4)
theorem idx5 : ∀ t : Fin cfg0.N, win0_5.index t 0 = t.val / 128 ∧ win0_5.index t 1 = 0 ∧ win0_5.index t 2 = t.val / 8 % 4 :=
  (by decide +kernel : ∀ t : Fin grid0.N, win0_5.index t 0 = t.val / 128 ∧ win0_5.index t 1 = 0 ∧ win0_5.index t 2 = t.val / 8 % 4)
theorem idx6 : ∀ t : Fin cfg0.N, win0_6.index t 0 = t.val / 128 ∧ win0_6.index t 1 = t.val / 32 % 4 ∧ win0_6.index t 2 = t.val / 8 % 4 ∧ win0_6.index t 3 = 0 ∧ win0_6.index t 4 = 0 :=
  (by decide +kernel : ∀ t : Fin grid0.N, win0_6.index t 0 = t.val / 128 ∧ win0_6.index t 1 = t.val / 32 % 4 ∧ win0_6.index t 2 = t.val / 8 % 4 ∧ win0_6.index t 3 = 0 ∧ win0_6.index t 4 = 0)
theorem idx7 : ∀ t : Fin cfg0.N, win0_7.index t 0 = t.val / 128 ∧ win0_7.index t 1 = t.val / 32 % 4 ∧ win0_7.index t 2 = pos t ∧ win0_7.index t 3 = t.val / 8 % 4 :=
  (by decide +kernel : ∀ t : Fin grid0.N, win0_7.index t 0 = t.val / 128 ∧ win0_7.index t 1 = t.val / 32 % 4 ∧ win0_7.index t 2 = (if t.val / 128 = 0 then t.val % 8 else 7 - t.val % 8) ∧ win0_7.index t 3 = t.val / 8 % 4)
theorem idx8 : ∀ t : Fin cfg0.N, win0_8.index t 0 = t.val / 128 ∧ win0_8.index t 1 = t.val / 32 % 4 ∧ win0_8.index t 2 = t.val / 8 % 4 ∧ win0_8.index t 3 = 0 ∧ win0_8.index t 4 = 0 :=
  (by decide +kernel : ∀ t : Fin grid0.N, win0_8.index t 0 = t.val / 128 ∧ win0_8.index t 1 = t.val / 32 % 4 ∧ win0_8.index t 2 = t.val / 8 % 4 ∧ win0_8.index t 3 = 0 ∧ win0_8.index t 4 = 0)

theorem blk0 (c : Dev nD) (t : Fin cfg0.N) (R : Fin 512) (l : Fin 128) : iblk m c 0 t (ix3 0 R l) = (args m c).lowrank (bb t) (tk t R) l := by
  have h := idx0 t
  unfold iblk
  rw [View.read_apply]
  show V m c main_arg1 _ = _
  rw [V_main_arg1]
  refine congrArg (m ((c : Thread nD τ).loc main_arg1)) (funext fun a => Fin.ext ?_)
  match a with
  | ⟨0, _⟩ => show win0_0.index t 0 * 1 + 1 * 0 = t.val / 32 % 4; rw [h.1]; omega
  | ⟨1, _⟩ => show win0_0.index t 1 * 512 + 1 * R.val = pos t * 512 + R.val; rw [h.2.1]; omega
  | ⟨2, _⟩ => show win0_0.index t 2 * 128 + 1 * l.val = l.val; rw [h.2.2]; omega

theorem blk1 (c : Dev nD) (t : Fin cfg0.N) (R : Fin 512) (x : Fin 256) :
    iblk m c 1 t (ix3 0 R x) = (args m c).tokens (bb t) (tk t R) ⟨(hh t).val * 256 + x.val, by omega⟩ := by
  have h := idx1 t
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 1 + 1 * 0 = t.val / 32 % 4; rw [h.1]; omega
  | ⟨1, _⟩ => show win0_1.index t 1 * 512 + 1 * R.val = pos t * 512 + R.val; rw [h.2.1]; omega
  | ⟨2, _⟩ => show win0_1.index t 2 * 256 + 1 * x.val = t.val / 8 % 4 * 256 + x.val; rw [h.2.2]; omega

theorem blk2 (c : Dev nD) (t : Fin cfg0.N) (R : Fin 512) (x : Fin 256) :
    iblk m c 2 t (ix3 0 R x) = (args m c).tokens (bb t) (tk t R) ⟨1024 + ((hh t).val * 256 + x.val), by omega⟩ := by
  have h := idx2 t
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t 0 * 1 + 1 * 0 = t.val / 32 % 4; rw [h.1]; omega
  | ⟨1, _⟩ => show win0_2.index t 1 * 512 + 1 * R.val = pos t * 512 + R.val; rw [h.2.1]; omega
  | ⟨2, _⟩ => show win0_2.index t 2 * 256 + 1 * x.val = 1024 + (t.val / 8 % 4 * 256 + x.val); rw [h.2.2]; omega

theorem blk3 (c : Dev nD) (t : Fin cfg0.N) (R : Fin 512) (e : Fin 512) :
    iblk m c 3 t (ix3 0 R e) = (args m c).tokens (bb t) (tk t R) ⟨2048 + ((hh t).val * 512 + e.val), by omega⟩ := by
  have h := idx3 t
  unfold iblk
  rw [View.read_apply]
  show V m c main_arg0 _ = _
  rw [V_main_arg0]
  refine congrArg (m ((c : Thread nD τ).loc main_arg0)) (funext fun a => Fin.ext ?_)
  match a with
  | ⟨0, _⟩ => show win0_3.index t 0 * 1 + 1 * 0 = t.val / 32 % 4; rw [h.1]; omega
  | ⟨1, _⟩ => show win0_3.index t 1 * 512 + 1 * R.val = pos t * 512 + R.val; rw [h.2.1]; omega
  | ⟨2, _⟩ => show win0_3.index t 2 * 512 + 1 * e.val = 2048 + (t.val / 8 % 4 * 512 + e.val); rw [h.2.2]; omega

theorem blk4 (c : Dev nD) (t : Fin cfg0.N) (j : Fin 128) (x : Fin 256) :
    iblk m c 4 t (ix3 0 j x) = padded (m ((c : Thread nD τ).loc main_arg2)) (ix3 (dd t) j ⟨(hh t).val * 256 + x.val, by omega⟩) := by
  have h := idx4 t
  unfold iblk
  rw [View.read_apply]
  show V m c main_v12 _ = _
  rw [V_v12_eq]
  refine congrArg (padded (m ((c : Thread nD τ).loc main_arg2))) (funext fun a => Fin.ext ?_)
  match a with
  | ⟨0, _⟩ => show win0_4.index t 0 * 1 + 1 * 0 = t.val / 128; rw [h.1]; omega
  | ⟨1, _⟩ => show win0_4.index t 1 * 128 + 1 * j.val = j.val; rw [h.2.1]; omega
  | ⟨2, _⟩ => show win0_4.index t 2 * 256 + 1 * x.val = t.val / 8 % 4 * 256 + x.val; rw [h.2.2]; omega

theorem blk5 (c : Dev nD) (t : Fin cfg0.N) (x : Fin 256) :
    iblk m c 5 t (ix3 0 0 x) = (args m c).bias (dd t) ⟨(hh t).val * 256 + x.val, by omega⟩ := by
  have h := idx5 t
  refine Eq.trans ?_ (V_v14 m c (dd t) ⟨(hh t).val * 256 + x.val, by omega⟩)
  unfold iblk
  rw [View.read_apply]
  show V m c main_v14 _ = _
  refine congrArg (V m c main_v14) (funext fun a => Fin.ext ?_)
  match a with
  | ⟨0, _⟩ => show win0_5.index t 0 * 1 + 1 * 0 = t.val / 128; rw [h.1]; omega
  | ⟨1, _⟩ => show win0_5.index t 1 * 1 + 1 * 0 = 0; rw [h.2.1]; try omega
  | ⟨2, _⟩ => show win0_5.index t 2 * 256 + 1 * x.val = t.val / 8 % 4 * 256 + x.val; rw [h.2.2]; omega

theorem blk6 (c : Dev nD) (t : Fin cfg0.N) (x : Fin 256) (e : Fin 512) :
    iblk m c 6 t (ix5 0 0 0 x e) = (args m c).init (dd t) (bb t) (hh t) x e := by
  have h := idx6 t
  unfold iblk
  rw [View.read_apply]
  show V m c main_arg4 _ = _
  rw [V_main_arg4]
  refine congrArg (m ((c : Thread nD τ).loc main_arg4)) (funext fun a => Fin.ext ?_)
  match a with
  | ⟨0, _⟩ => show win0_6.index t 0 * 1 + 1 * 0 = t.val / 128; rw [h.1]; omega
  | ⟨1, _⟩ => show win0_6.index t 1 * 1 + 1 * 0 = t.val / 32 % 4; rw [h.2.1]; omega
  | ⟨2, _⟩ => show win0_6.index t 2 * 1 + 1 * 0 = t.val / 8 % 4; rw [h.2.2.1]; omega
  | ⟨3, _⟩ => show win0_6.index t 3 * 256 + 1 * x.val = x.val; rw [h.2.2.2.1]; omega
  | ⟨4, _⟩ => show win0_6.index t 4 * 512 + 1 * e.val = e.val; rw [h.2.2.2.2]; omega

end Cert.KernelIdeal.GK

end
-- ==== Proof.GlaValue.lean ====
/-
  The recurrence kernel's two result arrays: the scratch state after each grid point, the block each point leaves, and the arrays the run
  ends with, as the plain functions of the arguments.
-/
module

public import proofs.«01_k».proof.Proof.GlaBlocks

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.KernelIdeal.GK

open Cert.KernelIdeal Cert.KernelIdeal.Gen Cert.GlaSpec Cert.FiniteReals Cert.Proof.Gla

variable (m : (ℓ : Loc nD τ sig) → Buf (Elt Ideal) ℓ)

/-- The gates' arguments are real numbers. -/
def Reals (A : Args) : Prop := (∀ b t l, IsR (A.lowrank b t l)) ∧ (∀ d j l, IsR (A.weight d j l)) ∧ ∀ d l, IsR (A.bias d l)

theorem chunk_eq (t : Fin cfg0.N) (k : Fin k0_t1_loop.trips) : chunkOf ((grid0.coords t) 0).val k.val = if t.val / 128 = 0 then k.val else 7 - k.val := by
  rw [coord0]; rfl

/-- The row of the block that row `j` (in the scan's order) of the chunk of trip `k` is. -/
abbrev rowR (t : Fin cfg0.N) (k : Fin k0_t1_loop.trips) (j : Fin 64) : Fin 512 :=
  ⟨64 * (if t.val / 128 = 0 then k.val else 7 - k.val) + (rho (dd t) j).val, by
    have h : k.val < 8 := lt_of_lt_of_eq k.isLt trips8; have := j.isLt; have := (rho (dd t) j).isLt; split <;> omega⟩

theorem tk_row (t : Fin cfg0.N) (k : Fin k0_t1_loop.trips) (j : Fin 64) :
    tk t (rowR t k j) = tok (dd t) (posn (t.val % 8 * 8 + k.val) j) := by
  have h : k.val < 8 := lt_of_lt_of_eq k.isLt trips8
  have hj := j.isLt
  apply Fin.ext
  show pos t * 512 + (64 * (if t.val / 128 = 0 then k.val else 7 - k.val) + (rho (dd t) j).val)
    = if t.val / 128 = 0 then ((t.val % 8 * 8 + k.val) * 64 + j.val) % 4096 else 4095 - ((t.val % 8 * 8 + k.val) * 64 + j.val) % 4096
  rw [rho_val]
  unfold pos
  show _ + (_ + (if t.val / 128 = 0 then j.val else 63 - j.val)) = _
  split <;> omega

theorem ldA_apply (t : Fin cfg0.N) (x : Vec Ideal S1x512x128 .f32) (k : Fin k0_t1_loop.trips) (j : Fin 64) (l : Fin 128) :
    ldA (grid0.coords t) x k (ix3 0 (rho (dd t) j) l) = x (ix3 0 (rowR t k j) l) := by
  unfold ldA
  show x _ = _
  have h := off1_eq (grid0.coords t) k
  rw [chunk_eq] at h
  refine congrArg x (funext fun a => Fin.ext ?_)
  match a with
  | ⟨0, _⟩ => show k0_off1 (grid0.coords t) k 0 + 1 * 0 = 0; rw [h]; rfl
  | ⟨1, _⟩ => show k0_off1 (grid0.coords t) k 1 + 1 * (rho (dd t) j).val = _; rw [h]; show 64 * _ + 1 * _ = 64 * _ + _; rw [one_mul]
  | ⟨2, _⟩ => show k0_off1 (grid0.coords t) k 2 + 1 * l.val = l.val; rw [h]; show 0 + 1 * l.val = _; omega

theorem ldQ_apply (t : Fin cfg0.N) (x : Vec Ideal S1x512x256 .bf16) (k : Fin k0_t1_loop.trips) (j : Fin 64) (l : Fin 256) :
    ldQ (grid0.coords t) x k (ix3 0 (rho (dd t) j) l) = x (ix3 0 (rowR t k j) l) := by
  unfold ldQ
  show x _ = _
  have h := off2_eq (grid0.coords t) k
  rw [chunk_eq] at h
  refine congrArg x (funext fun a => Fin.ext ?_)
  match a with
  | ⟨0, _⟩ => show k0_off2 (grid0.coords t) k 0 + 1 * 0 = 0; rw [h]; rfl
  | ⟨1, _⟩ => show k0_off2 (grid0.coords t) k 1 + 1 * (rho (dd t) j).val = _; rw [h]; show 64 * _ + 1 * _ = 64 * _ + _; rw [one_mul]
  | ⟨2, _⟩ => show k0_off2 (grid0.coords t) k 2 + 1 * l.val = l.val; rw [h]; show 0 + 1 * l.val = _; omega

theorem ldV_apply (t : Fin cfg0.N) (x : Vec Ideal S1x512x512 .bf16) (k : Fin k0_t1_loop.trips) (j : Fin 64) (l : Fin 512) :
    ldV (grid0.coords t) x k (ix3 0 (rho (dd t) j) l) = x (ix3 0 (rowR t k j) l) := by
  unfold ldV
  show x _ = _
  have h := off3_eq (grid0.coords t) k
  rw [chunk_eq] at h
  refine congrArg x (funext fun a => Fin.ext ?_)
  match a with
  | ⟨0, _⟩ => show k0_off3 (grid0.coords t) k 0 + 1 * 0 = 0; rw [h]; rfl
  | ⟨1, _⟩ => show k0_off3 (grid0.coords t) k 1 + 1 * (rho (dd t) j).val = _; rw [h]; show 64 * _ + 1 * _ = 64 * _ + _; rw [one_mul]
  | ⟨2, _⟩ => show k0_off3 (grid0.coords t) k 2 + 1 * l.val = l.val; rw [h]; show 0 + 1 * l.val = _; omega

variable (c : Dev nD) (hR : Reals (args m c))

/-- The chunk of trip `k` of point `t`, counted along the whole scan. -/
abbrev ch (t : Fin cfg0.N) (k : Fin k0_t1_loop.trips) : ℕ := t.val % 8 * 8 + k.val

theorem q_eq (t : Fin cfg0.N) (k : Fin k0_t1_loop.trips) (j : Fin 64) (x : Fin 256) :
    ldQ (grid0.coords t) (iblk m c 1 t) k (ix3 0 (rho (dd t) j) x) = qs (args m c) (dd t) (bb t) (hh t) (ch t k) j x :=
  (ldQ_apply t _ k j x).trans ((blk1 m c t _ x).trans (by rw [tk_row]; rfl))

theorem k_eq (t : Fin cfg0.N) (k : Fin k0_t1_loop.trips) (j : Fin 64) (x : Fin 256) :
    ldQ (grid0.coords t) (iblk m c 2 t) k (ix3 0 (rho (dd t) j) x) * c16 = ks (args m c) (dd t) (bb t) (hh t) (ch t k) j x :=
  congrArg (· * c16) ((ldQ_apply t _ k j x).trans ((blk2 m c t _ x).trans (by rw [tk_row])))

theorem v_eq (t : Fin cfg0.N) (k : Fin k0_t1_loop.trips) (j : Fin 64) (e : Fin 512) :
    ldV (grid0.coords t) (iblk m c 3 t) k (ix3 0 (rho (dd t) j) e) = vs (args m c) (dd t) (bb t) (hh t) (ch t k) j e :=
  (ldV_apply t _ k j e).trans ((blk3 m c t _ e).trans (by rw [tk_row]; rfl))

include hR

theorem la_eq (t : Fin cfg0.N) (k : Fin k0_t1_loop.trips) (j : Fin 64) (x : Fin 256) :
    k0_pay10 (k0_pay5 (iblk m c 4 t)) (k0_pay6 (iblk m c 5 t)) (ldA (grid0.coords t) (iblk m c 0 t) k) (ix2 (rho (dd t) j) x)
      = las (args m c) (dd t) (bb t) (hh t) (ch t k) j x := by
  rw [raw10]
  have ea : ∀ l, ldA (grid0.coords t) (iblk m c 0 t) k (ix3 0 (rho (dd t) j) l) = (args m c).lowrank (bb t) (tok (dd t) (posn (ch t k) j)) l := fun l =>
    (ldA_apply t _ k j l).trans ((blk0 m c t _ l).trans (by rw [tk_row]))
  have ew : ∀ l, k0_pay5 (iblk m c 4 t) (ix2 l x) = if h : 16 * (dd t).val ≤ l.val ∧ l.val < 16 * (dd t).val + 16
      then (args m c).weight (dd t) ⟨l.val - 16 * (dd t).val, by omega⟩ ⟨(hh t).val * 256 + x.val, by omega⟩ else 0 := fun l =>
    (raw5 _ l x).trans ((blk4 m c t l x).trans (padded_apply _ _ _ _))
  have hw : ∀ l, IsR (k0_pay5 (iblk m c 4 t) (ix2 l x)) := fun l => by
    rw [ew]; split
    · exact hR.2.1 _ _ _
    · exact IsR.zero
  have h1 : ∑ l, ldA (grid0.coords t) (iblk m c 0 t) k (ix3 0 (rho (dd t) j) l) * (k0_pay5 (iblk m c 4 t) (ix2 l x) - k0_pay5 (iblk m c 4 t) (ix2 l x)) = 0 :=
    Finset.sum_eq_zero fun l _ => by rw [(hw l).sub_self, mul_zero]
  have h2 : ∑ l, (ldA (grid0.coords t) (iblk m c 0 t) k (ix3 0 (rho (dd t) j) l) - ldA (grid0.coords t) (iblk m c 0 t) k (ix3 0 (rho (dd t) j) l)) * k0_pay5 (iblk m c 4 t) (ix2 l x) = 0 :=
    Finset.sum_eq_zero fun l _ => by rw [ea, (hR.1 _ _ _).sub_self, zero_mul]
  rw [h1, h2, add_zero, add_zero]
  unfold las
  refine congrArg lsig ?_
  unfold pre
  refine congrArg₂ (· + ·) ?_ ((raw6 _ x).trans (blk5 m c t x))
  refine Eq.trans ?_ (sum_rows (fun l => (args m c).lowrank (bb t) (tok (dd t) (posn (ch t k) j)) l)
    (fun i => (args m c).weight (dd t) i ⟨(hh t).val * 256 + x.val, by omega⟩) (dd t))
  exact Finset.sum_congr rfl fun l _ => congrArg₂ (· * ·) (ea l) (ew l)

theorem tripS_eq (t : Fin cfg0.N) (k : Fin k0_t1_loop.trips) (S : Vec Ideal S256x512 .f32)
    (hS : ∀ x e, S (ix2 x e) = sts (args m c) (dd t) (bb t) (hh t) (ch t k) x e) (x : Fin 256) (e : Fin 512) :
    tripS (grid0.coords t) (iblk m c 4 t) (iblk m c 5 t) (iblk m c 0 t) (iblk m c 2 t) (iblk m c 3 t) k S (ix2 x e)
      = sts (args m c) (dd t) (bb t) (hh t) (ch t k + 1) x e := by
  unfold tripS
  exact nxt_scan (grid0.coords t) (dd t) (dd_eq t) _ _ _ _ (la_eq m c hR t k) (las_real _ _ _ _ hR.1 hR.2.1 hR.2.2 _) _ _ S _ _ _
    (k_eq m c t k) (v_eq m c t k) hS x e

theorem tripO_eq (t : Fin cfg0.N) (k : Fin k0_t1_loop.trips) (S : Vec Ideal S256x512 .f32)
    (hS : ∀ x e, S (ix2 x e) = sts (args m c) (dd t) (bb t) (hh t) (ch t k) x e) (r : Fin 64) (e : Fin 512) :
    tripO (grid0.coords t) (iblk m c 4 t) (iblk m c 5 t) (iblk m c 0 t) (iblk m c 1 t) (iblk m c 2 t) (iblk m c 3 t) k S (ix4 0 0 (rho (dd t) r) e)
      = outs (args m c) (dd t) (bb t) (hh t) (ch t k) r e := by
  unfold tripO
  exact out_scan (grid0.coords t) (dd t) (dd_eq t) _ _ _ _ (la_eq m c hR t k) (las_real _ _ _ _ hR.1 hR.2.1 hR.2.2 _) _ _ _ S _ _ _ _
    (q_eq m c t k) (k_eq m c t k) (v_eq m c t k) hS r e

theorem St_eq (t : Fin cfg0.N) (S0 : Vec Ideal S256x512 .f32)
    (hS : ∀ x e, S0 (ix2 x e) = sts (args m c) (dd t) (bb t) (hh t) (t.val % 8 * 8) x e) :
    ∀ n, n ≤ k0_t1_loop.trips → ∀ x e, St (grid0.coords t) (iblk m c 4 t) (iblk m c 5 t) (iblk m c 0 t) (iblk m c 2 t) (iblk m c 3 t) S0 n (ix2 x e)
      = sts (args m c) (dd t) (bb t) (hh t) (t.val % 8 * 8 + n) x e
  | 0, _ => hS
  | n + 1, hn => fun x e =>
    (congrFun (St_succ (grid0.coords t) (iblk m c 4 t) (iblk m c 5 t) (iblk m c 0 t) (iblk m c 2 t) (iblk m c 3 t) S0 ⟨n, hn⟩) (ix2 x e)).trans
      (tripS_eq m c hR t ⟨n, hn⟩ _ (St_eq t S0 hS n (Nat.le_of_lt hn)) x e)

theorem stAt_spec : ∀ (n : ℕ) (h : n < cfg0.N) (x : Fin 256) (e : Fin 512),
    stAt m c n h (ix2 x e) = sts (args m c) (dd ⟨n, h⟩) (bb ⟨n, h⟩) (hh ⟨n, h⟩) (n % 8 * 8 + 8) x e
      ∧ stIn m c ⟨n, h⟩ (ix2 x e) = sts (args m c) (dd ⟨n, h⟩) (bb ⟨n, h⟩) (hh ⟨n, h⟩) (n % 8 * 8) x e := by
  intro n
  induction n with
  | zero =>
    intro h
    have hin : ∀ x e, stIn m c ⟨0, h⟩ (ix2 x e) = sts (args m c) (dd ⟨0, h⟩) (bb ⟨0, h⟩) (hh ⟨0, h⟩) (0 % 8 * 8) x e := fun x e => by
      unfold stIn
      rw [if_pos (Nat.zero_mod 8)]
      exact (raw1 _ x e).trans (blk6 m c _ x e)
    refine fun x e => ⟨?_, hin x e⟩
    refine (congrFun (stAt_eq m c ⟨0, h⟩) (ix2 x e)).trans ?_
    have := St_eq m c hR ⟨0, h⟩ _ hin k0_t1_loop.trips le_rfl x e
    rw [show (⟨0, h⟩ : Fin cfg0.N).val % 8 * 8 + k0_t1_loop.trips = 0 % 8 * 8 + 8 by rw [trips8]] at this
    exact this
  | succ n ih =>
    intro h
    have hin : ∀ x e, stIn m c ⟨n + 1, h⟩ (ix2 x e) = sts (args m c) (dd ⟨n + 1, h⟩) (bb ⟨n + 1, h⟩) (hh ⟨n + 1, h⟩) ((n + 1) % 8 * 8) x e := fun x e => by
      unfold stIn
      by_cases h8 : (n + 1) % 8 = 0
      · rw [if_pos h8, h8]
        exact (raw1 _ x e).trans (blk6 m c _ x e)
      · rw [if_neg h8]
        refine ((ih (Nat.lt_of_succ_lt h) x e).1).trans ?_
        have ed : dd ⟨n, Nat.lt_of_succ_lt h⟩ = dd ⟨n + 1, h⟩ := Fin.ext (by show n / 128 = (n + 1) / 128; omega)
        have eb : bb ⟨n, Nat.lt_of_succ_lt h⟩ = bb ⟨n + 1, h⟩ := Fin.ext (by show n / 32 % 4 = (n + 1) / 32 % 4; omega)
        have eh : hh ⟨n, Nat.lt_of_succ_lt h⟩ = hh ⟨n + 1, h⟩ := Fin.ext (by show n / 8 % 4 = (n + 1) / 8 % 4; omega)
        rw [ed, eb, eh, show n % 8 * 8 + 8 = (n + 1) % 8 * 8 by omega]
    refine fun x e => ⟨?_, hin x e⟩
    refine (congrFun (stAt_eq m c ⟨n + 1, h⟩) (ix2 x e)).trans ?_
    have := St_eq m c hR ⟨n + 1, h⟩ _ hin k0_t1_loop.trips le_rfl x e
    rw [show (⟨n + 1, h⟩ : Fin cfg0.N).val % 8 * 8 + k0_t1_loop.trips = (n + 1) % 8 * 8 + 8 by rw [trips8]] at this
    exact this

/-! ## The call's result -/

omit hR in
/-- The result array. -/
abbrev G7 : Buf (Elt Ideal) ((c : Thread nD τ).loc main_v15_0) := fun i => result (args m c) (i 0) (i 1) (i 2) (i 3)

omit hR in
/-- The array of last states. -/
abbrev G8 : Buf (Elt Ideal) ((c : Thread nD τ).loc main_v15_1) := fun i => sts (args m c) (i 0) (i 1) (i 2) 64 (i 3) (i 4)

omit hR in
theorem rd7 (t : Fin cfg0.N) (f : S2x4x4096x2048.Idx → EReal) (R : Fin 512) (e : Fin 512) :
    ((cfg0.win 7).blk t).view.read (Elt Ideal) f (ix4 0 0 R e) = f (ix4 (dd t) (bb t) (tk t R) (⟨(hh t).val * 512 + e.val, by omega⟩ : Fin 2048)) := by
  have h := idx7 t
  rw [View.read_apply]
  refine congrArg f (funext fun a => Fin.ext ?_)
  match a with
  | ⟨0, _⟩ => show win0_7.index t 0 * 1 + 1 * 0 = t.val / 128; rw [h.1]; omega
  | ⟨1, _⟩ => show win0_7.index t 1 * 1 + 1 * 0 = t.val / 32 % 4; rw [h.2.1]; omega
  | ⟨2, _⟩ => show win0_7.index t 2 * 512 + 1 * R.val = pos t * 512 + R.val; rw [h.2.2.1]; omega
  | ⟨3, _⟩ => show win0_7.index t 3 * 512 + 1 * e.val = t.val / 8 % 4 * 512 + e.val; rw [h.2.2.2]; omega

omit hR in
/-- The row of the scan that a row of a grid point's block is. -/
theorem row_of (t : Fin cfg0.N) (R : Fin 512) :
    ((tok (dd t) (tk t R)).val / 64 = ch t (tripAt ((grid0.coords t) 0).val R))
      ∧ rho (dd t) ⟨(tok (dd t) (tk t R)).val % 64, Nat.mod_lt _ (by decide)⟩ = ⟨R.val % 64, Nat.mod_lt _ (by decide)⟩ := by
  have hN := N256 t
  have hRl := R.isLt
  rw [coord0]
  constructor
  · show (if t.val / 128 = 0 then pos t * 512 + R.val else 4095 - (pos t * 512 + R.val)) / 64 = t.val % 8 * 8 + (if t.val / 128 = 0 then R.val / 64 else 7 - R.val / 64)
    unfold pos
    split <;> omega
  · apply Fin.ext
    rw [rho_val]
    show (if t.val / 128 = 0 then (if t.val / 128 = 0 then pos t * 512 + R.val else 4095 - (pos t * 512 + R.val)) % 64
      else 63 - (if t.val / 128 = 0 then pos t * 512 + R.val else 4095 - (pos t * 512 + R.val)) % 64) = R.val % 64
    unfold pos
    split <;> omega

theorem flushed7 (t : Fin cfg0.N) :
    (dats m 0 c).flushed 7 t = ((cfg0.win 7).blk t).view.read (Elt Ideal) (G7 m c) := by
  show (cfg0.win 7).cut (grid0.coords t) ((dats m 0 c).after 7 t) = _
  rw [after0_7]
  show oAt m c t = _
  unfold oAt
  refine funext fun (i : S1x1x512x512.Idx) => ?_
  obtain ⟨R, e, rfl⟩ : ∃ (R : Fin 512) (e : Fin 512), i = ix4 (0 : Fin 1) (0 : Fin 1) R e :=
    ⟨i 2, i 3, (eq_ix4 i).trans (congrArg₂ (fun z w => ix4 z w (i 2) (i 3)) (Fin.ext (by have : (i 0).val < 1 := (i 0).isLt; show (i 0).val = 0; omega)) (Fin.ext (by have : (i 1).val < 1 := (i 1).isLt; show (i 1).val = 0; omega)))⟩
  refine Eq.trans ?_ (rd7 t _ R e).symm
  have hin : ∀ x e, stIn m c t (ix2 x e) = sts (args m c) (dd t) (bb t) (hh t) (t.val % 8 * 8) x e := fun x e => (stAt_spec m c hR t.val t.isLt x e).2
  obtain ⟨r1, r2⟩ := row_of t R
  have ho := tripO_eq m c hR t (tripAt ((grid0.coords t) 0).val R) _
    (St_eq m c hR t (stIn m c t) hin (tripAt ((grid0.coords t) 0).val R).val (Nat.le_of_lt (tripAt ((grid0.coords t) 0).val R).isLt))
    ⟨(tok (dd t) (tk t R)).val % 64, Nat.mod_lt _ (by decide)⟩ e
  rw [r2] at ho
  refine Eq.trans ho ?_
  show outs _ _ _ _ _ _ _ = outs (args m c) (dd t) (bb t) ⟨(t.val / 8 % 4 * 512 + e.val) / 512, _⟩ ((tok (dd t) (tk t R)).val / 64)
    ⟨(tok (dd t) (tk t R)).val % 64, _⟩ ⟨(t.val / 8 % 4 * 512 + e.val) % 512, _⟩
  have e1 : (⟨(t.val / 8 % 4 * 512 + e.val) / 512, by omega⟩ : Fin 4) = hh t := Fin.ext (by show (t.val / 8 % 4 * 512 + e.val) / 512 = t.val / 8 % 4; omega)
  have e2 : (⟨(t.val / 8 % 4 * 512 + e.val) % 512, by omega⟩ : Fin 512) = e := Fin.ext (by show (t.val / 8 % 4 * 512 + e.val) % 512 = e.val; omega)
  rw [e1, e2, r1]

omit hR in
theorem mem7 (t : Fin cfg0.N) (i : S2x4x4096x2048.Idx) (h0 : (i 0 : Nat) = t.val / 128) (h1 : (i 1 : Nat) = t.val / 32 % 4)
    (h2 : (i 2 : Nat) / 512 = pos t) (h3 : (i 3 : Nat) / 512 = t.val / 8 % 4) : i ∈ ((cfg0.win 7).blk t).view.set := by
  show i ∈ ((View.whole main_v15_0).slice (win0_7.rect t)).set
  rw [View.set_slice_whole, Rect.mem_set_unit]
  have h := idx7 t
  intro a
  match a with
  | ⟨0, _⟩ => show win0_7.index t 0 * 1 ≤ (i 0 : Nat) ∧ (i 0 : Nat) < win0_7.index t 0 * 1 + 1
              rw [h.1]; omega
  | ⟨1, _⟩ => show win0_7.index t 1 * 1 ≤ (i 1 : Nat) ∧ (i 1 : Nat) < win0_7.index t 1 * 1 + 1
              rw [h.2.1]; omega
  | ⟨2, _⟩ => show win0_7.index t 2 * 512 ≤ (i 2 : Nat) ∧ (i 2 : Nat) < win0_7.index t 2 * 512 + 512
              rw [h.2.2.1]; omega
  | ⟨3, _⟩ => show win0_7.index t 3 * 512 ≤ (i 3 : Nat) ∧ (i 3 : Nat) < win0_7.index t 3 * 512 + 512
              rw [h.2.2.2]; omega

theorem final7 : (dats m 0 c).arrAt 7 cfg0.N = G7 m c :=
  (dats m 0 c).arrAt_eq_of_cover 7 (G7 m c) (fun t _ => flushed7 m c hR t) fun (i : S2x4x4096x2048.Idx) => by
    have hN : cfg0.N = 256 := N_0
    have h0 : (i 0 : Nat) < 2 := (i 0).isLt
    have h1 : (i 1 : Nat) < 4 := (i 1).isLt
    have h2 : (i 2 : Nat) < 4096 := (i 2).isLt
    have h3 : (i 3 : Nat) < 2048 := (i 3).isLt
    refine ⟨⟨(i 0 : Nat) * 128 + (i 1 : Nat) * 32 + (i 3 : Nat) / 512 * 8 + (if (i 0 : Nat) = 0 then (i 2 : Nat) / 512 else 7 - (i 2 : Nat) / 512), by split <;> omega⟩, flush0_7 _, mem7 _ i ?_ ?_ ?_ ?_⟩
    all_goals (try unfold pos); dsimp only; (repeat' split) <;> omega

/-! ## The last states -/

omit hR in
theorem rd8 (t : Fin cfg0.N) (f : S2x4x4x256x512.Idx → EReal) (x : Fin 256) (e : Fin 512) :
    ((cfg0.win 8).blk t).view.read (Elt Ideal) f (ix5 0 0 0 x e) = f (ix5 (dd t) (bb t) (hh t) x e) := by
  have h := idx8 t
  rw [View.read_apply]
  refine congrArg f (funext fun a => Fin.ext ?_)
  match a with
  | ⟨0, _⟩ => show win0_8.index t 0 * 1 + 1 * 0 = t.val / 128; rw [h.1]; omega
  | ⟨1, _⟩ => show win0_8.index t 1 * 1 + 1 * 0 = t.val / 32 % 4; rw [h.2.1]; omega
  | ⟨2, _⟩ => show win0_8.index t 2 * 1 + 1 * 0 = t.val / 8 % 4; rw [h.2.2.1]; omega
  | ⟨3, _⟩ => show win0_8.index t 3 * 256 + 1 * x.val = x.val; rw [h.2.2.2.1]; omega
  | ⟨4, _⟩ => show win0_8.index t 4 * 512 + 1 * e.val = e.val; rw [h.2.2.2.2]; omega

theorem flushed8 (t : Fin cfg0.N) (h7 : t.val % 8 = 7) :
    (dats m 0 c).flushed 8 t = ((cfg0.win 8).blk t).view.read (Elt Ideal) (G8 m c) := by
  show (cfg0.win 8).cut (grid0.coords t) ((dats m 0 c).after 8 t) = _
  rw [after0_8]
  show k0_pay9 (stAt m c t.val t.isLt) = _
  refine funext fun (i : S1x1x1x256x512.Idx) => ?_
  obtain ⟨x, e, rfl⟩ : ∃ (x : Fin 256) (e : Fin 512), i = ix5 (0 : Fin 1) (0 : Fin 1) (0 : Fin 1) x e :=
    ⟨i 3, i 4, funext fun a => by
      match a with
      | ⟨0, _⟩ => exact Fin.ext (by have : (i 0).val < 1 := (i 0).isLt; show (i 0).val = 0; omega)
      | ⟨1, _⟩ => exact Fin.ext (by have : (i 1).val < 1 := (i 1).isLt; show (i 1).val = 0; omega)
      | ⟨2, _⟩ => exact Fin.ext (by have : (i 2).val < 1 := (i 2).isLt; show (i 2).val = 0; omega)
      | ⟨3, _⟩ => rfl
      | ⟨4, _⟩ => rfl⟩
  refine ((raw9 _ x e).trans (stAt_spec m c hR t.val t.isLt x e).1).trans (Eq.trans ?_ (rd8 t _ x e).symm)
  rw [h7]; rfl

omit hR in
theorem mem8 (t : Fin cfg0.N) (i : S2x4x4x256x512.Idx) (h0 : (i 0 : Nat) = t.val / 128) (h1 : (i 1 : Nat) = t.val / 32 % 4)
    (h2 : (i 2 : Nat) = t.val / 8 % 4) : i ∈ ((cfg0.win 8).blk t).view.set := by
  show i ∈ ((View.whole main_v15_1).slice (win0_8.rect t)).set
  rw [View.set_slice_whole, Rect.mem_set_unit]
  have h := idx8 t
  have h3 : (i 3 : Nat) < 256 := (i 3).isLt
  have h4 : (i 4 : Nat) < 512 := (i 4).isLt
  intro a
  match a with
  | ⟨0, _⟩ => show win0_8.index t 0 * 1 ≤ (i 0 : Nat) ∧ (i 0 : Nat) < win0_8.index t 0 * 1 + 1
              rw [h.1]; omega
  | ⟨1, _⟩ => show win0_8.index t 1 * 1 ≤ (i 1 : Nat) ∧ (i 1 : Nat) < win0_8.index t 1 * 1 + 1
              rw [h.2.1]; omega
  | ⟨2, _⟩ => show win0_8.index t 2 * 1 ≤ (i 2 : Nat) ∧ (i 2 : Nat) < win0_8.index t 2 * 1 + 1
              rw [h.2.2.1]; omega
  | ⟨3, _⟩ => show win0_8.index t 3 * 256 ≤ (i 3 : Nat) ∧ (i 3 : Nat) < win0_8.index t 3 * 256 + 256
              rw [h.2.2.2.1]; omega
  | ⟨4, _⟩ => show win0_8.index t 4 * 512 ≤ (i 4 : Nat) ∧ (i 4 : Nat) < win0_8.index t 4 * 512 + 512
              rw [h.2.2.2.2]; omega

theorem final8 : (dats m 0 c).arrAt 8 cfg0.N = G8 m c :=
  (dats m 0 c).arrAt_eq_of_cover 8 (G8 m c) (fun t ht => flushed8 m c hR t ((flush0_8 t).mp ht)) fun (i : S2x4x4x256x512.Idx) => by
    have hN : cfg0.N = 256 := N_0
    have h0 : (i 0 : Nat) < 2 := (i 0).isLt
    have h1 : (i 1 : Nat) < 4 := (i 1).isLt
    have h2 : (i 2 : Nat) < 4 := (i 2).isLt
    refine ⟨⟨(i 0 : Nat) * 128 + (i 1 : Nat) * 32 + (i 2 : Nat) * 8 + 7, by omega⟩, (flush0_8 _).mpr ?_, mem8 _ i ?_ ?_ ?_⟩ <;> dsimp only <;> omega

end Cert.KernelIdeal.GK

end
-- ==== Proof.GlaRefA.lean ====
/-
  The recurrence's reference, from its arguments to the chunked queries, keys, values and log-decays.
-/
module

public import proofs.«01_k».proof.Proof.GlaRefFrame
public import proofs.«01_k».proof.Proof.GlaSpec
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.StableHlo

namespace Cert.ReferenceIdeal.GA

open Cert.ReferenceIdeal Cert.ReferenceIdeal.Gen Cert.ReferenceIdeal.Value Cert.GlaSpec Cert.FiniteReals

/-- The contents of the reference's buffers. -/
abbrev Vl := Valuation τ sig (Elt Ideal)

/-- An array of numbers as a function of its index. -/
abbrev fv {s : Shape} {φ : FTy} (x : FVec Ideal s φ) : s.Idx → EReal := x

/-! ## The vector terms, read at an index -/

theorem q_at (x : FVec Ideal S4x4096x14336 .bf16) (b h : Fin 4) (t : Fin 4096) (e : Fin 256) :
    (transpose S4x4x4096x256 [0, 2, 1, 3] (shapeCast S4x4096x4x256 (extractStridedSlice S4x4096x1024 ![0, 0, 0] (extf (F := Ideal) .f32 x bitsLt_bf16_f32)
      slices_S4x4096x14336_S4x4096x1024_0_0_0) shapeCasts_S4x4096x1024_S4x4096x4x256) transposes_S4x4096x4x256_S4x4x4096x256_0_2_1_3 : Vec Ideal S4x4x4096x256 .f32)
      (ix4 b h t e) = x (ix3 b t ⟨h.val * 256 + e.val, by omega⟩) := by pointwise []

theorem k_at (x : FVec Ideal S4x4096x14336 .bf16) (b h : Fin 4) (t : Fin 4096) (e : Fin 256) :
    (mulf (transpose S4x4x4096x256 [0, 2, 1, 3] (shapeCast S4x4096x4x256 (extractStridedSlice S4x4096x1024 ![0, 0, 1024] (extf (F := Ideal) .f32 x bitsLt_bf16_f32)
      slices_S4x4096x14336_S4x4096x1024_0_0_1024) shapeCasts_S4x4096x1024_S4x4096x4x256) transposes_S4x4096x4x256_S4x4x4096x256_0_2_1_3)
      (broadcastInDim S4x4x4096x256 ![] bcast_S_S4x4x4096x256 (constant (F := Ideal) S_ .f32 0x3D800000#32)) : Vec Ideal S4x4x4096x256 .f32)
      (ix4 b h t e) = x (ix3 b t ⟨1024 + (h.val * 256 + e.val), by omega⟩) * c16 := by pointwise []

theorem v_at (x : FVec Ideal S4x4096x14336 .bf16) (b h : Fin 4) (t : Fin 4096) (e : Fin 512) :
    (transpose S4x4x4096x512 [0, 2, 1, 3] (shapeCast S4x4096x4x512 (extractStridedSlice S4x4096x2048 ![0, 0, 2048] (extf (F := Ideal) .f32 x bitsLt_bf16_f32)
      slices_S4x4096x14336_S4x4096x2048_0_0_2048) shapeCasts_S4x4096x2048_S4x4096x4x512) transposes_S4x4096x4x512_S4x4x4096x512_0_2_1_3 : Vec Ideal S4x4x4096x512 .f32)
      (ix4 b h t e) = x (ix3 b t ⟨2048 + (h.val * 512 + e.val), by omega⟩) := by pointwise []

theorem bias_at (a3 : Vec Ideal S1x2x1024 .f32) (b : Fin 4) (t : Fin 4096) (l : Fin 1024) :
    (broadcastInDim S4x4096x1024 ![0, 1, 2] bcast_S1x1x1024_S4x4096x1024_0_1_2 (broadcastInDim S1x1x1024 ![2] bcast_S1024_S1x1x1024_2 (shapeCast S1024
          (extractStridedSlice S1x1024 ![0, 0] (shapeCast S2x1024 a3 shapeCasts_S1x2x1024_S2x1024) slices_S2x1024_S1x1024_0_0) shapeCasts_S1x1024_S1024)) : Vec Ideal S4x4096x1024 .f32)
      (ix3 b t l) = a3 (ix3 0 0 l) := by pointwise []

theorem pre0_at (a1 : FVec Ideal S4x4096x128 .f32) (a2 : FVec Ideal S1x2x16x1024 .f32) (a3 : FVec Ideal S1x2x1024 .f32) (b : Fin 4) (t : Fin 4096) (l : Fin 1024) :
    (addf (F := Ideal) (Host.dotGeneral (F := Ideal) dot_S4x4096x16_S16x1024_S4x4096x1024_2_0_01_1_n_n none (extractStridedSlice S4x4096x16 ![0, 0, 0] a1 slices_S4x4096x128_S4x4096x16_0_0_0)
        (shapeCast S16x1024 (extractStridedSlice S1x16x1024 ![0, 0, 0] (shapeCast S2x16x1024 a2 shapeCasts_S1x2x16x1024_S2x16x1024) slices_S2x16x1024_S1x16x1024_0_0_0) shapeCasts_S1x16x1024_S16x1024))
        (broadcastInDim S4x4096x1024 ![0, 1, 2] bcast_S1x1x1024_S4x4096x1024_0_1_2 (broadcastInDim S1x1x1024 ![2] bcast_S1024_S1x1x1024_2 (shapeCast S1024
          (extractStridedSlice S1x1024 ![0, 0] (shapeCast S2x1024 a3 shapeCasts_S1x2x1024_S2x1024) slices_S2x1024_S1x1024_0_0) shapeCasts_S1x1024_S1024))) : Vec Ideal S4x4096x1024 .f32)
      (ix3 b t l) = ∑ j : Fin 16, a1 (ix3 b t ⟨16 * (0 : Fin 2).val + j.val, by omega⟩) * a2 (ix4 0 0 j l) + a3 (ix3 0 0 l) := by pointwise []

theorem pre1_at (a1 : FVec Ideal S4x4096x128 .f32) (a2 : FVec Ideal S1x2x16x1024 .f32) (a3 : FVec Ideal S1x2x1024 .f32) (b : Fin 4) (t : Fin 4096) (l : Fin 1024) :
    (addf (F := Ideal) (Host.dotGeneral (F := Ideal) dot_S4x4096x16_S16x1024_S4x4096x1024_2_0_01_1_n_n none (extractStridedSlice S4x4096x16 ![0, 0, 16] a1 slices_S4x4096x128_S4x4096x16_0_0_16)
        (shapeCast S16x1024 (extractStridedSlice S1x16x1024 ![1, 0, 0] (shapeCast S2x16x1024 a2 shapeCasts_S1x2x16x1024_S2x16x1024) slices_S2x16x1024_S1x16x1024_1_0_0) shapeCasts_S1x16x1024_S16x1024))
        (broadcastInDim S4x4096x1024 ![0, 1, 2] bcast_S1x1x1024_S4x4096x1024_0_1_2 (broadcastInDim S1x1x1024 ![2] bcast_S1024_S1x1x1024_2 (shapeCast S1024
          (extractStridedSlice S1x1024 ![1, 0] (shapeCast S2x1024 a3 shapeCasts_S1x2x1024_S2x1024) slices_S2x1024_S1x1024_1_0) shapeCasts_S1x1024_S1024))) : Vec Ideal S4x4096x1024 .f32)
      (ix3 b t l) = ∑ j : Fin 16, a1 (ix3 b t ⟨16 * (1 : Fin 2).val + j.val, by omega⟩) * a2 (ix4 0 1 j l) + a3 (ix3 0 1 l) := by pointwise []

theorem rev256_at (y : Vec Ideal S4x4x4096x256 .f32) (b h : Fin 4) (s : Fin 4096) (e : Fin 256) :
    (Host.reverse [2] y : Vec Ideal S4x4x4096x256 .f32) (ix4 b h s e) = y (ix4 b h ⟨4095 - s.val, by omega⟩ e) := by
  unfold Host.reverse
  refine congrArg y (funext fun a => Fin.ext ?_)
  match a with
  | ⟨0, _⟩ => rfl
  | ⟨1, _⟩ => rfl
  | ⟨2, _⟩ => show 4096 - (s.val + 1) = 4095 - s.val; omega
  | ⟨3, _⟩ => rfl

theorem cat256_pos (x y : Vec Ideal S4x4x4096x256 .f32) (B : Fin 8) (hB : B.val < 4) (h : Fin 4) (s : Fin 4096) (e : Fin 256) :
    (concatenate S8x4x4096x256 0 [⟨S4x4x4096x256, x⟩, ⟨S4x4x4096x256, y⟩] concatenates_S4x4x4096x256_S4x4x4096x256_S8x4x4096x256_d0 : Vec Ideal S8x4x4096x256 .f32)
      (ix4 B h s e) = x (ix4 ⟨B.val, hB⟩ h s e) := by
  pointwise []
  rw [dif_pos hB]

theorem cat256_neg (x y : Vec Ideal S4x4x4096x256 .f32) (B : Fin 8) (hB : ¬ B.val < 4) (h : Fin 4) (s : Fin 4096) (e : Fin 256) :
    (concatenate S8x4x4096x256 0 [⟨S4x4x4096x256, x⟩, ⟨S4x4x4096x256, y⟩] concatenates_S4x4x4096x256_S4x4x4096x256_S8x4x4096x256_d0 : Vec Ideal S8x4x4096x256 .f32)
      (ix4 B h s e) = y (ix4 ⟨B.val - 4, by omega⟩ h s e) := by
  pointwise []
  rw [dif_neg hB]

theorem cat256_at (x y : Vec Ideal S4x4x4096x256 .f32) (B : Fin 8) (h : Fin 4) (s : Fin 4096) (e : Fin 256) :
    (concatenate S8x4x4096x256 0 [⟨S4x4x4096x256, x⟩, ⟨S4x4x4096x256, Host.reverse [2] y⟩] concatenates_S4x4x4096x256_S4x4x4096x256_S8x4x4096x256_d0 : Vec Ideal S8x4x4096x256 .f32)
      (ix4 B h s e) = if hB : B.val < 4 then x (ix4 ⟨B.val, hB⟩ h s e) else y (ix4 ⟨B.val - 4, by omega⟩ h ⟨4095 - s.val, by omega⟩ e) := by
  by_cases hB : B.val < 4
  · rw [dif_pos hB]; exact cat256_pos x _ B hB h s e
  · rw [dif_neg hB]; exact (cat256_neg x _ B hB h s e).trans (rev256_at y _ h s e)

theorem rev512_at (y : Vec Ideal S4x4x4096x512 .f32) (b h : Fin 4) (s : Fin 4096) (e : Fin 512) :
    (Host.reverse [2] y : Vec Ideal S4x4x4096x512 .f32) (ix4 b h s e) = y (ix4 b h ⟨4095 - s.val, by omega⟩ e) := by
  unfold Host.reverse
  refine congrArg y (funext fun a => Fin.ext ?_)
  match a with
  | ⟨0, _⟩ => rfl
  | ⟨1, _⟩ => rfl
  | ⟨2, _⟩ => show 4096 - (s.val + 1) = 4095 - s.val; omega
  | ⟨3, _⟩ => rfl

theorem cat512_pos (x y : Vec Ideal S4x4x4096x512 .f32) (B : Fin 8) (hB : B.val < 4) (h : Fin 4) (s : Fin 4096) (e : Fin 512) :
    (concatenate S8x4x4096x512 0 [⟨S4x4x4096x512, x⟩, ⟨S4x4x4096x512, y⟩] concatenates_S4x4x4096x512_S4x4x4096x512_S8x4x4096x512_d0 : Vec Ideal S8x4x4096x512 .f32)
      (ix4 B h s e) = x (ix4 ⟨B.val, hB⟩ h s e) := by
  pointwise []
  rw [dif_pos hB]

theorem cat512_neg (x y : Vec Ideal S4x4x4096x512 .f32) (B : Fin 8) (hB : ¬ B.val < 4) (h : Fin 4) (s : Fin 4096) (e : Fin 512) :
    (concatenate S8x4x4096x512 0 [⟨S4x4x4096x512, x⟩, ⟨S4x4x4096x512, y⟩] concatenates_S4x4x4096x512_S4x4x4096x512_S8x4x4096x512_d0 : Vec Ideal S8x4x4096x512 .f32)
      (ix4 B h s e) = y (ix4 ⟨B.val - 4, by omega⟩ h s e) := by
  pointwise []
  rw [dif_neg hB]

theorem cat512_at (x y : Vec Ideal S4x4x4096x512 .f32) (B : Fin 8) (h : Fin 4) (s : Fin 4096) (e : Fin 512) :
    (concatenate S8x4x4096x512 0 [⟨S4x4x4096x512, x⟩, ⟨S4x4x4096x512, Host.reverse [2] y⟩] concatenates_S4x4x4096x512_S4x4x4096x512_S8x4x4096x512_d0 : Vec Ideal S8x4x4096x512 .f32)
      (ix4 B h s e) = if hB : B.val < 4 then x (ix4 ⟨B.val, hB⟩ h s e) else y (ix4 ⟨B.val - 4, by omega⟩ h ⟨4095 - s.val, by omega⟩ e) := by
  by_cases hB : B.val < 4
  · rw [dif_pos hB]; exact cat512_pos x _ B hB h s e
  · rw [dif_neg hB]; exact (cat512_neg x _ B hB h s e).trans (rev512_at y _ h s e)

theorem chunk256_at (x : Vec Ideal S8x4x4096x256 .f32) (B : Fin 8) (h : Fin 4) (n i : Fin 64) (e : Fin 256) :
    (shapeCast S8x4x64x64x256 x shapeCasts_S8x4x4096x256_S8x4x64x64x256 : Vec Ideal S8x4x64x64x256 .f32) (ix5 B h n i e)
      = x (ix4 B h ⟨n.val * 64 + i.val, by omega⟩ e) := by pointwise []

theorem chunk512_at (x : Vec Ideal S8x4x4096x512 .f32) (B : Fin 8) (h : Fin 4) (n i : Fin 64) (e : Fin 512) :
    (shapeCast S8x4x64x64x512 x shapeCasts_S8x4x4096x512_S8x4x64x64x512 : Vec Ideal S8x4x64x64x512 .f32) (ix5 B h n i e)
      = x (ix4 B h ⟨n.val * 64 + i.val, by omega⟩ e) := by pointwise []

theorem init_at (x : Vec Ideal S2x4x4x256x512 .f32) (B : Fin 8) (h : Fin 4) (a : Fin 256) (e : Fin 512) :
    (shapeCast S8x4x256x512 x shapeCasts_S2x4x4x256x512_S8x4x256x512 : Vec Ideal S8x4x256x512 .f32) (ix4 B h a e)
      = x (ix5 ⟨B.val / 4, by omega⟩ ⟨B.val % 4, by omega⟩ h a e) := by pointwise []

theorem heads_at (x : Vec Ideal S4x4096x1024 .f32) (b h : Fin 4) (t : Fin 4096) (e : Fin 256) :
    (transpose S4x4x4096x256 [0, 2, 1, 3] (shapeCast S4x4096x4x256 (Host.divf x (broadcastInDim S4x4096x1024 ![] bcast_S_S4x4096x1024 (constant (F := Ideal) S_ .f32 0x41800000#32)))
      shapeCasts_S4x4096x1024_S4x4096x4x256) transposes_S4x4096x4x256_S4x4x4096x256_0_2_1_3 : Vec Ideal S4x4x4096x256 .f32)
      (ix4 b h t e) = Ideal.div (x (ix3 b t ⟨h.val * 256 + e.val, by omega⟩)) (Ideal.ofBits FTy.f32 0x41800000#32) := by pointwise []

/-- The reference's logarithm of the logistic function, at real numbers. -/
theorem lsig_at (x : Vec Ideal S4x4096x1024 .f32) (j : S4x4096x1024.Idx) (hx : IsR (x j)) :
    (Host.negf (select (cmpf .une (subf (Host.negf x) (broadcastInDim S4x4096x1024 ![] bcast_S_S4x4096x1024 (constant (F := Ideal) S_ .f32 0x00000000#32)))
        (subf (Host.negf x) (broadcastInDim S4x4096x1024 ![] bcast_S_S4x4096x1024 (constant (F := Ideal) S_ .f32 0x00000000#32))))
      (addf (Host.negf x) (broadcastInDim S4x4096x1024 ![] bcast_S_S4x4096x1024 (constant (F := Ideal) S_ .f32 0x00000000#32)))
      (addf (maximumf (Host.negf x) (broadcastInDim S4x4096x1024 ![] bcast_S_S4x4096x1024 (constant (F := Ideal) S_ .f32 0x00000000#32)))
        (Host.log1p (Host.exp (Host.negf (Host.absf (subf (Host.negf x) (broadcastInDim S4x4096x1024 ![] bcast_S_S4x4096x1024 (constant (F := Ideal) S_ .f32 0x00000000#32))))))))) : Vec Ideal S4x4096x1024 .f32) j
      = -(max (-(x j)) 0 + Ideal.log1p (Ideal.exp (-(FloatOps.absf (F := Ideal) (φ := .f32) (-(x j) - 0))))) := by
  obtain ⟨r, hr⟩ := hx
  show -(Scalar.select (FloatOps.cmpf (F := Ideal) (φ := .f32) .une (-(x j) - Ideal.ofBits .f32 0x00000000#32) (-(x j) - Ideal.ofBits .f32 0x00000000#32)) _ _) = _
  have hz : Ideal.ofBits .f32 0x00000000#32 = 0 := by simp [Ideal.ofBits, Ideal.ieee]
  have hc : ∀ z : EReal, FloatOps.cmpf (F := Ideal) (φ := .f32) .une z z = 0#1 := fun z => by
    simp [FloatOps.cmpf, Ideal.cmp]
  rw [hc]
  show -(max (-(x j)) (Ideal.ofBits .f32 0x00000000#32) + Ideal.log1p (Ideal.exp (-(FloatOps.absf (F := Ideal) (φ := .f32) (-(x j) - Ideal.ofBits .f32 0x00000000#32))))) = _
  rw [hz]

/-! ## The contents after each stretch before the loop -/

/-- The contents after the first stretch. -/
def P0 (V : Vl) : Vl := after hostOps0 V
/-- The contents after the next stretch. -/
def P1 (V : Vl) : Vl := after hostOps0_1 (P0 V)
theorem k1 (V : Vl) (r : Ref sig .tc) (h : r ∉ hostOps0_1_W) : P1 V (Proc.devRef .tc r) = P0 V (Proc.devRef .tc r) :=
  after_of_writes_sub hostOps0_1 _ hostOps0_1_writes h
/-- The contents after the next stretch. -/
def P2 (V : Vl) : Vl := after hostOps0_2 (P1 V)
theorem k2 (V : Vl) (r : Ref sig .tc) (h : r ∉ hostOps0_2_W) : P2 V (Proc.devRef .tc r) = P1 V (Proc.devRef .tc r) :=
  after_of_writes_sub hostOps0_2 _ hostOps0_2_writes h
/-- The contents after the next stretch. -/
def P3 (V : Vl) : Vl := after hostOps0_3 (P2 V)
theorem k3 (V : Vl) (r : Ref sig .tc) (h : r ∉ hostOps0_3_W) : P3 V (Proc.devRef .tc r) = P2 V (Proc.devRef .tc r) :=
  after_of_writes_sub hostOps0_3 _ hostOps0_3_writes h
/-- The contents after the next stretch. -/
def P4 (V : Vl) : Vl := after hostOps0_4 (P3 V)
theorem k4 (V : Vl) (r : Ref sig .tc) (h : r ∉ hostOps0_4_W) : P4 V (Proc.devRef .tc r) = P3 V (Proc.devRef .tc r) :=
  after_of_writes_sub hostOps0_4 _ hostOps0_4_writes h
/-- The contents after the next stretch. -/
def P5 (V : Vl) : Vl := after hostOps0_5 (P4 V)
theorem k5 (V : Vl) (r : Ref sig .tc) (h : r ∉ hostOps0_5_W) : P5 V (Proc.devRef .tc r) = P4 V (Proc.devRef .tc r) :=
  after_of_writes_sub hostOps0_5 _ hostOps0_5_writes h
/-- The contents after the next stretch. -/
def P6 (V : Vl) : Vl := after hostOps0_6 (P5 V)
theorem k6 (V : Vl) (r : Ref sig .tc) (h : r ∉ hostOps0_6_W) : P6 V (Proc.devRef .tc r) = P5 V (Proc.devRef .tc r) :=
  after_of_writes_sub hostOps0_6 _ hostOps0_6_writes h
/-- The contents after the next stretch. -/
def P7 (V : Vl) : Vl := after hostOps0_7 (P6 V)
theorem k7 (V : Vl) (r : Ref sig .tc) (h : r ∉ hostOps0_7_W) : P7 V (Proc.devRef .tc r) = P6 V (Proc.devRef .tc r) :=
  after_of_writes_sub hostOps0_7 _ hostOps0_7_writes h
/-- The contents after the next stretch. -/
def P8 (V : Vl) : Vl := after hostOps0_8 (P7 V)
theorem k8 (V : Vl) (r : Ref sig .tc) (h : r ∉ hostOps0_8_W) : P8 V (Proc.devRef .tc r) = P7 V (Proc.devRef .tc r) :=
  after_of_writes_sub hostOps0_8 _ hostOps0_8_writes h
/-- The contents after the next stretch. -/
def P9 (V : Vl) : Vl := after hostOps0_9 (P8 V)
theorem k9 (V : Vl) (r : Ref sig .tc) (h : r ∉ hostOps0_9_W) : P9 V (Proc.devRef .tc r) = P8 V (Proc.devRef .tc r) :=
  after_of_writes_sub hostOps0_9 _ hostOps0_9_writes h
/-- The contents after the next stretch. -/
def P10 (V : Vl) : Vl := after hostOps0_10 (P9 V)
theorem k10 (V : Vl) (r : Ref sig .tc) (h : r ∉ hostOps0_10_W) : P10 V (Proc.devRef .tc r) = P9 V (Proc.devRef .tc r) :=
  after_of_writes_sub hostOps0_10 _ hostOps0_10_writes h
/-- The contents after the next stretch. -/
def P11 (V : Vl) : Vl := after hostOps0_11 (P10 V)
theorem k11 (V : Vl) (r : Ref sig .tc) (h : r ∉ hostOps0_11_W) : P11 V (Proc.devRef .tc r) = P10 V (Proc.devRef .tc r) :=
  after_of_writes_sub hostOps0_11 _ hostOps0_11_writes h
/-- The contents after the next stretch. -/
def P12 (V : Vl) : Vl := after hostOps0_12 (P11 V)
theorem k12 (V : Vl) (r : Ref sig .tc) (h : r ∉ hostOps0_12_W) : P12 V (Proc.devRef .tc r) = P11 V (Proc.devRef .tc r) :=
  after_of_writes_sub hostOps0_12 _ hostOps0_12_writes h
/-- The contents after the next stretch. -/
def P13 (V : Vl) : Vl := after hostOps0_13 (P12 V)
theorem k13 (V : Vl) (r : Ref sig .tc) (h : r ∉ hostOps0_13_W) : P13 V (Proc.devRef .tc r) = P12 V (Proc.devRef .tc r) :=
  after_of_writes_sub hostOps0_13 _ hostOps0_13_writes h
/-- The contents after the next stretch. -/
def P14 (V : Vl) : Vl := after hostOps0_14 (P13 V)
theorem k14 (V : Vl) (r : Ref sig .tc) (h : r ∉ hostOps0_14_W) : P14 V (Proc.devRef .tc r) = P13 V (Proc.devRef .tc r) :=
  after_of_writes_sub hostOps0_14 _ hostOps0_14_writes h
/-- The contents after the next stretch. -/
def P15 (V : Vl) : Vl := after hostOps0_15 (P14 V)
theorem k15 (V : Vl) (r : Ref sig .tc) (h : r ∉ hostOps0_15_W) : P15 V (Proc.devRef .tc r) = P14 V (Proc.devRef .tc r) :=
  after_of_writes_sub hostOps0_15 _ hostOps0_15_writes h
/-- The contents after the next stretch. -/
def P16 (V : Vl) : Vl := after hostOps0_16 (P15 V)
theorem k16 (V : Vl) (r : Ref sig .tc) (h : r ∉ hostOps0_16_W) : P16 V (Proc.devRef .tc r) = P15 V (Proc.devRef .tc r) :=
  after_of_writes_sub hostOps0_16 _ hostOps0_16_writes h
/-- The contents after the next stretch. -/
def P17 (V : Vl) : Vl := after hostOps0_17 (P16 V)
theorem k17 (V : Vl) (r : Ref sig .tc) (h : r ∉ hostOps0_17_W) : P17 V (Proc.devRef .tc r) = P16 V (Proc.devRef .tc r) :=
  after_of_writes_sub hostOps0_17 _ hostOps0_17_writes h
/-- The contents after the next stretch. -/
def P18 (V : Vl) : Vl := after hostOps0_18 (P17 V)
theorem k18 (V : Vl) (r : Ref sig .tc) (h : r ∉ hostOps0_18_W) : P18 V (Proc.devRef .tc r) = P17 V (Proc.devRef .tc r) :=
  after_of_writes_sub hostOps0_18 _ hostOps0_18_writes h
theorem k0 (V : Vl) (r : Ref sig .tc) (h : r ∉ hostOps0_W) : P0 V (Proc.devRef .tc r) = V (Proc.devRef .tc r) :=
  after_of_writes_sub hostOps0 _ hostOps0_writes h

theorem pre_eq (V : Vl) : afterL preI V = P18 V := rfl

section Readings
variable (V : Vl)

theorem r5 (b h : Fin 4) (t : Fin 4096) (e : Fin 256) : fv (s := S4x4x4096x256) (φ := .f32) (P0 V (Proc.devRef .tc main_v5)) (ix4 b h t e)
    = fv (s := S4x4096x14336) (φ := .bf16) (V (Proc.devRef .tc main_arg0)) (ix3 b t ⟨h.val * 256 + e.val, by omega⟩) := by
  refine Eq.trans (congrFun ?_ _) (q_at _ b h t e)
  unfold P0
  after_reads_simp
  rfl
theorem r10 (b h : Fin 4) (t : Fin 4096) (e : Fin 256) : fv (s := S4x4x4096x256) (φ := .f32) (P0 V (Proc.devRef .tc main_v10)) (ix4 b h t e)
    = fv (s := S4x4096x14336) (φ := .bf16) (V (Proc.devRef .tc main_arg0)) (ix3 b t ⟨1024 + (h.val * 256 + e.val), by omega⟩) * c16 := by
  refine Eq.trans (congrFun ?_ _) (k_at _ b h t e)
  unfold P0
  after_reads_simp
  rfl
theorem r13 (b h : Fin 4) (t : Fin 4096) (e : Fin 512) : fv (s := S4x4x4096x512) (φ := .f32) (P0 V (Proc.devRef .tc main_v13)) (ix4 b h t e)
    = fv (s := S4x4096x14336) (φ := .bf16) (V (Proc.devRef .tc main_arg0)) (ix3 b t ⟨2048 + (h.val * 512 + e.val), by omega⟩) := by
  refine Eq.trans (congrFun ?_ _) (v_at _ b h t e)
  unfold P0
  after_reads_simp
  rfl
theorem r23 (b : Fin 4) (t : Fin 4096) (l : Fin 1024) : fv (s := S4x4096x1024) (φ := .f32) (P0 V (Proc.devRef .tc main_v23)) (ix3 b t l)
    = ∑ j : Fin 16, fv (s := S4x4096x128) (φ := .f32) (V (Proc.devRef .tc main_arg1)) (ix3 b t ⟨16 * (0 : Fin 2).val + j.val, by omega⟩)
        * fv (s := S1x2x16x1024) (φ := .f32) (V (Proc.devRef .tc main_arg2)) (ix4 0 0 j l) + fv (s := S1x2x1024) (φ := .f32) (V (Proc.devRef .tc main_arg3)) (ix3 0 0 l) := by
  refine Eq.trans (congrFun ?_ _) (pre0_at _ _ _ b t l)
  unfold P0
  after_reads_simp
  rfl
theorem keep1_v0 : P1 V (Proc.devRef .tc main_v0) = P0 V (Proc.devRef .tc main_v0) :=
  (k1 V main_v0 (by decide))
theorem keep1_v1 : P1 V (Proc.devRef .tc main_v1) = P0 V (Proc.devRef .tc main_v1) :=
  (k1 V main_v1 (by decide))
theorem keep1_v15 : P1 V (Proc.devRef .tc main_v15) = P0 V (Proc.devRef .tc main_v15) :=
  (k1 V main_v15 (by decide))
theorem r36 (b : Fin 4) (t : Fin 4096) (l : Fin 1024) : fv (s := S4x4096x1024) (φ := .f32) (P2 V (Proc.devRef .tc main_v36)) (ix3 b t l)
    = ∑ j : Fin 16, fv (s := S4x4096x128) (φ := .f32) (V (Proc.devRef .tc main_arg1)) (ix3 b t ⟨16 * (1 : Fin 2).val + j.val, by omega⟩)
        * fv (s := S1x2x16x1024) (φ := .f32) (V (Proc.devRef .tc main_arg2)) (ix4 0 1 j l) + fv (s := S1x2x1024) (φ := .f32) (V (Proc.devRef .tc main_arg3)) (ix3 0 1 l) := by
  refine Eq.trans (congrFun ?_ _) (pre1_at _ _ _ b t l)
  unfold P2
  after_reads_simp
  rw [keep1_v0, keep1_v1, keep1_v15]
  unfold P0
  after_reads_simp
  rfl
theorem r24 (j : S4x4096x1024.Idx) (hx : IsR (fv (s := S4x4096x1024) (φ := .f32) (P0 V (Proc.devRef .tc main_v23)) j)) :
    fv (s := S4x4096x1024) (φ := .f32) (P1 V (Proc.devRef .tc main_v24)) j
      = -(max (-(fv (s := S4x4096x1024) (φ := .f32) (P0 V (Proc.devRef .tc main_v23)) j)) 0
          + Ideal.log1p (Ideal.exp (-(FloatOps.absf (F := Ideal) (φ := .f32) (-(fv (s := S4x4096x1024) (φ := .f32) (P0 V (Proc.devRef .tc main_v23)) j) - 0))))) := by
  refine Eq.trans (congrFun ?_ _) (lsig_at _ j hx)
  unfold P1
  generalize P0 V = W
  simp only [hostOps0_1, TRef.unary, TRef.binary, TRef.ternary, TRef.nullary, TRef.toBuf, TRef.ofBuf, cast_eq]
  after_reads_simp
theorem r37 (j : S4x4096x1024.Idx) (hx : IsR (fv (s := S4x4096x1024) (φ := .f32) (P2 V (Proc.devRef .tc main_v36)) j)) :
    fv (s := S4x4096x1024) (φ := .f32) (P3 V (Proc.devRef .tc main_v37)) j
      = -(max (-(fv (s := S4x4096x1024) (φ := .f32) (P2 V (Proc.devRef .tc main_v36)) j)) 0
          + Ideal.log1p (Ideal.exp (-(FloatOps.absf (F := Ideal) (φ := .f32) (-(fv (s := S4x4096x1024) (φ := .f32) (P2 V (Proc.devRef .tc main_v36)) j) - 0))))) := by
  refine Eq.trans (congrFun ?_ _) (lsig_at _ j hx)
  unfold P3
  generalize P2 V = W
  simp only [hostOps0_3, TRef.unary, TRef.binary, TRef.ternary, TRef.nullary, TRef.toBuf, TRef.ofBuf, cast_eq]
  after_reads_simp
theorem r28 (b h : Fin 4) (t : Fin 4096) (e : Fin 256) : fv (s := S4x4x4096x256) (φ := .f32) (P2 V (Proc.devRef .tc main_v28)) (ix4 b h t e)
    = Ideal.div (fv (s := S4x4096x1024) (φ := .f32) (P1 V (Proc.devRef .tc main_v24)) (ix3 b t ⟨h.val * 256 + e.val, by omega⟩)) (Ideal.ofBits FTy.f32 0x41800000#32) := by
  refine Eq.trans (congrFun ?_ _) (heads_at _ b h t e)
  unfold P2
  generalize P1 V = W
  after_reads_simp
  rfl
theorem r41 (b h : Fin 4) (t : Fin 4096) (e : Fin 256) : fv (s := S4x4x4096x256) (φ := .f32) (P4 V (Proc.devRef .tc main_v41)) (ix4 b h t e)
    = Ideal.div (fv (s := S4x4096x1024) (φ := .f32) (P3 V (Proc.devRef .tc main_v37)) (ix3 b t ⟨h.val * 256 + e.val, by omega⟩)) (Ideal.ofBits FTy.f32 0x41800000#32) := by
  refine Eq.trans (congrFun ?_ _) (heads_at _ b h t e)
  unfold P4
  generalize P3 V = W
  after_reads_simp
  rfl
theorem keep5_v5 : P5 V (Proc.devRef .tc main_v5) = P0 V (Proc.devRef .tc main_v5) :=
  ((k5 V main_v5 (by decide)).trans ((k4 V main_v5 (by decide)).trans ((k3 V main_v5 (by decide)).trans ((k2 V main_v5 (by decide)).trans (k1 V main_v5 (by decide))))))
theorem keep4_v5 : P4 V (Proc.devRef .tc main_v5) = P0 V (Proc.devRef .tc main_v5) :=
  ((k4 V main_v5 (by decide)).trans ((k3 V main_v5 (by decide)).trans ((k2 V main_v5 (by decide)).trans (k1 V main_v5 (by decide)))))
theorem rv43 (B : Fin 8) (h : Fin 4) (s : Fin 4096) (e : Fin 256) : fv (s := S8x4x4096x256) (φ := .f32) (P6 V (Proc.devRef .tc main_v43)) (ix4 B h s e)
    = if hB : B.val < 4 then fv (s := S4x4x4096x256) (φ := .f32) (P0 V (Proc.devRef .tc main_v5)) (ix4 ⟨B.val, hB⟩ h s e)
      else fv (s := S4x4x4096x256) (φ := .f32) (P0 V (Proc.devRef .tc main_v5)) (ix4 ⟨B.val - 4, by omega⟩ h ⟨4095 - s.val, by omega⟩ e) := by
  refine Eq.trans (congrFun ?_ _) (cat256_at _ _ B h s e)
  have h1 : P6 V (Proc.devRef .tc main_v43) = (concatenate S8x4x4096x256 0 [⟨S4x4x4096x256, P5 V (Proc.devRef .tc main_v5)⟩, ⟨S4x4x4096x256, P5 V (Proc.devRef .tc main_v42)⟩]
      concatenates_S4x4x4096x256_S4x4x4096x256_S8x4x4096x256_d0 : Vec Ideal S8x4x4096x256 .f32) := by
    unfold P6
    generalize P5 V = W
    after_reads_simp
    rfl
  have h2 : P5 V (Proc.devRef .tc main_v42) = (Host.reverse [2] (P4 V (Proc.devRef .tc main_v5) : Vec Ideal S4x4x4096x256 .f32) : Vec Ideal S4x4x4096x256 .f32) := by
    unfold P5
    generalize P4 V = W
    simp only [hostOps0_5, TRef.unary, TRef.toBuf, TRef.ofBuf, cast_eq]
    after_reads_simp
  rw [h1, h2, keep5_v5 V, keep4_v5 V]
theorem keep7_v10 : P7 V (Proc.devRef .tc main_v10) = P0 V (Proc.devRef .tc main_v10) :=
  ((k7 V main_v10 (by decide)).trans ((k6 V main_v10 (by decide)).trans ((k5 V main_v10 (by decide)).trans ((k4 V main_v10 (by decide)).trans ((k3 V main_v10 (by decide)).trans ((k2 V main_v10 (by decide)).trans (k1 V main_v10 (by decide))))))))
theorem keep6_v10 : P6 V (Proc.devRef .tc main_v10) = P0 V (Proc.devRef .tc main_v10) :=
  ((k6 V main_v10 (by decide)).trans ((k5 V main_v10 (by decide)).trans ((k4 V main_v10 (by decide)).trans ((k3 V main_v10 (by decide)).trans ((k2 V main_v10 (by decide)).trans (k1 V main_v10 (by decide)))))))
theorem rv45 (B : Fin 8) (h : Fin 4) (s : Fin 4096) (e : Fin 256) : fv (s := S8x4x4096x256) (φ := .f32) (P8 V (Proc.devRef .tc main_v45)) (ix4 B h s e)
    = if hB : B.val < 4 then fv (s := S4x4x4096x256) (φ := .f32) (P0 V (Proc.devRef .tc main_v10)) (ix4 ⟨B.val, hB⟩ h s e)
      else fv (s := S4x4x4096x256) (φ := .f32) (P0 V (Proc.devRef .tc main_v10)) (ix4 ⟨B.val - 4, by omega⟩ h ⟨4095 - s.val, by omega⟩ e) := by
  refine Eq.trans (congrFun ?_ _) (cat256_at _ _ B h s e)
  have h1 : P8 V (Proc.devRef .tc main_v45) = (concatenate S8x4x4096x256 0 [⟨S4x4x4096x256, P7 V (Proc.devRef .tc main_v10)⟩, ⟨S4x4x4096x256, P7 V (Proc.devRef .tc main_v44)⟩]
      concatenates_S4x4x4096x256_S4x4x4096x256_S8x4x4096x256_d0 : Vec Ideal S8x4x4096x256 .f32) := by
    unfold P8
    generalize P7 V = W
    after_reads_simp
    rfl
  have h2 : P7 V (Proc.devRef .tc main_v44) = (Host.reverse [2] (P6 V (Proc.devRef .tc main_v10) : Vec Ideal S4x4x4096x256 .f32) : Vec Ideal S4x4x4096x256 .f32) := by
    unfold P7
    generalize P6 V = W
    simp only [hostOps0_7, TRef.unary, TRef.toBuf, TRef.ofBuf, cast_eq]
    after_reads_simp
  rw [h1, h2, keep7_v10 V, keep6_v10 V]
theorem keep9_v13 : P9 V (Proc.devRef .tc main_v13) = P0 V (Proc.devRef .tc main_v13) :=
  ((k9 V main_v13 (by decide)).trans ((k8 V main_v13 (by decide)).trans ((k7 V main_v13 (by decide)).trans ((k6 V main_v13 (by decide)).trans ((k5 V main_v13 (by decide)).trans ((k4 V main_v13 (by decide)).trans ((k3 V main_v13 (by decide)).trans ((k2 V main_v13 (by decide)).trans (k1 V main_v13 (by decide))))))))))
theorem keep8_v13 : P8 V (Proc.devRef .tc main_v13) = P0 V (Proc.devRef .tc main_v13) :=
  ((k8 V main_v13 (by decide)).trans ((k7 V main_v13 (by decide)).trans ((k6 V main_v13 (by decide)).trans ((k5 V main_v13 (by decide)).trans ((k4 V main_v13 (by decide)).trans ((k3 V main_v13 (by decide)).trans ((k2 V main_v13 (by decide)).trans (k1 V main_v13 (by decide)))))))))
theorem rv47 (B : Fin 8) (h : Fin 4) (s : Fin 4096) (e : Fin 512) : fv (s := S8x4x4096x512) (φ := .f32) (P10 V (Proc.devRef .tc main_v47)) (ix4 B h s e)
    = if hB : B.val < 4 then fv (s := S4x4x4096x512) (φ := .f32) (P0 V (Proc.devRef .tc main_v13)) (ix4 ⟨B.val, hB⟩ h s e)
      else fv (s := S4x4x4096x512) (φ := .f32) (P0 V (Proc.devRef .tc main_v13)) (ix4 ⟨B.val - 4, by omega⟩ h ⟨4095 - s.val, by omega⟩ e) := by
  refine Eq.trans (congrFun ?_ _) (cat512_at _ _ B h s e)
  have h1 : P10 V (Proc.devRef .tc main_v47) = (concatenate S8x4x4096x512 0 [⟨S4x4x4096x512, P9 V (Proc.devRef .tc main_v13)⟩, ⟨S4x4x4096x512, P9 V (Proc.devRef .tc main_v46)⟩]
      concatenates_S4x4x4096x512_S4x4x4096x512_S8x4x4096x512_d0 : Vec Ideal S8x4x4096x512 .f32) := by
    unfold P10
    generalize P9 V = W
    after_reads_simp
    rfl
  have h2 : P9 V (Proc.devRef .tc main_v46) = (Host.reverse [2] (P8 V (Proc.devRef .tc main_v13) : Vec Ideal S4x4x4096x512 .f32) : Vec Ideal S4x4x4096x512 .f32) := by
    unfold P9
    generalize P8 V = W
    simp only [hostOps0_9, TRef.unary, TRef.toBuf, TRef.ofBuf, cast_eq]
    after_reads_simp
  rw [h1, h2, keep9_v13 V, keep8_v13 V]
theorem keep11_v28 : P11 V (Proc.devRef .tc main_v28) = P2 V (Proc.devRef .tc main_v28) :=
  ((k11 V main_v28 (by decide)).trans ((k10 V main_v28 (by decide)).trans ((k9 V main_v28 (by decide)).trans ((k8 V main_v28 (by decide)).trans ((k7 V main_v28 (by decide)).trans ((k6 V main_v28 (by decide)).trans ((k5 V main_v28 (by decide)).trans ((k4 V main_v28 (by decide)).trans (k3 V main_v28 (by decide))))))))))
theorem keep10_v41 : P10 V (Proc.devRef .tc main_v41) = P4 V (Proc.devRef .tc main_v41) :=
  ((k10 V main_v41 (by decide)).trans ((k9 V main_v41 (by decide)).trans ((k8 V main_v41 (by decide)).trans ((k7 V main_v41 (by decide)).trans ((k6 V main_v41 (by decide)).trans (k5 V main_v41 (by decide)))))))
theorem rv49 (B : Fin 8) (h : Fin 4) (s : Fin 4096) (e : Fin 256) : fv (s := S8x4x4096x256) (φ := .f32) (P12 V (Proc.devRef .tc main_v49)) (ix4 B h s e)
    = if hB : B.val < 4 then fv (s := S4x4x4096x256) (φ := .f32) (P2 V (Proc.devRef .tc main_v28)) (ix4 ⟨B.val, hB⟩ h s e)
      else fv (s := S4x4x4096x256) (φ := .f32) (P4 V (Proc.devRef .tc main_v41)) (ix4 ⟨B.val - 4, by omega⟩ h ⟨4095 - s.val, by omega⟩ e) := by
  refine Eq.trans (congrFun ?_ _) (cat256_at _ _ B h s e)
  have h1 : P12 V (Proc.devRef .tc main_v49) = (concatenate S8x4x4096x256 0 [⟨S4x4x4096x256, P11 V (Proc.devRef .tc main_v28)⟩, ⟨S4x4x4096x256, P11 V (Proc.devRef .tc main_v48)⟩]
      concatenates_S4x4x4096x256_S4x4x4096x256_S8x4x4096x256_d0 : Vec Ideal S8x4x4096x256 .f32) := by
    unfold P12
    generalize P11 V = W
    after_reads_simp
    rfl
  have h2 : P11 V (Proc.devRef .tc main_v48) = (Host.reverse [2] (P10 V (Proc.devRef .tc main_v41) : Vec Ideal S4x4x4096x256 .f32) : Vec Ideal S4x4x4096x256 .f32) := by
    unfold P11
    generalize P10 V = W
    simp only [hostOps0_11, TRef.unary, TRef.toBuf, TRef.ofBuf, cast_eq]
    after_reads_simp
  rw [h1, h2, keep11_v28 V, keep10_v41 V]
theorem keep11_v43 : P11 V (Proc.devRef .tc main_v43) = P6 V (Proc.devRef .tc main_v43) :=
  ((k11 V main_v43 (by decide)).trans ((k10 V main_v43 (by decide)).trans ((k9 V main_v43 (by decide)).trans ((k8 V main_v43 (by decide)).trans (k7 V main_v43 (by decide))))))
theorem rv51 (B : Fin 8) (h : Fin 4) (n i : Fin 64) (e : Fin 256) : fv (s := S8x4x64x64x256) (φ := .f32) (P12 V (Proc.devRef .tc main_v51)) (ix5 B h n i e)
    = fv (s := S8x4x4096x256) (φ := .f32) (P6 V (Proc.devRef .tc main_v43)) (ix4 B h ⟨n.val * 64 + i.val, by omega⟩ e) := by
  refine Eq.trans (congrFun ?_ _) (chunk256_at _ B h n i e)
  rw [← keep11_v43]
  unfold P12
  generalize P11 V = W
  after_reads_simp
  rfl
theorem keep11_v45 : P11 V (Proc.devRef .tc main_v45) = P8 V (Proc.devRef .tc main_v45) :=
  ((k11 V main_v45 (by decide)).trans ((k10 V main_v45 (by decide)).trans (k9 V main_v45 (by decide))))
theorem rv52 (B : Fin 8) (h : Fin 4) (n i : Fin 64) (e : Fin 256) : fv (s := S8x4x64x64x256) (φ := .f32) (P12 V (Proc.devRef .tc main_v52)) (ix5 B h n i e)
    = fv (s := S8x4x4096x256) (φ := .f32) (P8 V (Proc.devRef .tc main_v45)) (ix4 B h ⟨n.val * 64 + i.val, by omega⟩ e) := by
  refine Eq.trans (congrFun ?_ _) (chunk256_at _ B h n i e)
  rw [← keep11_v45]
  unfold P12
  generalize P11 V = W
  after_reads_simp
  rfl
theorem keep11_v47 : P11 V (Proc.devRef .tc main_v47) = P10 V (Proc.devRef .tc main_v47) :=
  (k11 V main_v47 (by decide))
theorem rv53 (B : Fin 8) (h : Fin 4) (n i : Fin 64) (e : Fin 512) : fv (s := S8x4x64x64x512) (φ := .f32) (P12 V (Proc.devRef .tc main_v53)) (ix5 B h n i e)
    = fv (s := S8x4x4096x512) (φ := .f32) (P10 V (Proc.devRef .tc main_v47)) (ix4 B h ⟨n.val * 64 + i.val, by omega⟩ e) := by
  refine Eq.trans (congrFun ?_ _) (chunk512_at _ B h n i e)
  rw [← keep11_v47]
  unfold P12
  generalize P11 V = W
  after_reads_simp
  rfl
theorem rv54 (B : Fin 8) (h : Fin 4) (n i : Fin 64) (e : Fin 256) : fv (s := S8x4x64x64x256) (φ := .f32) (P12 V (Proc.devRef .tc main_v54)) (ix5 B h n i e)
    = fv (s := S8x4x4096x256) (φ := .f32) (P12 V (Proc.devRef .tc main_v49)) (ix4 B h ⟨n.val * 64 + i.val, by omega⟩ e) := by
  refine Eq.trans (congrFun ?_ _) (chunk256_at _ B h n i e)
  unfold P12
  generalize P11 V = W
  after_reads_simp
  rfl
theorem keep11_arg4 : P11 V (Proc.devRef .tc main_arg4) = V (Proc.devRef .tc main_arg4) :=
  ((k11 V main_arg4 (by decide)).trans ((k10 V main_arg4 (by decide)).trans ((k9 V main_arg4 (by decide)).trans ((k8 V main_arg4 (by decide)).trans ((k7 V main_arg4 (by decide)).trans ((k6 V main_arg4 (by decide)).trans ((k5 V main_arg4 (by decide)).trans ((k4 V main_arg4 (by decide)).trans ((k3 V main_arg4 (by decide)).trans ((k2 V main_arg4 (by decide)).trans ((k1 V main_arg4 (by decide)).trans (k0 V main_arg4 (by decide)))))))))))))
theorem rv50 (B : Fin 8) (h : Fin 4) (a : Fin 256) (e : Fin 512) : fv (s := S8x4x256x512) (φ := .f32) (P12 V (Proc.devRef .tc main_v50)) (ix4 B h a e)
    = fv (s := S2x4x4x256x512) (φ := .f32) (V (Proc.devRef .tc main_arg4)) (ix5 ⟨B.val / 4, by omega⟩ ⟨B.val % 4, by omega⟩ h a e) := by
  refine Eq.trans (congrFun ?_ _) (init_at _ B h a e)
  rw [← keep11_arg4 V]
  unfold P12
  generalize P11 V = W
  after_reads_simp
  rfl

end Readings

end Cert.ReferenceIdeal.GA

end
-- ==== Proof.GlaRefB.lean ====
/-
  The recurrence's reference, from the chunked queries, keys, values and log-decays to the loop: the running sums of the log-decays, the
  decayed queries and keys, the causal scores and the part of the result inside a chunk.
-/
module

public import proofs.«01_k».proof.Proof.GlaRefA

@[expose] public section

set_option maxRecDepth 16384

noncomputable section

open Idealize.ShloMosaic Idealize.ShloMosaic.TcCoe Idealize.SL.Sem
open Idealize.ShloMosaic.StableHlo

namespace Cert.ReferenceIdeal.GA

open Cert.ReferenceIdeal Cert.ReferenceIdeal.Gen Cert.ReferenceIdeal.Value Cert.GlaSpec Cert.FiniteReals

/-! ## The running sum -/

/-- A left fold of additions is the sum. -/
theorem foldl_sum {ι : Type} (l : List ι) (g : ι → EReal) (a : EReal) : l.foldl (fun r n => r + g n) a = a + (l.map g).sum := by
  induction l generalizing a with
  | nil => simp
  | cons x l ih => rw [List.foldl_cons, ih, List.map_cons, List.sum_cons, add_assoc]

/-- The shape of the running sum's window. -/
abbrev SW : Shape := ⟨5, ![1, 1, 1, 64, 1]⟩

/-- A window position is its place on the one axis longer than one. -/
def winEquiv : SW.Idx ≃ Fin 64 where
  toFun w := w (3 : Fin 5)
  invFun j := ix5 (0 : Fin 1) (0 : Fin 1) (0 : Fin 1) j (0 : Fin 1)
  left_inv w := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  right_inv j := rfl

/-- The rows a window of 64 that ends at row `i` meets are the rows up to `i`. -/
theorem window_rows (f : Fin 64 → EReal) (i : Fin 64) :
    (∑ w : Fin 64, if h : 63 ≤ i.val + w.val then f ⟨i.val + w.val - 63, by omega⟩ else 0) = ∑ j, if j ≤ i then f j else 0 := by
  refine Fintype.sum_equiv (Equiv.addRight (i + 1)) _ _ fun w => ?_
  have hv : (Equiv.addRight (i + 1) w).val = (w.val + (i.val + 1) % 64) % 64 := by
    show (w + (i + 1)).val = _
    rw [Fin.val_add, Fin.val_add]
    rfl
  have hi := i.isLt
  have hw := w.isLt
  by_cases h : 63 ≤ i.val + w.val
  · have e : Equiv.addRight (i + 1) w = ⟨i.val + w.val - 63, by omega⟩ := Fin.ext (by rw [hv]; show _ = i.val + w.val - 63; omega)
    rw [dif_pos h, if_pos (show Equiv.addRight (i + 1) w ≤ i by rw [Fin.le_def, hv]; omega), e]
  · rw [dif_neg h, if_neg (show ¬ Equiv.addRight (i + 1) w ≤ i by rw [Fin.le_def, hv]; omega)]

theorem cumsum_at (x : FVec Ideal S8x4x64x64x256 .f32) (z : FVec Ideal S_ .f32) (hz : ∀ j, z j = 0) (B : Fin 8) (h : Fin 4) (n i : Fin 64) (e : Fin 256) :
    (Host.reduceWindowAdd ![1, 1, 1, 64, 1] ![1, 1, 1, 1, 1] ![0, 0, 0, 63, 0] ![0, 0, 0, 0, 0] x z
      reduceWindows_S8x4x64x64x256_S8x4x64x64x256_w1s1p0_0_w1s1p0_0_w1s1p0_0_w64s1p63_0_w1s1p0_0 h_S_ : FVec Ideal S8x4x64x64x256 .f32) (ix5 B h n i e)
      = ∑ j, if j ≤ i then x (ix5 B h n j e) else 0 := by
  show Host.reduceWindow (· + ·) ![1, 1, 1, 64, 1] ![1, 1, 1, 1, 1] ![0, 0, 0, 63, 0] ![0, 0, 0, 0, 0] x (fun _ : (⟨0, ![]⟩ : Shape).Idx => z (Shape.Idx.first h_S_)) reduceWindows_S8x4x64x64x256_S8x4x64x64x256_w1s1p0_0_w1s1p0_0_w1s1p0_0_w64s1p63_0_w1s1p0_0 (by decide) (ix5 B h n i e) = _
  rw [hz]
  unfold Host.reduceWindow
  refine (foldl_sum _ _ _).trans ?_
  rw [zero_add, ← Fin.sum_univ_def]
  refine Eq.trans (Finset.sum_congr rfl fun p _ => ?_) ((Equiv.sum_comp (SW.rowMajor.symm.trans winEquiv)
    (fun w : Fin 64 => if hc : 63 ≤ i.val + w.val then x (ix5 B h n ⟨i.val + w.val - 63, by omega⟩ e) else 0)).trans (window_rows (fun j => x (ix5 B h n j e)) i))
  obtain ⟨w, hw⟩ : ∃ w : Fin 64, (SW.rowMajor.symm.trans winEquiv) p = w := ⟨_, rfl⟩
  have h0 : (SW.rowMajor.symm p (0 : Fin 5)).val = 0 := Nat.lt_one_iff.1 (SW.rowMajor.symm p (0 : Fin 5)).isLt
  have h1 : (SW.rowMajor.symm p (1 : Fin 5)).val = 0 := Nat.lt_one_iff.1 (SW.rowMajor.symm p (1 : Fin 5)).isLt
  have h2 : (SW.rowMajor.symm p (2 : Fin 5)).val = 0 := Nat.lt_one_iff.1 (SW.rowMajor.symm p (2 : Fin 5)).isLt
  have h3 : (SW.rowMajor.symm p (3 : Fin 5)).val = w.val := congrArg Fin.val hw
  have h4 : (SW.rowMajor.symm p (4 : Fin 5)).val = 0 := Nat.lt_one_iff.1 (SW.rowMajor.symm p (4 : Fin 5)).isLt
  rw [hw]
  have hi := i.isLt
  have hwl := w.isLt
  by_cases hc : 63 ≤ i.val + w.val
  · rw [dif_pos hc]
    refine (dif_pos ?_).trans (congrArg x (funext fun a => Fin.ext ?_))
    · intro a
      match a with
      | ⟨0, _⟩ => exact ⟨Nat.zero_le _, by have := B.isLt; show B.val * 1 + (SW.rowMajor.symm p (0 : Fin 5)).val - 0 < 8; omega⟩
      | ⟨1, _⟩ => exact ⟨Nat.zero_le _, by have := h.isLt; show h.val * 1 + (SW.rowMajor.symm p (1 : Fin 5)).val - 0 < 4; omega⟩
      | ⟨2, _⟩ => exact ⟨Nat.zero_le _, by have := n.isLt; show n.val * 1 + (SW.rowMajor.symm p (2 : Fin 5)).val - 0 < 64; omega⟩
      | ⟨3, _⟩ => exact ⟨by show 63 ≤ i.val * 1 + (SW.rowMajor.symm p (3 : Fin 5)).val; omega, by show i.val * 1 + (SW.rowMajor.symm p (3 : Fin 5)).val - 63 < 64; omega⟩
      | ⟨4, _⟩ => exact ⟨Nat.zero_le _, by have := e.isLt; show e.val * 1 + (SW.rowMajor.symm p (4 : Fin 5)).val - 0 < 256; omega⟩
    · match a with
      | ⟨0, _⟩ => show B.val * 1 + (SW.rowMajor.symm p (0 : Fin 5)).val - 0 = B.val; omega
      | ⟨1, _⟩ => show h.val * 1 + (SW.rowMajor.symm p (1 : Fin 5)).val - 0 = h.val; omega
      | ⟨2, _⟩ => show n.val * 1 + (SW.rowMajor.symm p (2 : Fin 5)).val - 0 = n.val; omega
      | ⟨3, _⟩ => show i.val * 1 + (SW.rowMajor.symm p (3 : Fin 5)).val - 63 = i.val + w.val - 63; omega
      | ⟨4, _⟩ => show e.val * 1 + (SW.rowMajor.symm p (4 : Fin 5)).val - 0 = e.val; omega
  · rw [dif_neg hc]
    refine dif_neg ?_
    intro hin
    have h5 : 63 ≤ i.val * 1 + (SW.rowMajor.symm p (3 : Fin 5)).val := (hin (3 : Fin 5)).1
    omega

/-! ## The vector terms, read at an index -/

theorem last_at (x : FVec Ideal S8x4x64x64x256 .f32) (B : Fin 8) (h : Fin 4) (n : Fin 64) (e : Fin 256) :
    (extractStridedSlice S8x4x64x1x256 ![0, 0, 0, 63, 0] x slices_S8x4x64x64x256_S8x4x64x1x256_0_0_0_63_0 : FVec Ideal S8x4x64x1x256 .f32) (ix5 B h n 0 e)
      = x (ix5 B h n ⟨63, by decide⟩ e) := by pointwise []

theorem qd_at (q c : FVec Ideal S8x4x64x64x256 .f32) (B : Fin 8) (h : Fin 4) (n i : Fin 64) (e : Fin 256) :
    (mulf q (Host.exp c) : FVec Ideal S8x4x64x64x256 .f32) (ix5 B h n i e) = q (ix5 B h n i e) * Ideal.exp (c (ix5 B h n i e)) := by pointwise []

theorem kd_at (q c : FVec Ideal S8x4x64x64x256 .f32) (B : Fin 8) (h : Fin 4) (n i : Fin 64) (e : Fin 256) :
    (mulf q (Host.exp (Host.negf c)) : FVec Ideal S8x4x64x64x256 .f32) (ix5 B h n i e) = q (ix5 B h n i e) * Ideal.exp (0 - c (ix5 B h n i e)) := by
  rw [zero_sub]; rfl

theorem ks_at (q c : FVec Ideal S8x4x64x64x256 .f32) (B : Fin 8) (h : Fin 4) (n i : Fin 64) (e : Fin 256) :
    (mulf q (Host.exp (subf (broadcastInDim S8x4x64x64x256 ![0, 1, 2, 3, 4] bcast_S8x4x64x1x256_S8x4x64x64x256_0_1_2_3_4
      (extractStridedSlice S8x4x64x1x256 ![0, 0, 0, 63, 0] c slices_S8x4x64x64x256_S8x4x64x1x256_0_0_0_63_0)) c)) : FVec Ideal S8x4x64x64x256 .f32) (ix5 B h n i e)
      = q (ix5 B h n i e) * Ideal.exp (c (ix5 B h n ⟨63, by decide⟩ e) - c (ix5 B h n i e)) := by pointwise []

theorem tril_words (i j : Fin 64) :
    Scalar.select (IntOp.cmpi .sge (IntOp.addi (BitVec.ofNat 32 i.val) 0#32) (BitVec.ofNat 32 j.val)) 1#1 0#1 = if j ≤ i then 1#1 else 0#1 := by
  revert i j; decide +kernel

theorem tril_at (i j : Fin 64) :
    (select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)) : IVec S64x64 1) (ix2 i j)
      = if j ≤ i then 1#1 else 0#1 := (tril_words i j).symm ▸ rfl

theorem dot68_at (x y : FVec Ideal S8x4x64x64x256 .f32) (B : Fin 8) (h : Fin 4) (n i j : Fin 64) :
    (Host.dotGeneral (F := Ideal) dot_S8x4x64x64x256_S8x4x64x64x256_S8x4x64x64x64_4_4_3_3_012_012 none x y : FVec Ideal S8x4x64x64x64 .f32) (ix5 B h n i j)
      = ∑ e : Fin 256, x (ix5 B h n i e) * y (ix5 B h n j e) := by pointwise []

theorem dot70_at (x : FVec Ideal S8x4x64x64x64 .f32) (y : FVec Ideal S8x4x64x64x512 .f32) (B : Fin 8) (h : Fin 4) (n i : Fin 64) (e : Fin 512) :
    (Host.dotGeneral (F := Ideal) dot_S8x4x64x64x64_S8x4x64x64x512_S8x4x64x64x512_4_3_3_4_012_012 none x y : FVec Ideal S8x4x64x64x512 .f32) (ix5 B h n i e)
      = ∑ j : Fin 64, x (ix5 B h n i j) * y (ix5 B h n j e) := by pointwise []

theorem sel69_at (M : IVec S64x64 1) (x : FVec Ideal S8x4x64x64x64 .f32) (z : FVec Ideal S_ .f32) (hM : ∀ i j, M (ix2 i j) = if j ≤ i then 1#1 else 0#1)
    (hz : ∀ j, z j = 0) (B : Fin 8) (h : Fin 4) (n i j : Fin 64) :
    (select (broadcastInDim S8x4x64x64x64 ![3, 4] bcast_S64x64_S8x4x64x64x64_3_4 M) x (broadcastInDim S8x4x64x64x64 ![] bcast_S_S8x4x64x64x64 z) : FVec Ideal S8x4x64x64x64 .f32)
      (ix5 B h n i j) = if j ≤ i then x (ix5 B h n i j) else 0 := by
  have e : (broadcastInDim S8x4x64x64x64 ![3, 4] bcast_S64x64_S8x4x64x64x64_3_4 M : IVec S8x4x64x64x64 1) (ix5 B h n i j) = M (ix2 i j) := by pointwise []
  show Scalar.select _ (x (ix5 B h n i j)) (z _) = _
  rw [e, hM, hz]
  by_cases hij : j ≤ i
  · rw [if_pos hij, if_pos hij]; rfl
  · rw [if_neg hij, if_neg hij]; rfl

theorem t256_at (x : FVec Ideal S8x4x64x64x256 .f32) (B : Fin 8) (h : Fin 4) (n i : Fin 64) (e : Fin 256) :
    (transpose S64x8x4x64x256 [2, 0, 1, 3, 4] x transposes_S8x4x64x64x256_S64x8x4x64x256_2_0_1_3_4 : FVec Ideal S64x8x4x64x256 .f32) (ix5 n B h i e)
      = x (ix5 B h n i e) := by pointwise []
theorem t512_at (x : FVec Ideal S8x4x64x64x512 .f32) (B : Fin 8) (h : Fin 4) (n i : Fin 64) (e : Fin 512) :
    (transpose S64x8x4x64x512 [2, 0, 1, 3, 4] x transposes_S8x4x64x64x512_S64x8x4x64x512_2_0_1_3_4 : FVec Ideal S64x8x4x64x512 .f32) (ix5 n B h i e)
      = x (ix5 B h n i e) := by pointwise []
theorem t4_at (x : FVec Ideal S8x4x64x1x256 .f32) (B : Fin 8) (h : Fin 4) (n : Fin 64) (e : Fin 256) :
    (transpose S64x8x4x256 [2, 0, 1, 3] (Host.exp (shapeCast S8x4x64x256 x shapeCasts_S8x4x64x1x256_S8x4x64x256)) transposes_S8x4x64x256_S64x8x4x256_2_0_1_3 : FVec Ideal S64x8x4x256 .f32)
      (ix4 n B h e) = Ideal.exp (x (ix5 B h n 0 e)) := by pointwise []

/-! ## The contents after each stretch -/

section Readings
variable (V : Vl)

/-- The chunked queries. -/
abbrev Qv : S8x4x64x64x256.Idx → EReal := fv (s := S8x4x64x64x256) (φ := .f32) (P12 V (Proc.devRef .tc main_v51))
/-- The chunked scaled keys. -/
abbrev Kv : S8x4x64x64x256.Idx → EReal := fv (s := S8x4x64x64x256) (φ := .f32) (P12 V (Proc.devRef .tc main_v52))
/-- The chunked values. -/
abbrev Vv : S8x4x64x64x512.Idx → EReal := fv (s := S8x4x64x64x512) (φ := .f32) (P12 V (Proc.devRef .tc main_v53))
/-- The chunked log-decays. -/
abbrev Lv : S8x4x64x64x256.Idx → EReal := fv (s := S8x4x64x64x256) (φ := .f32) (P12 V (Proc.devRef .tc main_v54))
/-- The running sums of the log-decays. -/
abbrev Cv : S8x4x64x64x256.Idx → EReal := fv (s := S8x4x64x64x256) (φ := .f32) (P13 V (Proc.devRef .tc main_v55))

theorem c55 (B : Fin 8) (h : Fin 4) (n i : Fin 64) (e : Fin 256) : Cv V (ix5 B h n i e) = cum (fun j x => Lv V (ix5 B h n j x)) i e := by
  refine Eq.trans (congrFun ?_ _) (cumsum_at _ (broadcastInDim S_ ![] bcast_S_S_ (constant (F := Ideal) S_ .f32 0x00000000#32)) (fun j => ?_) B h n i e)
  · show fv (s := S8x4x64x64x256) (φ := .f32) (P13 V (Proc.devRef .tc main_v55)) = _
    unfold Lv P13
    generalize P12 V = W
    simp only [hostOps0_13, TRef.unary, TRef.binary, TRef.nullary, TRef.toBuf, TRef.ofBuf, cast_eq]
    after_reads_simp
  · show Ideal.ofBits .f32 0x00000000#32 = 0
    simp [Ideal.ofBits, Ideal.ieee]

theorem c63 (B : Fin 8) (h : Fin 4) (n : Fin 64) (e : Fin 256) : Cv V (ix5 B h n ⟨63, by decide⟩ e) = tot (fun j x => Lv V (ix5 B h n j x)) e :=
  (c55 V B h n _ e).trans (cum_last _ _ rfl e)

theorem c58 (B : Fin 8) (h : Fin 4) (n i : Fin 64) (e : Fin 256) : fv (s := S8x4x64x64x256) (φ := .f32) (P14 V (Proc.devRef .tc main_v58)) (ix5 B h n i e)
    = Qv V (ix5 B h n i e) * Ideal.exp (Cv V (ix5 B h n i e)) := by
  unfold Qv Cv
  rw [← k13 V main_v51 (by decide)]
  refine Eq.trans (congrFun ?_ _) (qd_at _ _ B h n i e)
  unfold P14
  generalize P13 V = W
  after_reads_simp
theorem c61 (B : Fin 8) (h : Fin 4) (n i : Fin 64) (e : Fin 256) : fv (s := S8x4x64x64x256) (φ := .f32) (P14 V (Proc.devRef .tc main_v61)) (ix5 B h n i e)
    = Kv V (ix5 B h n i e) * Ideal.exp (0 - Cv V (ix5 B h n i e)) := by
  unfold Kv Cv
  rw [← k13 V main_v52 (by decide)]
  refine Eq.trans (congrFun ?_ _) (kd_at _ _ B h n i e)
  unfold P14
  generalize P13 V = W
  after_reads_simp
theorem c65 (B : Fin 8) (h : Fin 4) (n i : Fin 64) (e : Fin 256) : fv (s := S8x4x64x64x256) (φ := .f32) (P14 V (Proc.devRef .tc main_v65)) (ix5 B h n i e)
    = Kv V (ix5 B h n i e) * Ideal.exp (Cv V (ix5 B h n ⟨63, by decide⟩ e) - Cv V (ix5 B h n i e)) := by
  unfold Kv Cv
  rw [← k13 V main_v52 (by decide)]
  refine Eq.trans (congrFun ?_ _) (ks_at _ _ B h n i e)
  unfold P14
  generalize P13 V = W
  after_reads_simp
theorem c56 (B : Fin 8) (h : Fin 4) (n : Fin 64) (e : Fin 256) : fv (s := S8x4x64x1x256) (φ := .f32) (P14 V (Proc.devRef .tc main_v56)) (ix5 B h n 0 e)
    = Cv V (ix5 B h n ⟨63, by decide⟩ e) := by
  unfold Cv
  refine Eq.trans (congrFun ?_ _) (last_at _ B h n e)
  unfold P14
  generalize P13 V = W
  after_reads_simp
theorem c67 (i j : Fin 64) : (P15 V (Proc.devRef .tc main_v67) : IVec S64x64 1) (ix2 i j) = if j ≤ i then 1#1 else 0#1 := by
  refine Eq.trans (congrFun ?_ _) (tril_at i j)
  have h66 : P14 V (Proc.devRef .tc main_v66) = (broadcastInDim S64x64 ![] bcast_S_S64x64 (constantI S_ 1 1#1) : IVec S64x64 1) := by
    unfold P14
    generalize P13 V = W
    after_reads_simp
  rw [← h66]
  unfold P15
  generalize P14 V = W
  simp only [hostOps0_15, TRef.unary, TRef.binary, TRef.ternary, TRef.nullary, TRef.toBuf, TRef.ofBuf, cast_eq]
  after_reads_simp
theorem c68 (B : Fin 8) (h : Fin 4) (n i j : Fin 64) : fv (s := S8x4x64x64x64) (φ := .f32) (P16 V (Proc.devRef .tc main_v68)) (ix5 B h n i j)
    = ∑ e : Fin 256, fv (s := S8x4x64x64x256) (φ := .f32) (P14 V (Proc.devRef .tc main_v58)) (ix5 B h n i e)
        * fv (s := S8x4x64x64x256) (φ := .f32) (P14 V (Proc.devRef .tc main_v61)) (ix5 B h n j e) := by
  rw [← k15 V main_v58 (by decide), ← k15 V main_v61 (by decide)]
  refine Eq.trans (congrFun ?_ _) (dot68_at _ _ B h n i j)
  unfold P16
  generalize P15 V = W
  after_reads_simp
theorem c69 (B : Fin 8) (h : Fin 4) (n i j : Fin 64) : fv (s := S8x4x64x64x64) (φ := .f32) (P17 V (Proc.devRef .tc main_v69)) (ix5 B h n i j)
    = if j ≤ i then fv (s := S8x4x64x64x64) (φ := .f32) (P16 V (Proc.devRef .tc main_v68)) (ix5 B h n i j) else 0 := by
  refine Eq.trans (congrFun ?_ _) (sel69_at (P16 V (Proc.devRef .tc main_v67)) _ (P16 V (Proc.devRef .tc main_cst_2)) (fun i j => ?_) (fun j => ?_) B h n i j)
  · unfold P17
    generalize P16 V = W
    simp only [hostOps0_17, TRef.unary, TRef.binary, TRef.ternary, TRef.nullary, TRef.toBuf, TRef.ofBuf, cast_eq]
    after_reads_simp
    rfl
  · rw [k16 V main_v67 (by decide)]; exact c67 V i j
  · have e : P16 V (Proc.devRef .tc main_cst_2) = constant (F := Ideal) S_ .f32 0x00000000#32 := by
      unfold P16
      generalize P15 V = W
      after_reads_simp
    rw [e]
    show Ideal.ofBits .f32 0x00000000#32 = 0
    simp [Ideal.ofBits, Ideal.ieee]

end Readings

end Cert.ReferenceIdeal.GA

end
-- ==== Proof.GlaRefC.lean ====
/-
  The recurrence's reference: the arrays its loop starts from, in terms of the call's arguments.
-/
module

public import proofs.«01_k».proof.Proof.GlaRefB

@[expose] public section

set_option maxRecDepth 16384

noncomputable section

open Idealize.ShloMosaic Idealize.ShloMosaic.TcCoe Idealize.SL.Sem
open Idealize.ShloMosaic.StableHlo

namespace Cert.ReferenceIdeal.GA

open Cert.ReferenceIdeal Cert.ReferenceIdeal.Gen Cert.ReferenceIdeal.Value Cert.GlaSpec Cert.FiniteReals

/-- The call's arguments, read from the reference's buffers. -/
abbrev argsV (V : Vl) : Args where
  tokens b t l := fv (s := S4x4096x14336) (φ := .bf16) (V (Proc.devRef .tc main_arg0)) (ix3 b t l)
  lowrank b t l := fv (s := S4x4096x128) (φ := .f32) (V (Proc.devRef .tc main_arg1)) (ix3 b t l)
  weight d j l := fv (s := S1x2x16x1024) (φ := .f32) (V (Proc.devRef .tc main_arg2)) (ix4 0 d j l)
  bias d l := fv (s := S1x2x1024) (φ := .f32) (V (Proc.devRef .tc main_arg3)) (ix3 0 d l)
  init d b h x e := fv (s := S2x4x4x256x512) (φ := .f32) (V (Proc.devRef .tc main_arg4)) (ix5 d b h x e)

/-- The gates' arguments are real numbers. -/
abbrev RealArgs (A : Args) : Prop := (∀ b t l, IsR (A.lowrank b t l)) ∧ (∀ d j l, IsR (A.weight d j l)) ∧ ∀ d l, IsR (A.bias d l)

/-- The direction of a row of the stacked batch. -/
def dB (B : Fin 8) : Fin 2 := ⟨B.val / 4, by omega⟩
/-- The batch of a row of the stacked batch. -/
def bB (B : Fin 8) : Fin 4 := ⟨B.val % 4, by omega⟩

theorem dB_lo (B : Fin 8) (hB : B.val < 4) : dB B = 0 := Fin.ext (show B.val / 4 = 0 by omega)
theorem dB_hi (B : Fin 8) (hB : ¬ B.val < 4) : dB B = 1 := Fin.ext (show B.val / 4 = 1 by omega)
theorem bB_lo (B : Fin 8) (hB : B.val < 4) : bB B = ⟨B.val, hB⟩ := Fin.ext (show B.val % 4 = B.val by omega)
theorem bB_hi (B : Fin 8) (hB : ¬ B.val < 4) : bB B = ⟨B.val - 4, by omega⟩ := Fin.ext (show B.val % 4 = B.val - 4 by omega)
theorem tok_lo (n i : Fin 64) : tok 0 (posn n.val i) = ⟨n.val * 64 + i.val, by omega⟩ :=
  Fin.ext (show (if (0 : ℕ) = 0 then (n.val * 64 + i.val) % 4096 else 4095 - (n.val * 64 + i.val) % 4096) = n.val * 64 + i.val by rw [if_pos rfl]; omega)
theorem tok_hi (n i : Fin 64) : tok 1 (posn n.val i) = ⟨4095 - (n.val * 64 + i.val), by omega⟩ :=
  Fin.ext (show (if (1 : ℕ) = 0 then (n.val * 64 + i.val) % 4096 else 4095 - (n.val * 64 + i.val) % 4096) = 4095 - (n.val * 64 + i.val) by
    rw [if_neg (by decide)]; omega)

section Quantities
variable (V : Vl) (B : Fin 8) (h : Fin 4)

theorem vq (n i : Fin 64) (x : Fin 256) : Qv V (ix5 B h n i x) = qs (argsV V) (dB B) (bB B) h n.val i x := by
  unfold qs
  refine (rv51 V B h n i x).trans ((rv43 V B h _ x).trans ?_)
  by_cases hB : B.val < 4
  · rw [dif_pos hB, r5, dB_lo B hB, bB_lo B hB, tok_lo]
  · rw [dif_neg hB, r5, dB_hi B hB, bB_hi B hB, tok_hi]
theorem vk (n i : Fin 64) (x : Fin 256) : Kv V (ix5 B h n i x) = ks (argsV V) (dB B) (bB B) h n.val i x := by
  unfold ks
  refine (rv52 V B h n i x).trans ((rv45 V B h _ x).trans ?_)
  by_cases hB : B.val < 4
  · rw [dif_pos hB, r10, dB_lo B hB, bB_lo B hB, tok_lo]
  · rw [dif_neg hB, r10, dB_hi B hB, bB_hi B hB, tok_hi]
theorem vv (n i : Fin 64) (e : Fin 512) : Vv V (ix5 B h n i e) = vs (argsV V) (dB B) (bB B) h n.val i e := by
  unfold vs
  refine (rv53 V B h n i e).trans ((rv47 V B h _ e).trans ?_)
  by_cases hB : B.val < 4
  · rw [dif_pos hB, r13, dB_lo B hB, bB_lo B hB, tok_lo]
  · rw [dif_neg hB, r13, dB_hi B hB, bB_hi B hB, tok_hi]

theorem g23 (b : Fin 4) (t : Fin 4096) (l : Fin 1024) : fv (s := S4x4096x1024) (φ := .f32) (P0 V (Proc.devRef .tc main_v23)) (ix3 b t l) = pre (argsV V) 0 b t l := r23 V b t l
theorem g36 (b : Fin 4) (t : Fin 4096) (l : Fin 1024) : fv (s := S4x4096x1024) (φ := .f32) (P2 V (Proc.devRef .tc main_v36)) (ix3 b t l) = pre (argsV V) 1 b t l := r36 V b t l

variable (hR : RealArgs (argsV V))
include hR

theorem vl (n i : Fin 64) (x : Fin 256) : Lv V (ix5 B h n i x) = las (argsV V) (dB B) (bB B) h n.val i x := by
  unfold las
  refine (rv54 V B h n i x).trans ((rv49 V B h _ x).trans ?_)
  have hp : ∀ d b t l, IsR (pre (argsV V) d b t l) := fun d b t l => pre_real _ d b hR.1 hR.2.1 hR.2.2 t l
  by_cases hB : B.val < 4
  · rw [dif_pos hB, r28, dB_lo B hB, bB_lo B hB, tok_lo, r24 V _ (by rw [g23]; exact hp _ _ _ _), g23]
    exact lsig_ref _ (hp _ _ _ _)
  · rw [dif_neg hB, r41, dB_hi B hB, bB_hi B hB, tok_hi, r37 V _ (by rw [g36]; exact hp _ _ _ _), g36]
    exact lsig_ref _ (hp _ _ _ _)

theorem vc (n i : Fin 64) (x : Fin 256) : Cv V (ix5 B h n i x) = cum (las (argsV V) (dB B) (bB B) h n.val) i x := by
  refine (c55 V B h n i x).trans (congrArg (fun l => cum l i x) (funext fun j => funext fun y => vl V B h hR n j y))
theorem vt (n : Fin 64) (x : Fin 256) : Cv V (ix5 B h n ⟨63, by decide⟩ x) = tot (las (argsV V) (dB B) (bB B) h n.val) x :=
  (vc V B h hR n _ x).trans (cum_last _ _ rfl x)

end Quantities

section Keeps
variable (V : Vl)
theorem keep17_v53 : P17 V (Proc.devRef .tc main_v53) = P12 V (Proc.devRef .tc main_v53) :=
  (k17 V _ (by decide)).trans ((k16 V _ (by decide)).trans ((k15 V _ (by decide)).trans ((k14 V _ (by decide)).trans (k13 V _ (by decide)))))
theorem keep17_v50 : P17 V (Proc.devRef .tc main_v50) = P12 V (Proc.devRef .tc main_v50) :=
  (k17 V _ (by decide)).trans ((k16 V _ (by decide)).trans ((k15 V _ (by decide)).trans ((k14 V _ (by decide)).trans (k13 V _ (by decide)))))
theorem keep17_v58 : P17 V (Proc.devRef .tc main_v58) = P14 V (Proc.devRef .tc main_v58) :=
  (k17 V _ (by decide)).trans ((k16 V _ (by decide)).trans (k15 V _ (by decide)))
theorem keep17_v65 : P17 V (Proc.devRef .tc main_v65) = P14 V (Proc.devRef .tc main_v65) :=
  (k17 V _ (by decide)).trans ((k16 V _ (by decide)).trans (k15 V _ (by decide)))
theorem keep17_v56 : P17 V (Proc.devRef .tc main_v56) = P14 V (Proc.devRef .tc main_v56) :=
  (k17 V _ (by decide)).trans ((k16 V _ (by decide)).trans (k15 V _ (by decide)))
end Keeps

section Entry
variable (V : Vl) (B : Fin 8) (h : Fin 4)

theorem e70 (n i : Fin 64) (e : Fin 512) : fv (s := S8x4x64x64x512) (φ := .f32) (P18 V (Proc.devRef .tc main_v70)) (ix5 B h n i e)
    = ∑ j : Fin 64, fv (s := S8x4x64x64x64) (φ := .f32) (P17 V (Proc.devRef .tc main_v69)) (ix5 B h n i j) * Vv V (ix5 B h n j e) := by
  unfold Vv
  rw [← keep17_v53]
  refine Eq.trans (congrFun ?_ _) (dot70_at _ _ B h n i e)
  unfold P18
  generalize P17 V = W
  after_reads_simp
theorem e0 (n i : Fin 64) (x : Fin 256) : fv (s := S64x8x4x64x256) (φ := .f32) (P18 V (Proc.devRef .tc main_v78_0)) (ix5 n B h i x)
    = fv (s := S8x4x64x64x256) (φ := .f32) (P14 V (Proc.devRef .tc main_v58)) (ix5 B h n i x) := by
  rw [← keep17_v58]
  refine Eq.trans (congrFun ?_ _) (t256_at _ B h n i x)
  unfold P18
  generalize P17 V = W
  after_reads_simp
  rfl
theorem e1 (n i : Fin 64) (x : Fin 256) : fv (s := S64x8x4x64x256) (φ := .f32) (P18 V (Proc.devRef .tc main_v78_1)) (ix5 n B h i x)
    = fv (s := S8x4x64x64x256) (φ := .f32) (P14 V (Proc.devRef .tc main_v65)) (ix5 B h n i x) := by
  rw [← keep17_v65]
  refine Eq.trans (congrFun ?_ _) (t256_at _ B h n i x)
  unfold P18
  generalize P17 V = W
  after_reads_simp
  rfl
theorem e2 (n i : Fin 64) (e : Fin 512) : fv (s := S64x8x4x64x512) (φ := .f32) (P18 V (Proc.devRef .tc main_v78_2)) (ix5 n B h i e) = Vv V (ix5 B h n i e) := by
  unfold Vv
  rw [← keep17_v53]
  refine Eq.trans (congrFun ?_ _) (t512_at _ B h n i e)
  unfold P18
  generalize P17 V = W
  after_reads_simp
  rfl
theorem e3 (n : Fin 64) (x : Fin 256) : fv (s := S64x8x4x256) (φ := .f32) (P18 V (Proc.devRef .tc main_v78_3)) (ix4 n B h x)
    = Ideal.exp (fv (s := S8x4x64x1x256) (φ := .f32) (P14 V (Proc.devRef .tc main_v56)) (ix5 B h n 0 x)) := by
  rw [← keep17_v56]
  refine Eq.trans (congrFun ?_ _) (t4_at _ B h n x)
  unfold P18
  generalize P17 V = W
  after_reads_simp
  rfl
theorem e4 : (P18 V (Proc.devRef .tc main_v78_4) : IVec S_ 32) = constantI S_ 32 0#32 := by
  unfold P18
  generalize P17 V = W
  after_reads_simp
  rfl
theorem e5 : P18 V (Proc.devRef .tc main_v78_5) = P12 V (Proc.devRef .tc main_v50) := by
  rw [← keep17_v50]
  unfold P18
  generalize P17 V = W
  after_reads_simp
  rfl

/-- The state the loop starts from. -/
theorem f5 (x : Fin 256) (e : Fin 512) : fv (s := S8x4x256x512) (φ := .f32) (P18 V (Proc.devRef .tc main_v78_5)) (ix4 B h x e) = (argsV V).init (dB B) (bB B) h x e := by
  rw [e5]; exact rv50 V B h x e
/-- The values the loop reads. -/
theorem f2 (n i : Fin 64) (e : Fin 512) : fv (s := S64x8x4x64x512) (φ := .f32) (P18 V (Proc.devRef .tc main_v78_2)) (ix5 n B h i e)
    = vs (argsV V) (dB B) (bB B) h n.val i e := (e2 V B h n i e).trans (vv V B h n i e)

variable (hR : RealArgs (argsV V))
include hR

/-- The decayed queries the loop reads. -/
theorem f0 (n i : Fin 64) (x : Fin 256) : fv (s := S64x8x4x64x256) (φ := .f32) (P18 V (Proc.devRef .tc main_v78_0)) (ix5 n B h i x)
    = qs (argsV V) (dB B) (bB B) h n.val i x * Ideal.exp (cum (las (argsV V) (dB B) (bB B) h n.val) i x) := by
  rw [e0, c58, vq, vc V B h hR]
/-- The decayed keys the loop reads. -/
theorem f1 (n i : Fin 64) (x : Fin 256) : fv (s := S64x8x4x64x256) (φ := .f32) (P18 V (Proc.devRef .tc main_v78_1)) (ix5 n B h i x)
    = ks (argsV V) (dB B) (bB B) h n.val i x
      * Ideal.exp (tot (las (argsV V) (dB B) (bB B) h n.val) x - cum (las (argsV V) (dB B) (bB B) h n.val) i x) := by
  rw [e1, c65, vk, vt V B h hR, vc V B h hR]
/-- The whole chunks' decays the loop reads. -/
theorem f3 (n : Fin 64) (x : Fin 256) : fv (s := S64x8x4x256) (φ := .f32) (P18 V (Proc.devRef .tc main_v78_3)) (ix4 n B h x)
    = Ideal.exp (tot (las (argsV V) (dB B) (bB B) h n.val) x) := by
  rw [e3, c56, vt V B h hR]
/-- The scores within a chunk. -/
theorem f69 (n i j : Fin 64) : fv (s := S8x4x64x64x64) (φ := .f32) (P17 V (Proc.devRef .tc main_v69)) (ix5 B h n i j)
    = sc (qs (argsV V) (dB B) (bB B) h n.val) (ks (argsV V) (dB B) (bB B) h n.val) (las (argsV V) (dB B) (bB B) h n.val) i j := by
  unfold sc
  rw [c69, c68]
  by_cases hij : j ≤ i
  · rw [if_pos hij, if_pos hij]
    exact Finset.sum_congr rfl fun x _ => by rw [c58, c61, vq, vk, vc V B h hR, vc V B h hR]
  · rw [if_neg hij, if_neg hij]
/-- The part of a chunk's result that comes from the chunk itself. -/
theorem f70 (n i : Fin 64) (e : Fin 512) : fv (s := S8x4x64x64x512) (φ := .f32) (P18 V (Proc.devRef .tc main_v70)) (ix5 B h n i e)
    = ∑ j, sc (qs (argsV V) (dB B) (bB B) h n.val) (ks (argsV V) (dB B) (bB B) h n.val) (las (argsV V) (dB B) (bB B) h n.val) i j
        * vs (argsV V) (dB B) (bB B) h n.val j e := by
  rw [e70]
  exact Finset.sum_congr rfl fun j _ => by rw [f69 V B h hR, vv]

end Entry

end Cert.ReferenceIdeal.GA

end
-- ==== Proof.GlaRefL.lean ====
/-
  The recurrence's reference: its loop, one chunk a trip.
-/
module

public import proofs.«01_k».proof.Proof.GlaRefA
public import Idealize.ShloMosaic.Lib.DynamicIndex

@[expose] public section

set_option maxRecDepth 16384

noncomputable section

open Idealize.ShloMosaic Idealize.ShloMosaic.TcCoe Idealize.SL.Sem
open Idealize.ShloMosaic.StableHlo

namespace Cert.ReferenceIdeal.GL

open Cert.ReferenceIdeal Cert.ReferenceIdeal.Gen Cert.ReferenceIdeal.Value Cert.GlaSpec Cert.FiniteReals Cert.ReferenceIdeal.GA

/-- The starts of a slice of one chunk of a five-axis array. -/
abbrev st5 (c : IVec S_ 32) : Fin 5 → Int := fun k =>
  (((![c, constantI S_ 32 0#32, constantI S_ 32 0#32, constantI S_ 32 0#32, constantI S_ 32 0#32] : Fin 5 → (⟨S_, .i32⟩ : BufTy).Contents (Elt Ideal))) k (Shape.Idx.first h_S_)).toInt
/-- The starts of a slice of one chunk of a four-axis array. -/
abbrev st4 (c : IVec S_ 32) : Fin 4 → Int := fun k =>
  (((![c, constantI S_ 32 0#32, constantI S_ 32 0#32, constantI S_ 32 0#32] : Fin 4 → (⟨S_, .i32⟩ : BufTy).Contents (Elt Ideal))) k (Shape.Idx.first h_S_)).toInt

section Slices
variable (c : IVec S_ 32) (n : Fin 64) (hc : c (Shape.Idx.first h_S_) = BitVec.ofNat 32 n.val)
include hc

theorem st5_eq : ∀ a : Fin 5, st5 c a = ((![n.val, 0, 0, 0, 0] : Fin 5 → ℕ) a : Int)
  | ⟨0, _⟩ => by
    show (c (Shape.Idx.first h_S_)).toInt = (n.val : Int)
    rw [hc]; exact toInt_ofNat_of_lt (by have := n.isLt; omega)
  | ⟨1, _⟩ => rfl
  | ⟨2, _⟩ => rfl
  | ⟨3, _⟩ => rfl
  | ⟨4, _⟩ => rfl
theorem st4_eq : ∀ a : Fin 4, st4 c a = ((![n.val, 0, 0, 0] : Fin 4 → ℕ) a : Int)
  | ⟨0, _⟩ => by
    show (c (Shape.Idx.first h_S_)).toInt = (n.val : Int)
    rw [hc]; exact toInt_ofNat_of_lt (by have := n.isLt; omega)
  | ⟨1, _⟩ => rfl
  | ⟨2, _⟩ => rfl
  | ⟨3, _⟩ => rfl

theorem sl256 : S64x8x4x64x256.Slices (![n.val, 0, 0, 0, 0] : Fin 5 → ℕ) S1x8x4x64x256 :=
  ⟨rfl, fun
    | ⟨0, _⟩ => by show n.val + 1 ≤ 64; have := n.isLt; omega
    | ⟨1, _⟩ => Nat.le_refl _
    | ⟨2, _⟩ => Nat.le_refl _
    | ⟨3, _⟩ => Nat.le_refl _
    | ⟨4, _⟩ => Nat.le_refl _⟩
theorem sl512 : S64x8x4x64x512.Slices (![n.val, 0, 0, 0, 0] : Fin 5 → ℕ) S1x8x4x64x512 :=
  ⟨rfl, fun
    | ⟨0, _⟩ => by show n.val + 1 ≤ 64; have := n.isLt; omega
    | ⟨1, _⟩ => Nat.le_refl _
    | ⟨2, _⟩ => Nat.le_refl _
    | ⟨3, _⟩ => Nat.le_refl _
    | ⟨4, _⟩ => Nat.le_refl _⟩
theorem sl4 : S64x8x4x256.Slices (![n.val, 0, 0, 0] : Fin 4 → ℕ) S1x8x4x256 :=
  ⟨rfl, fun
    | ⟨0, _⟩ => by show n.val + 1 ≤ 64; have := n.isLt; omega
    | ⟨1, _⟩ => Nat.le_refl _
    | ⟨2, _⟩ => Nat.le_refl _
    | ⟨3, _⟩ => Nat.le_refl _⟩

omit hc in
theorem drop256 (y : FVec Ideal S1x8x4x64x256 .f32) (B : Fin 8) (h : Fin 4) (i : Fin 64) (x : Fin 256) :
    (shapeCast S8x4x64x256 y shapeCasts_S1x8x4x64x256_S8x4x64x256 : FVec Ideal S8x4x64x256 .f32) (ix4 B h i x) = y (ix5 0 B h i x) := by pointwise []
omit hc in
theorem drop512 (y : FVec Ideal S1x8x4x64x512 .f32) (B : Fin 8) (h : Fin 4) (i : Fin 64) (x : Fin 512) :
    (shapeCast S8x4x64x512 y shapeCasts_S1x8x4x64x512_S8x4x64x512 : FVec Ideal S8x4x64x512 .f32) (ix4 B h i x) = y (ix5 0 B h i x) := by pointwise []
omit hc in
theorem drop4 (y : FVec Ideal S1x8x4x256 .f32) (B : Fin 8) (h : Fin 4) (x : Fin 256) :
    (shapeCast S8x4x256 y shapeCasts_S1x8x4x256_S8x4x256 : FVec Ideal S8x4x256 .f32) (ix3 B h x) = y (ix4 0 B h x) := by pointwise []

theorem row256 (X : FVec Ideal S64x8x4x64x256 .f32) (B : Fin 8) (h : Fin 4) (i : Fin 64) (x : Fin 256) :
    (shapeCast S8x4x64x256 (Host.dynamicSlice S1x8x4x64x256 X (st5 c) sliceFits_S64x8x4x64x256_S1x8x4x64x256) shapeCasts_S1x8x4x64x256_S8x4x64x256 : FVec Ideal S8x4x64x256 .f32)
      (ix4 B h i x) = X (ix5 n B h i x) := by
  rw [drop256, Host.dynamicSlice_eq_extractStridedSlice _ X _ _ _ (sl256 c n hc) (st5_eq c n hc)]
  refine congrArg X (funext fun a => Fin.ext ?_)
  match a with
  | ⟨0, _⟩ => rfl
  | ⟨1, _⟩ => exact Nat.zero_add _
  | ⟨2, _⟩ => exact Nat.zero_add _
  | ⟨3, _⟩ => exact Nat.zero_add _
  | ⟨4, _⟩ => exact Nat.zero_add _
theorem row512 (X : FVec Ideal S64x8x4x64x512 .f32) (B : Fin 8) (h : Fin 4) (i : Fin 64) (x : Fin 512) :
    (shapeCast S8x4x64x512 (Host.dynamicSlice S1x8x4x64x512 X (st5 c) sliceFits_S64x8x4x64x512_S1x8x4x64x512) shapeCasts_S1x8x4x64x512_S8x4x64x512 : FVec Ideal S8x4x64x512 .f32)
      (ix4 B h i x) = X (ix5 n B h i x) := by
  rw [drop512, Host.dynamicSlice_eq_extractStridedSlice _ X _ _ _ (sl512 c n hc) (st5_eq c n hc)]
  refine congrArg X (funext fun a => Fin.ext ?_)
  match a with
  | ⟨0, _⟩ => rfl
  | ⟨1, _⟩ => exact Nat.zero_add _
  | ⟨2, _⟩ => exact Nat.zero_add _
  | ⟨3, _⟩ => exact Nat.zero_add _
  | ⟨4, _⟩ => exact Nat.zero_add _
theorem row4 (X : FVec Ideal S64x8x4x256 .f32) (B : Fin 8) (h : Fin 4) (x : Fin 256) :
    (shapeCast S8x4x256 (Host.dynamicSlice S1x8x4x256 X (st4 c) sliceFits_S64x8x4x256_S1x8x4x256) shapeCasts_S1x8x4x256_S8x4x256 : FVec Ideal S8x4x256 .f32)
      (ix3 B h x) = X (ix4 n B h x) := by
  rw [drop4, Host.dynamicSlice_eq_extractStridedSlice _ X _ _ _ (sl4 c n hc) (st4_eq c n hc)]
  refine congrArg X (funext fun a => Fin.ext ?_)
  match a with
  | ⟨0, _⟩ => rfl
  | ⟨1, _⟩ => exact Nat.zero_add _
  | ⟨2, _⟩ => exact Nat.zero_add _
  | ⟨3, _⟩ => exact Nat.zero_add _

omit hc in
theorem dotS (a : FVec Ideal S8x4x64x256 .f32) (b : FVec Ideal S8x4x64x512 .f32) (B : Fin 8) (h : Fin 4) (x : Fin 256) (e : Fin 512) :
    (Host.dotGeneral (F := Ideal) dot_S8x4x64x256_S8x4x64x512_S8x4x256x512_2_2_3_3_01_01 none a b : FVec Ideal S8x4x256x512 .f32) (ix4 B h x e)
      = ∑ i : Fin 64, a (ix4 B h i x) * b (ix4 B h i e) := by pointwise []
omit hc in
theorem dotO (a : FVec Ideal S8x4x64x256 .f32) (b : FVec Ideal S8x4x256x512 .f32) (B : Fin 8) (h : Fin 4) (i : Fin 64) (e : Fin 512) :
    (Host.dotGeneral (F := Ideal) dot_S8x4x64x256_S8x4x256x512_S8x4x64x512_3_2_2_3_01_01 none a b : FVec Ideal S8x4x64x512 .f32) (ix4 B h i e)
      = ∑ x : Fin 256, a (ix4 B h i x) * b (ix4 B h x e) := by pointwise []
omit hc in
theorem spread (y : FVec Ideal S8x4x256 .f32) (B : Fin 8) (h : Fin 4) (x : Fin 256) (e : Fin 512) :
    (broadcastInDim S8x4x256x512 ![0, 1, 2, 3] bcast_S8x4x256x1_S8x4x256x512_0_1_2_3 (broadcastInDim S8x4x256x1 ![0, 1, 2] bcast_S8x4x256_S8x4x256x1_0_1_2 y) : FVec Ideal S8x4x256x512 .f32)
      (ix4 B h x e) = y (ix3 B h x) := by pointwise []
omit hc in
theorem lift (y : FVec Ideal S8x4x64x512 .f32) (z : Fin 1) (B : Fin 8) (h : Fin 4) (i : Fin 64) (e : Fin 512) :
    (broadcastInDim S1x8x4x64x512 ![1, 2, 3, 4] bcast_S8x4x64x512_S1x8x4x64x512_1_2_3_4 y : FVec Ideal S1x8x4x64x512 .f32) (ix5 z B h i e) = y (ix4 B h i e) := by pointwise []

/-- The state after a trip. -/
theorem next_at (S : FVec Ideal S8x4x256x512 .f32) (X1 : FVec Ideal S64x8x4x64x256 .f32) (X2 : FVec Ideal S64x8x4x64x512 .f32) (X3 : FVec Ideal S64x8x4x256 .f32)
    (B : Fin 8) (h : Fin 4) (x : Fin 256) (e : Fin 512) :
    (addf (F := Ideal) (mulf S (broadcastInDim S8x4x256x512 ![0, 1, 2, 3] bcast_S8x4x256x1_S8x4x256x512_0_1_2_3 (broadcastInDim S8x4x256x1 ![0, 1, 2] bcast_S8x4x256_S8x4x256x1_0_1_2
        (shapeCast S8x4x256 (Host.dynamicSlice S1x8x4x256 X3 (st4 c) sliceFits_S64x8x4x256_S1x8x4x256) shapeCasts_S1x8x4x256_S8x4x256))))
      (Host.dotGeneral (F := Ideal) dot_S8x4x64x256_S8x4x64x512_S8x4x256x512_2_2_3_3_01_01 none
        (shapeCast S8x4x64x256 (Host.dynamicSlice S1x8x4x64x256 X1 (st5 c) sliceFits_S64x8x4x64x256_S1x8x4x64x256) shapeCasts_S1x8x4x64x256_S8x4x64x256)
        (shapeCast S8x4x64x512 (Host.dynamicSlice S1x8x4x64x512 X2 (st5 c) sliceFits_S64x8x4x64x512_S1x8x4x64x512) shapeCasts_S1x8x4x64x512_S8x4x64x512)) : FVec Ideal S8x4x256x512 .f32)
      (ix4 B h x e) = S (ix4 B h x e) * X3 (ix4 n B h x) + ∑ i : Fin 64, X1 (ix5 n B h i x) * X2 (ix5 n B h i e) := by
  refine congrArg₂ (· + ·) (congrArg (S (ix4 B h x e) * ·) ((spread _ B h x e).trans (row4 c n hc X3 B h x))) ((dotS _ _ B h x e).trans ?_)
  exact Finset.sum_congr rfl fun i _ => congrArg₂ (· * ·) (row256 c n hc X1 B h i x) (row512 c n hc X2 B h i e)

/-- The row a trip stores. -/
theorem stored_at (S : FVec Ideal S8x4x256x512 .f32) (X0 : FVec Ideal S64x8x4x64x256 .f32) (z : Fin 1) (B : Fin 8) (h : Fin 4) (i : Fin 64) (e : Fin 512) :
    (broadcastInDim S1x8x4x64x512 ![1, 2, 3, 4] bcast_S8x4x64x512_S1x8x4x64x512_1_2_3_4
      (Host.dotGeneral (F := Ideal) dot_S8x4x64x256_S8x4x256x512_S8x4x64x512_3_2_2_3_01_01 none
        (shapeCast S8x4x64x256 (Host.dynamicSlice S1x8x4x64x256 X0 (st5 c) sliceFits_S64x8x4x64x256_S1x8x4x64x256) shapeCasts_S1x8x4x64x256_S8x4x64x256) S) : FVec Ideal S1x8x4x64x512 .f32)
      (ix5 z B h i e) = ∑ x : Fin 256, X0 (ix5 n B h i x) * S (ix4 B h x e) := by
  refine (lift _ z B h i e).trans ((dotO _ _ B h i e).trans ?_)
  exact Finset.sum_congr rfl fun x _ => congrArg (· * S (ix4 B h x e)) (row256 c n hc X0 B h i x)

theorem update_eq (X : FVec Ideal S64x8x4x64x512 .f32) (U : FVec Ideal S1x8x4x64x512 .f32) :
    Host.dynamicUpdateSlice X U (st5 c) updateFits_S64x8x4x64x512_S1x8x4x64x512 = updateSlice X U (![n.val, 0, 0, 0, 0] : Fin 5 → ℕ) (sl512 c n hc) :=
  Host.dynamicUpdateSlice_eq_updateSlice X U _ _ _ (fun a => by
    have h1 := (sl512 c n hc).2 a
    rw [st5_eq c n hc a]
    omega) _

theorem update_same (X : FVec Ideal S64x8x4x64x512 .f32) (U : FVec Ideal S1x8x4x64x512 .f32) (B : Fin 8) (h : Fin 4) (i : Fin 64) (e : Fin 512) :
    (Host.dynamicUpdateSlice X U (st5 c) updateFits_S64x8x4x64x512_S1x8x4x64x512 : FVec Ideal S64x8x4x64x512 .f32) (ix5 n B h i e) = U (ix5 0 B h i e) := by
  rw [update_eq c n hc]
  refine (dif_pos ?_).trans (congrArg U (funext fun a => Fin.ext ?_))
  · intro a
    match a with
    | ⟨0, _⟩ => exact ⟨Nat.le_refl _, Nat.lt_succ_self _⟩
    | ⟨1, _⟩ => exact ⟨Nat.zero_le _, by show B.val < 0 + 8; have := B.isLt; omega⟩
    | ⟨2, _⟩ => exact ⟨Nat.zero_le _, by show h.val < 0 + 4; have := h.isLt; omega⟩
    | ⟨3, _⟩ => exact ⟨Nat.zero_le _, by show i.val < 0 + 64; have := i.isLt; omega⟩
    | ⟨4, _⟩ => exact ⟨Nat.zero_le _, by show e.val < 0 + 512; have := e.isLt; omega⟩
  · match a with
    | ⟨0, _⟩ => exact Nat.sub_self _
    | ⟨1, _⟩ => rfl
    | ⟨2, _⟩ => rfl
    | ⟨3, _⟩ => rfl
    | ⟨4, _⟩ => rfl

theorem update_other (X : FVec Ideal S64x8x4x64x512 .f32) (U : FVec Ideal S1x8x4x64x512 .f32) (n' : Fin 64) (hn : n'.val < n.val) (B : Fin 8) (h : Fin 4) (i : Fin 64) (e : Fin 512) :
    (Host.dynamicUpdateSlice X U (st5 c) updateFits_S64x8x4x64x512_S1x8x4x64x512 : FVec Ideal S64x8x4x64x512 .f32) (ix5 n' B h i e) = X (ix5 n' B h i e) := by
  rw [update_eq c n hc]
  refine dif_neg fun hin => ?_
  have h0 : n.val ≤ n'.val := (hin (0 : Fin 5)).1
  omega

end Slices

section Loop
variable (E : Vl)

/-- The arrays the loop reads. -/
abbrev X0 : S64x8x4x64x256.Idx → EReal := fv (s := S64x8x4x64x256) (φ := .f32) (E (Proc.devRef .tc main_v78_0))
abbrev X1 : S64x8x4x64x256.Idx → EReal := fv (s := S64x8x4x64x256) (φ := .f32) (E (Proc.devRef .tc main_v78_1))
abbrev X2 : S64x8x4x64x512.Idx → EReal := fv (s := S64x8x4x64x512) (φ := .f32) (E (Proc.devRef .tc main_v78_2))
abbrev X3 : S64x8x4x256.Idx → EReal := fv (s := S64x8x4x256) (φ := .f32) (E (Proc.devRef .tc main_v78_3))

/-- The state after the first `n` trips. -/
def lst : ℕ → Fin 8 → Fin 4 → Fin 256 → Fin 512 → EReal
  | 0 => fun B h x e => fv (s := S8x4x256x512) (φ := .f32) (E (Proc.devRef .tc main_v78_5)) (ix4 B h x e)
  | k + 1 => fun B h x e => lst k B h x e * X3 E (ix4 ⟨k % 64, Nat.mod_lt _ (by decide)⟩ B h x)
      + ∑ i : Fin 64, X1 E (ix5 ⟨k % 64, Nat.mod_lt _ (by decide)⟩ B h i x) * X2 E (ix5 ⟨k % 64, Nat.mod_lt _ (by decide)⟩ B h i e)

theorem it0 : ∀ k, STEP^[k] E (Proc.devRef .tc main_v78_0) = E (Proc.devRef .tc main_v78_0)
  | 0 => rfl
  | k + 1 => by rw [Function.iterate_succ_apply', STEP_main_v78_0, it0 k]
theorem it1 : ∀ k, STEP^[k] E (Proc.devRef .tc main_v78_1) = E (Proc.devRef .tc main_v78_1)
  | 0 => rfl
  | k + 1 => by rw [Function.iterate_succ_apply', STEP_main_v78_1, it1 k]
theorem it2 : ∀ k, STEP^[k] E (Proc.devRef .tc main_v78_2) = E (Proc.devRef .tc main_v78_2)
  | 0 => rfl
  | k + 1 => by rw [Function.iterate_succ_apply', STEP_main_v78_2, it2 k]
theorem it3 : ∀ k, STEP^[k] E (Proc.devRef .tc main_v78_3) = E (Proc.devRef .tc main_v78_3)
  | 0 => rfl
  | k + 1 => by rw [Function.iterate_succ_apply', STEP_main_v78_3, it3 k]

variable (h4 : (E (Proc.devRef .tc main_v78_4) : IVec S_ 32) = constantI S_ 32 0#32)
include h4

theorem it4 : ∀ k, (STEP^[k] E (Proc.devRef .tc main_v78_4) : IVec S_ 32) (Shape.Idx.first h_S_) = BitVec.ofNat 32 k
  | 0 => by show (E (Proc.devRef .tc main_v78_4) : IVec S_ 32) (Shape.Idx.first h_S_) = _; rw [h4]; rfl
  | k + 1 => by
    rw [Function.iterate_succ_apply', STEP_main_v78_4]
    exact (congrArg (fun w : BitVec 32 => w + 1#32) (it4 k)).trans (BitVec.ofNat_add k 1).symm

theorem it5 : ∀ k, k ≤ 64 → ∀ (B : Fin 8) (h : Fin 4) (x : Fin 256) (e : Fin 512),
    fv (s := S8x4x256x512) (φ := .f32) (STEP^[k] E (Proc.devRef .tc main_v78_5)) (ix4 B h x e) = lst E k B h x e
  | 0, _, B, h, x, e => rfl
  | k + 1, hk, B, h, x, e => by
    rw [Function.iterate_succ_apply', STEP_main_v78_5]
    have hm : k % 64 = k := Nat.mod_eq_of_lt (by omega)
    refine (next_at (STEP^[k] E (Proc.devRef .tc main_v78_4)) ⟨k % 64, Nat.mod_lt _ (by decide)⟩ ((it4 E h4 k).trans (congrArg (BitVec.ofNat 32) hm.symm)) _ _ _ _ B h x e).trans ?_
    rw [it1, it2, it3]
    exact congrArg (fun s => s * X3 E (ix4 ⟨k % 64, Nat.mod_lt _ (by decide)⟩ B h x) + _) (it5 k (by omega) B h x e)

theorem it6 : ∀ k, k ≤ 64 → ∀ (n : Fin 64), n.val < k → ∀ (B : Fin 8) (h : Fin 4) (i : Fin 64) (e : Fin 512),
    fv (s := S64x8x4x64x512) (φ := .f32) (STEP^[k] E (Proc.devRef .tc main_v78_6)) (ix5 n B h i e) = ∑ x : Fin 256, X0 E (ix5 n B h i x) * lst E n.val B h x e
  | 0, _, n, hn, _, _, _, _ => absurd hn (Nat.not_lt_zero _)
  | k + 1, hk, n, hn, B, h, i, e => by
    rw [Function.iterate_succ_apply', STEP_main_v78_6]
    have hk' : k < 64 := by omega
    by_cases hnk : n.val = k
    · refine (update_same (STEP^[k] E (Proc.devRef .tc main_v78_4)) n (by rw [it4 E h4 k, hnk]) _ _ B h i e).trans ?_
      refine (stored_at (STEP^[k] E (Proc.devRef .tc main_v78_4)) n (by rw [it4 E h4 k, hnk]) _ _ 0 B h i e).trans ?_
      rw [it0]
      exact Finset.sum_congr rfl fun x _ => congrArg (X0 E (ix5 n B h i x) * ·) ((it5 E h4 k (by omega) B h x e).trans (by rw [hnk]))
    · refine (update_other (STEP^[k] E (Proc.devRef .tc main_v78_4)) ⟨k, hk'⟩ (it4 E h4 k) _ _ n (by show n.val < k; omega) B h i e).trans ?_
      exact it6 k (by omega) n (by omega) B h i e

end Loop

end Cert.ReferenceIdeal.GL

end
-- ==== Proof.GlaRefD.lean ====
/-
  The recurrence's reference: from the loop's results to the call's.
-/
module

public import proofs.«01_k».proof.Proof.GlaRefA

@[expose] public section

set_option maxRecDepth 16384

noncomputable section

open Idealize.ShloMosaic Idealize.ShloMosaic.TcCoe Idealize.SL.Sem
open Idealize.ShloMosaic.StableHlo

namespace Cert.ReferenceIdeal.GD

open Cert.ReferenceIdeal Cert.ReferenceIdeal.Gen Cert.ReferenceIdeal.Value Cert.GlaSpec Cert.FiniteReals Cert.ReferenceIdeal.GA

theorem lo_at (p : FVec Ideal S8x4x64x64x512 .f32) (r : FVec Ideal S64x8x4x64x512 .f32) (b h : Fin 4) (t : Fin 4096) (e : Fin 512) :
    (extractStridedSlice S4x4x4096x512 ![0, 0, 0, 0] (shapeCast S8x4x4096x512 (addf p (transpose S8x4x64x64x512 [1, 2, 0, 3, 4] r transposes_S64x8x4x64x512_S8x4x64x64x512_1_2_0_3_4))
      shapeCasts_S8x4x64x64x512_S8x4x4096x512) slices_S8x4x4096x512_S4x4x4096x512_0_0_0_0 : FVec Ideal S4x4x4096x512 .f32) (ix4 b h t e)
      = p (ix5 ⟨b.val, by omega⟩ h ⟨t.val / 64, by omega⟩ ⟨t.val % 64, by omega⟩ e) + r (ix5 ⟨t.val / 64, by omega⟩ ⟨b.val, by omega⟩ h ⟨t.val % 64, by omega⟩ e) := by pointwise []
theorem hi_at (p : FVec Ideal S8x4x64x64x512 .f32) (r : FVec Ideal S64x8x4x64x512 .f32) (b h : Fin 4) (t : Fin 4096) (e : Fin 512) :
    (extractStridedSlice S4x4x4096x512 ![4, 0, 0, 0] (shapeCast S8x4x4096x512 (addf p (transpose S8x4x64x64x512 [1, 2, 0, 3, 4] r transposes_S64x8x4x64x512_S8x4x64x64x512_1_2_0_3_4))
      shapeCasts_S8x4x64x64x512_S8x4x4096x512) slices_S8x4x4096x512_S4x4x4096x512_4_0_0_0 : FVec Ideal S4x4x4096x512 .f32) (ix4 b h t e)
      = p (ix5 ⟨4 + b.val, by omega⟩ h ⟨t.val / 64, by omega⟩ ⟨t.val % 64, by omega⟩ e) + r (ix5 ⟨t.val / 64, by omega⟩ ⟨4 + b.val, by omega⟩ h ⟨t.val % 64, by omega⟩ e) := by pointwise []
theorem merge_at (x : FVec Ideal S8x4x4096x512 .f32) (d : Fin 2) (b : Fin 4) (t : Fin 4096) (l : Fin 2048) :
    (truncf .bf16 (shapeCast S2x4x4096x2048 (transpose S8x4096x4x512 [0, 2, 1, 3] x transposes_S8x4x4096x512_S8x4096x4x512_0_2_1_3) shapeCasts_S8x4096x4x512_S2x4x4096x2048)
      bitsLt_bf16_f32 : FVec Ideal S2x4x4096x2048 .bf16) (ix4 d b t l) = x (ix4 ⟨d.val * 4 + b.val, by omega⟩ ⟨l.val / 512, by omega⟩ t ⟨l.val % 512, by omega⟩) := by pointwise []
theorem state_at (x : FVec Ideal S8x4x256x512 .f32) (d : Fin 2) (b h : Fin 4) (a : Fin 256) (e : Fin 512) :
    (shapeCast S2x4x4x256x512 x shapeCasts_S8x4x256x512_S2x4x4x256x512 : FVec Ideal S2x4x4x256x512 .f32) (ix5 d b h a e)
      = x (ix4 ⟨d.val * 4 + b.val, by omega⟩ h a e) := by pointwise []

section Post
variable (W : Vl)

/-- The contents after the first stretch past the loop. -/
def Q0 : Vl := after hostOps0_19 W
/-- The contents after the second. -/
def Q1 : Vl := after hostOps0_20 (Q0 W)
/-- The contents after the third. -/
def Q2 : Vl := after hostOps0_21 (Q1 W)
theorem post_eq : afterL postI W = Q2 W := rfl

/-- The part of a chunk's result that comes from the chunk itself. -/
abbrev Own : S8x4x64x64x512.Idx → EReal := fv (s := S8x4x64x64x512) (φ := .f32) (W (Proc.devRef .tc main_v70))
/-- The part that comes from the state before the chunk. -/
abbrev Old : S64x8x4x64x512.Idx → EReal := fv (s := S64x8x4x64x512) (φ := .f32) (W (Proc.devRef .tc main_v78_6))

theorem p82 (b h : Fin 4) (t : Fin 4096) (e : Fin 512) : fv (s := S4x4x4096x512) (φ := .f32) (Q0 W (Proc.devRef .tc main_v82)) (ix4 b h t e)
    = Own W (ix5 ⟨b.val, by omega⟩ h ⟨t.val / 64, by omega⟩ ⟨t.val % 64, by omega⟩ e) + Old W (ix5 ⟨t.val / 64, by omega⟩ ⟨b.val, by omega⟩ h ⟨t.val % 64, by omega⟩ e) := by
  refine Eq.trans (congrFun ?_ _) (lo_at _ _ b h t e)
  unfold Q0
  after_reads_simp
  rfl
theorem p83 (b h : Fin 4) (t : Fin 4096) (e : Fin 512) : fv (s := S4x4x4096x512) (φ := .f32) (Q0 W (Proc.devRef .tc main_v83)) (ix4 b h t e)
    = Own W (ix5 ⟨4 + b.val, by omega⟩ h ⟨t.val / 64, by omega⟩ ⟨t.val % 64, by omega⟩ e) + Old W (ix5 ⟨t.val / 64, by omega⟩ ⟨4 + b.val, by omega⟩ h ⟨t.val % 64, by omega⟩ e) := by
  refine Eq.trans (congrFun ?_ _) (hi_at _ _ b h t e)
  unfold Q0
  after_reads_simp
  rfl
theorem p84 : Q1 W (Proc.devRef .tc main_v84) = (Host.reverse [2] (Q0 W (Proc.devRef .tc main_v83) : Vec Ideal S4x4x4096x512 .f32) : Vec Ideal S4x4x4096x512 .f32) := by
  unfold Q1
  generalize Q0 W = X
  simp only [hostOps0_20, TRef.unary, TRef.binary, TRef.ternary, TRef.nullary, TRef.toBuf, TRef.ofBuf, cast_eq]
  after_reads_simp
theorem p82' : Q1 W (Proc.devRef .tc main_v82) = Q0 W (Proc.devRef .tc main_v82) :=
  after_of_writes_sub hostOps0_20 _ GV.hostOps0_20_writes (by decide)
theorem p5 : Q1 W (Proc.devRef .tc main_v78_5) = W (Proc.devRef .tc main_v78_5) :=
  (after_of_writes_sub hostOps0_20 _ GV.hostOps0_20_writes (by decide)).trans (after_of_writes_sub hostOps0_19 _ GV.hostOps0_19_writes (by decide))

/-- The call's first result, before it is read in batches. -/
theorem p88 (d : Fin 2) (b : Fin 4) (t : Fin 4096) (l : Fin 2048) : fv (s := S2x4x4096x2048) (φ := .bf16) (Q2 W (Proc.devRef .tc main_v88)) (ix4 d b t l)
    = if hB : d.val * 4 + b.val < 4 then fv (s := S4x4x4096x512) (φ := .f32) (Q0 W (Proc.devRef .tc main_v82)) (ix4 ⟨d.val * 4 + b.val, hB⟩ ⟨l.val / 512, by omega⟩ t ⟨l.val % 512, by omega⟩)
      else fv (s := S4x4x4096x512) (φ := .f32) (Q0 W (Proc.devRef .tc main_v83)) (ix4 ⟨d.val * 4 + b.val - 4, by omega⟩ ⟨l.val / 512, by omega⟩ ⟨4095 - t.val, by omega⟩ ⟨l.val % 512, by omega⟩) := by
  refine Eq.trans (congrFun ?_ _) ((merge_at _ d b t l).trans (cat512_at (Q0 W (Proc.devRef .tc main_v82)) (Q0 W (Proc.devRef .tc main_v83)) ⟨d.val * 4 + b.val, by omega⟩ _ t _))
  rw [← p84, ← p82']
  unfold Q2
  generalize Q1 W = X
  after_reads_simp
  rfl

/-- The call's first result. -/
theorem post88 (d : Fin 2) (b : Fin 4) (t : Fin 4096) (l : Fin 2048) (B : Fin 8) (h : Fin 4) (n i : Fin 64) (e : Fin 512) (hB : B.val = d.val * 4 + b.val)
    (hh : h.val = l.val / 512) (hn : n.val = (tok d t).val / 64) (hi : i.val = (tok d t).val % 64) (he : e.val = l.val % 512) :
    fv (s := S2x4x4096x2048) (φ := .bf16) (afterL postI W (Proc.devRef .tc main_v88)) (ix4 d b t l) = Own W (ix5 B h n i e) + Old W (ix5 n B h i e) := by
  obtain rfl : h = ⟨l.val / 512, Nat.div_lt_of_lt_mul l.isLt⟩ := Fin.ext hh
  obtain rfl : e = ⟨l.val % 512, Nat.mod_lt _ (by decide)⟩ := Fin.ext he
  rw [post_eq, p88]
  have hb := b.isLt
  have hd := d.isLt
  have htl := t.isLt
  by_cases hd0 : d.val = 0
  · have ht : (tok d t).val = t.val := if_pos hd0
    obtain rfl : B = ⟨b.val, Nat.lt_of_lt_of_le b.isLt (by decide)⟩ := Fin.ext (hB.trans (by show _ = b.val; omega))
    obtain rfl : n = ⟨t.val / 64, Nat.div_lt_of_lt_mul t.isLt⟩ := Fin.ext (hn.trans (by rw [ht]))
    obtain rfl : i = ⟨t.val % 64, Nat.mod_lt _ (by decide)⟩ := Fin.ext (hi.trans (by rw [ht]))
    rw [dif_pos (by omega : d.val * 4 + b.val < 4), show (⟨d.val * 4 + b.val, by omega⟩ : Fin 4) = b from Fin.ext (by show d.val * 4 + b.val = b.val; omega), p82]
  · have ht : (tok d t).val = 4095 - t.val := if_neg hd0
    obtain rfl : B = ⟨4 + b.val, Nat.add_lt_add_left b.isLt 4⟩ := Fin.ext (hB.trans (by show _ = 4 + b.val; omega))
    obtain rfl : n = ⟨(4095 - t.val) / 64, Nat.div_lt_of_lt_mul (Nat.lt_succ_of_le (Nat.sub_le 4095 t.val))⟩ := Fin.ext (hn.trans (by rw [ht]))
    obtain rfl : i = ⟨(4095 - t.val) % 64, Nat.mod_lt _ (by decide)⟩ := Fin.ext (hi.trans (by rw [ht]))
    rw [dif_neg (by omega : ¬ d.val * 4 + b.val < 4), show (⟨d.val * 4 + b.val - 4, by omega⟩ : Fin 4) = b from Fin.ext (by show d.val * 4 + b.val - 4 = b.val; omega), p83]

/-- The call's second result. -/
theorem post89 (d : Fin 2) (b h : Fin 4) (a : Fin 256) (e : Fin 512) :
    fv (s := S2x4x4x256x512) (φ := .f32) (afterL postI W (Proc.devRef .tc main_v89)) (ix5 d b h a e)
      = fv (s := S8x4x256x512) (φ := .f32) (W (Proc.devRef .tc main_v78_5)) (ix4 ⟨d.val * 4 + b.val, by omega⟩ h a e) := by
  rw [post_eq, ← p5 W]
  refine Eq.trans (congrFun ?_ _) (state_at _ d b h a e)
  unfold Q2
  generalize Q1 W = X
  after_reads_simp
  rfl

end Post

end Cert.ReferenceIdeal.GD

end
-- ==== Proof.GlaRefE.lean ====
/-
  The recurrence's reference: the two results its run ends with.
-/
module

public import proofs.«01_k».proof.Proof.GlaRefC
public import proofs.«01_k».proof.Proof.GlaRefL
public import proofs.«01_k».proof.Proof.GlaRefD

@[expose] public section

set_option maxRecDepth 16384

noncomputable section

open Idealize.ShloMosaic Idealize.ShloMosaic.TcCoe Idealize.SL.Sem
open Idealize.ShloMosaic.StableHlo

namespace Cert.ReferenceIdeal.GE

open Cert.ReferenceIdeal Cert.ReferenceIdeal.Gen Cert.ReferenceIdeal.Value Cert.GlaSpec Cert.FiniteReals
open Cert.ReferenceIdeal.GA Cert.ReferenceIdeal.GL Cert.ReferenceIdeal.GD

section State
variable (V : Vl) (hR : RealArgs (argsV V))
include hR

/-- The loop's state after `k` trips is the recurrence's. -/
theorem lst_eq (B : Fin 8) (h : Fin 4) : ∀ k, k ≤ 64 → ∀ (x : Fin 256) (e : Fin 512),
    lst (P18 V) k B h x e = sts (argsV V) (dB B) (bB B) h k x e
  | 0, _, x, e => f5 V B h x e
  | k + 1, hk, x, e => by
    have hk' : k < 64 := by omega
    have fn : (⟨k % 64, Nat.mod_lt _ (by decide)⟩ : Fin 64) = ⟨k, hk'⟩ := Fin.ext (Nat.mod_eq_of_lt hk')
    show lst (P18 V) k B h x e * X3 (P18 V) (ix4 ⟨k % 64, Nat.mod_lt _ (by decide)⟩ B h x)
      + ∑ i : Fin 64, X1 (P18 V) (ix5 ⟨k % 64, Nat.mod_lt _ (by decide)⟩ B h i x) * X2 (P18 V) (ix5 ⟨k % 64, Nat.mod_lt _ (by decide)⟩ B h i e) = _
    rw [fn]
    refine congrArg₂ (· + ·) (congrArg₂ (· * ·) (lst_eq B h k (by omega) x e) (f3 V B h hR ⟨k, hk'⟩ x)) (Finset.sum_congr rfl fun i _ => ?_)
    exact congrArg₂ (· * ·) (f1 V B h hR ⟨k, hk'⟩ i x) (f2 V B h ⟨k, hk'⟩ i e)

end State

variable (m : (ℓ : Loc nD τ sig) → Buf (Elt Ideal) ℓ) (c : Dev nD)

/-- The contents the call starts from. -/
abbrev V0 : Vl := launchContents m c

/-- The call's arguments. -/
abbrev args : Args where
  tokens b t l := m ((c.tc : Thread nD τ).loc main_arg0) (ix3 b t l)
  lowrank b t l := m ((c.tc : Thread nD τ).loc main_arg1) (ix3 b t l)
  weight d j l := m ((c.tc : Thread nD τ).loc main_arg2) (ix4 0 d j l)
  bias d l := m ((c.tc : Thread nD τ).loc main_arg3) (ix3 0 d l)
  init d b h x e := m ((c.tc : Thread nD τ).loc main_arg4) (ix5 d b h x e)

theorem args_eq : argsV (V0 m c) = args m c := rfl

theorem entry_eq : entryContents preI m c = P18 (V0 m c) := rfl

theorem body_v70 (V : Valuation τ sig (Elt Ideal)) : afterL bodyI V (Proc.devRef .tc main_v70) = V (Proc.devRef .tc main_v70) := by
  simp only [afterL_cons, afterL_nil]
  rw [after_of_writes_sub while0Ops0_6 _ while0Ops0_6_writes (by decide), after_of_writes_sub while0Ops0_5 _ while0Ops0_5_writes (by decide),
    after_of_writes_sub while0Ops0_4 _ while0Ops0_4_writes (by decide), after_of_writes_sub while0Ops0_3 _ while0Ops0_3_writes (by decide),
    after_of_writes_sub while0Ops0_2 _ while0Ops0_2_writes (by decide), after_of_writes_sub while0Ops0_1 _ while0Ops0_1_writes (by decide),
    after_of_writes_sub while0Ops0 _ while0Ops0_writes (by decide)]

/-- The contents the loop leaves. -/
abbrev W64 : Vl := after condOps (atK m 64 c)

theorem w70 : W64 m c (Proc.devRef .tc main_v70) = P18 (V0 m c) (Proc.devRef .tc main_v70) :=
  (after_of_writes_sub condOps _ condOps_writes (by decide)).trans
    (GV.atK_keep m c main_v70 (fun V => after_of_writes_sub condOps V condOps_writes (by decide)) body_v70 64)
theorem w5 : W64 m c (Proc.devRef .tc main_v78_5) = STEP^[64] (P18 (V0 m c)) (Proc.devRef .tc main_v78_5) :=
  (cond_keeps (atK m 64 c) main_v78_5 (by decide)).trans (atK_agree m c 64 main_v78_5 (by decide))
theorem w6 : W64 m c (Proc.devRef .tc main_v78_6) = STEP^[64] (P18 (V0 m c)) (Proc.devRef .tc main_v78_6) :=
  (cond_keeps (atK m 64 c) main_v78_6 (by decide)).trans (atK_agree m c 64 main_v78_6 (by decide))

variable (hR : RealArgs (args m c))
include hR

theorem own (B : Fin 8) (h : Fin 4) (n i : Fin 64) (e : Fin 512) : Own (W64 m c) (ix5 B h n i e)
    = ∑ j, sc (qs (args m c) (dB B) (bB B) h n.val) (ks (args m c) (dB B) (bB B) h n.val) (las (args m c) (dB B) (bB B) h n.val) i j
        * vs (args m c) (dB B) (bB B) h n.val j e := by
  unfold Own
  rw [w70]
  exact f70 (V0 m c) B h hR n i e

theorem old (B : Fin 8) (h : Fin 4) (n i : Fin 64) (e : Fin 512) : Old (W64 m c) (ix5 n B h i e)
    = ∑ x, qs (args m c) (dB B) (bB B) h n.val i x * Ideal.exp (cum (las (args m c) (dB B) (bB B) h n.val) i x)
        * sts (args m c) (dB B) (bB B) h n.val x e := by
  unfold Old
  rw [w6]
  refine (it6 (P18 (V0 m c)) (e4 (V0 m c)) 64 (le_refl _) n n.isLt B h i e).trans (Finset.sum_congr rfl fun x _ => ?_)
  exact congrArg₂ (· * ·) (f0 (V0 m c) B h hR n i x) (lst_eq (V0 m c) hR B h n.val (le_of_lt n.isLt) x e)

/-- The first result. -/
theorem final88 (d : Fin 2) (b : Fin 4) (t : Fin 4096) (l : Fin 2048) :
    fv (s := S2x4x4096x2048) (φ := .bf16) (finalContents condOps preI bodyI postI 64 m c (Proc.devRef .tc main_v88)) (ix4 d b t l) = result (args m c) d b t l := by
  have hd : dB ⟨d.val * 4 + b.val, by omega⟩ = d := Fin.ext (by show (d.val * 4 + b.val) / 4 = d.val; omega)
  have hb : bB ⟨d.val * 4 + b.val, by omega⟩ = b := Fin.ext (by show (d.val * 4 + b.val) % 4 = b.val; omega)
  refine (post88 (W64 m c) d b t l ⟨d.val * 4 + b.val, by omega⟩ ⟨l.val / 512, by omega⟩ ⟨(tok d t).val / 64, by omega⟩
    ⟨(tok d t).val % 64, Nat.mod_lt _ (by decide)⟩ ⟨l.val % 512, Nat.mod_lt _ (by decide)⟩ rfl rfl rfl rfl rfl).trans ?_
  rw [own m c hR, old m c hR, hd, hb]
  rfl

/-- The second result. -/
theorem final89 (d : Fin 2) (b h : Fin 4) (x : Fin 256) (e : Fin 512) :
    fv (s := S2x4x4x256x512) (φ := .f32) (finalContents condOps preI bodyI postI 64 m c (Proc.devRef .tc main_v89)) (ix5 d b h x e) = sts (args m c) d b h 64 x e := by
  have hd : dB ⟨d.val * 4 + b.val, by omega⟩ = d := Fin.ext (by show (d.val * 4 + b.val) / 4 = d.val; omega)
  have hb : bB ⟨d.val * 4 + b.val, by omega⟩ = b := Fin.ext (by show (d.val * 4 + b.val) % 4 = b.val; omega)
  refine (post89 (W64 m c) d b h x e).trans ?_
  rw [w5]
  refine (it5 (P18 (V0 m c)) (e4 (V0 m c)) 64 (le_refl _) _ h x e).trans ?_
  rw [lst_eq (V0 m c) hR _ h 64 (le_refl _), hd, hb]

end Cert.ReferenceIdeal.GE

end
-- ==== Proof.GatesReal.lean ====
/-
  The recurrence's precondition read back: every entry the gates are made of is a real number.
-/
module

public import proofs.«01_k».proof.Proof.FiniteReals

@[expose] public section
set_option maxRecDepth 16384
noncomputable section

namespace Cert.Pre_finite_gates.Gen
open Idealize.ShloMosaic Cert.FiniteReals Cert.Pre_finite_gates

instance facts : Cert.Pre_finite_gates.Facts where
  bcast_S_S4x4096x128 := by decide
  reducesTo_S4x4096x128_S_d0_1_2 := by decide
  h_S_ := by decide
  bcast_S_S1x2x16x1024 := by decide
  reducesTo_S1x2x16x1024_S_d0_1_2_3 := by decide
  bcast_S_S1x2x1024 := by decide
  reducesTo_S1x2x1024_S_d0_1_2 := by decide

theorem reals (a0 : FVec Ideal S4x4096x14336 .bf16) (a1 : FVec Ideal S4x4096x128 .f32) (a2 : FVec Ideal S1x2x16x1024 .f32) (a3 : FVec Ideal S1x2x1024 .f32)
    (a4 : FVec Ideal S2x4x4x256x512 .f32) (h : fn (F := Ideal) a0 a1 a2 a3 a4 = fun _ => 1#1) :
    (∀ i, IsR (a1 i)) ∧ (∀ i, IsR (a2 i)) ∧ (∀ i, IsR (a3 i)) := by
  haveI : Subsingleton S_.Idx := sub0 rfl
  have j : S_.Idx := Shape.Idx.first Facts.h_S_
  have e := congrFun h j
  unfold fn at e
  dsimp only at e
  obtain ⟨e, e2⟩ := IntOp.andi_eq_one.1 e
  obtain ⟨e0, e1⟩ := IntOp.andi_eq_one.1 e
  exact ⟨fun i => real_of_abs_lt _ (Host.reduce_andi_all _ _ _ _ j e0 i), fun i => real_of_abs_lt _ (Host.reduce_andi_all _ _ _ _ j e1 i),
    fun i => real_of_abs_lt _ (Host.reduce_andi_all _ _ _ _ j e2 i)⟩

end Cert.Pre_finite_gates.Gen
end
-- ==== Proof.GlaClaim.lean ====
/-
  The recurrence: its two result arrays are the reference's.
-/
module

public import proofs.«01_k».proof.Defs
public import proofs.«01_k».proof.Proof.GlaValue
public import proofs.«01_k».proof.Proof.GlaRefE
public import proofs.«01_k».proof.Proof.GatesReal

@[expose] public section

set_option maxRecDepth 16384

noncomputable section

open Idealize.ShloMosaic Idealize.ShloMosaic.TcCoe Idealize.SL.Sem
open Idealize.ShloMosaic.StableHlo
open Cert.GlaSpec Cert.FiniteReals

namespace Cert.KernelIdeal.GK

open Cert.KernelIdeal Cert.KernelIdeal.Gen Cert.Proof.Gla

variable (m : (ℓ : Loc nD τ sig) → Buf (Elt Ideal) ℓ)

/-- After the run the two result arrays are the recurrence's and the arguments are unchanged. -/
theorem run_values (ρ : Dev nD → PrngReg) (h : ∀ c, Reals (args m c)) :
    θ_run defs (onTc (τ := τ) (main (F := Ideal))) ⟨m, fun _ => 0, ρ⟩ fun r => ∀ c : Dev nD,
      r.2.mem ((c : Thread nD τ).loc main_v15_0) = G7 m c
      ∧ r.2.mem ((c : Thread nD τ).loc main_v15_1) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c =>
    ⟨((hr.1 c).1 7).trans (final7 m c (h c)), ((hr.1 c).1 8).trans (final8 m c (h c)), hr.2.1 c⟩)
    (θ_run_and (run_main m ρ) (Cert.Proof.Gla.frame m ρ))

end Cert.KernelIdeal.GK

namespace Cert.ReferenceIdeal.GE

open Cert.ReferenceIdeal Cert.ReferenceIdeal.Gen Cert.ReferenceIdeal.Value

variable (m : (ℓ : Loc nD τ sig) → Buf (Elt Ideal) ℓ)

/-- After the reference's run the two result arrays are the recurrence's and the arguments are unchanged. -/
theorem run_values (ρ : Dev nD → PrngReg) (h : ∀ c, Cert.ReferenceIdeal.GA.RealArgs (args m c)) :
    θ_run (defs (F := Ideal)) (onTc (τ := τ) (main (F := Ideal))) ⟨m, fun _ => 0, ρ⟩ fun r => ∀ c : Dev nD,
      r.2.mem ((c.tc : Thread nD τ).loc main_v88) = (fun (i : S2x4x4096x2048.Idx) => result (args m c) (i 0) (i 1) (i 2) (i 3))
      ∧ r.2.mem ((c.tc : Thread nD τ).loc main_v89) = (fun (i : S2x4x4x256x512.Idx) => sts (args m c) (i 0) (i 1) (i 2) 64 (i 3) (i 4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c =>
    ⟨(hr.1 c main_v88 (by decide)).trans (funext fun (i : S2x4x4096x2048.Idx) =>
        (congrArg (finalContents condOps preI bodyI postI 64 m c (Proc.devRef .tc main_v88)) (eq_ix4 i)).trans (final88 m c (h c) (i 0) (i 1) (i 2) (i 3))),
      (hr.1 c main_v89 (by decide)).trans (funext fun (i : S2x4x4x256x512.Idx) =>
        (congrArg (finalContents condOps preI bodyI postI 64 m c (Proc.devRef .tc main_v89)) (eq_ix5 i)).trans (final89 m c (h c) (i 0) (i 1) (i 2) (i 3) (i 4))),
      hr.2.1 c⟩)
    (θ_run_and (run_fold m ρ) (GV.frame m ρ))

end Cert.ReferenceIdeal.GE

namespace Cert.Proof.GlaClaims

/-- The recurrence kernel and the plain recurrence leave the same two arrays, for real gates. -/
theorem algebraic : Cert.algebraic_KernelIdeal_ReferenceIdeal_pre_finite_gates := fun m ρ m' ρ' hpre hag => by
  have hr : ∀ c, Cert.KernelIdeal.GK.Reals (Cert.KernelIdeal.GK.args m c) := fun c => by
    obtain ⟨h1, h2, h3⟩ := Cert.Pre_finite_gates.Gen.reals _ _ _ _ _ (hpre c)
    exact ⟨fun b t l => h1 _, fun d j l => h2 _, fun d l => h3 _⟩
  have ha : ∀ c, Cert.ReferenceIdeal.GE.args m' c = Cert.KernelIdeal.GK.args m c := fun c => by
    obtain ⟨a0, a1, a2, a3, a4⟩ := hag c
    unfold Cert.ReferenceIdeal.GE.args
    rw [a0, a1, a2, a3, a4]
  refine ⟨fun c => Cert.KernelIdeal.GK.G7 m c, fun c => Cert.KernelIdeal.GK.G8 m c, Cert.KernelIdeal.GK.run_values m ρ hr, ?_⟩
  refine (θ_run _ _ _).mono (fun r h c => ⟨((h c).1).trans ?_, ((h c).2.1).trans ?_, (h c).2.2⟩)
    (Cert.ReferenceIdeal.GE.run_values m' ρ' fun c => by rw [ha c]; exact hr c)
  · rw [ha c]; rfl
  · rw [ha c]; rfl

end Cert.Proof.GlaClaims

end
-- ==== Proof.lean ====
/-
  The claims of the layer's three kernels, each proved in its own modules: `_gla` (GlaFrame, GlaPFrame, GlaRefFrame, GlaClaim),
  `_inproj` (InClaim) and `_merge` (MergeClaim).
-/
module

public import proofs.«01_k».proof.Defs
public import proofs.«01_k».proof.Proof.GlaPFrame
public import proofs.«01_k».proof.Proof.GlaFrame
public import proofs.«01_k».proof.Proof.GlaRefFrame
public import proofs.«01_k».proof.Proof.InClaim
public import proofs.«01_k».proof.Proof.MergeClaim
public import proofs.«01_k».proof.Proof.GlaClaim

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite_gates.Gen.facts, Cert.Pre_finite_inputs.Gen.facts,
  fun m ρ _ => Cert.Proof.GlaPrinted.frame m ρ,
  fun m ρ _ => Cert.Proof.Gla.frame m ρ,
  fun m ρ _ => Cert.Proof.Gla.frame m ρ,
  Cert.Proof.GlaRefFrame.frame_ri,
  fun m ρ _ => Cert.ReferenceIdeal.GV.frame m ρ,
  InClaims.frame_p,
  InClaims.frame_pi,
  fun m ρ _ => Cert.Proof.Inproj.frame m ρ,
  InClaims.frame_ri,
  fun m ρ _ => InClaims.frame_ri m ρ trivial,
  MergeClaims.frame_p,
  MergeClaims.frame_pi,
  MergeClaims.frame_ri,
  trivial,
  GlaClaims.algebraic,
  InClaims.preserves,
  InClaims.algebraic,
  MergeClaims.preserves,
  MergeClaims.algebraic⟩

end Cert.Proof

end
